-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_GateUp (m : (ℓ : Loc Cert.GateUp.nD Cert.GateUp.τ Cert.GateUp.sig) → Buf (Elt Bits) ℓ) : Prop :=
  True

def Pre_GateUpIdeal (m : (ℓ : Loc Cert.GateUpIdeal.nD Cert.GateUpIdeal.τ Cert.GateUpIdeal.sig) → Buf (Elt Ideal) ℓ) : Prop :=
  True

def Pre_GateUpReferenceIdeal (m : (ℓ : Loc Cert.GateUpReferenceIdeal.nD Cert.GateUpReferenceIdeal.τ Cert.GateUpReferenceIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormReferenceIdeal (m : (ℓ : Loc Cert.NormReferenceIdeal.nD Cert.NormReferenceIdeal.τ Cert.NormReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2)
      ∧ r.2.mem ((c.tc : Thread Cert.DownReferenceIdeal.nD Cert.DownReferenceIdeal.τ).loc Cert.DownReferenceIdeal.main_arg3) = m ((c.tc : Thread Cert.DownReferenceIdeal.nD Cert.DownReferenceIdeal.τ).loc Cert.DownReferenceIdeal.main_arg3))
      ∧ r.2.sem = fun _ => 0)

def quiescent_GateUp [hGateUp : Cert.GateUp.Facts] : Prop :=
  ∀ (m : (ℓ : Loc Cert.GateUp.nD Cert.GateUp.τ Cert.GateUp.sig) → Buf (Elt Bits) ℓ) (g : Dev Cert.GateUp.nD → PrngReg), Pre_GateUp m →
    θ_run (Cert.GateUp.defs (F := Bits)) (onTc (τ := Cert.GateUp.τ) (Cert.GateUp.main (F := Bits))) ⟨m, fun _ => 0, g⟩ (fun r => (∀ c : Dev Cert.GateUp.nD,
      r.2.mem ((c.tc : Thread Cert.GateUp.nD Cert.GateUp.τ).loc Cert.GateUp.main_arg0) = m ((c.tc : Thread Cert.GateUp.nD Cert.GateUp.τ).loc Cert.GateUp.main_arg0)
      ∧ r.2.mem ((c.tc : Thread Cert.GateUp.nD Cert.GateUp.τ).loc Cert.GateUp.main_arg1) = m ((c.tc : Thread Cert.GateUp.nD Cert.GateUp.τ).loc Cert.GateUp.main_arg1)
      ∧ r.2.mem ((c.tc : Thread Cert.GateUp.nD Cert.GateUp.τ).loc Cert.GateUp.main_arg2) = m ((c.tc : Thread Cert.GateUp.nD Cert.GateUp.τ).loc Cert.GateUp.main_arg2))
      ∧ r.2.sem = fun _ => 0)

def quiescent_GateUpIdeal [hGateUpIdeal : Cert.GateUpIdeal.Facts] : Prop :=
  ∀ (m : (ℓ : Loc Cert.GateUpIdeal.nD Cert.GateUpIdeal.τ Cert.GateUpIdeal.sig) → Buf (Elt Ideal) ℓ) (g : Dev Cert.GateUpIdeal.nD → PrngReg), Pre_GateUpIdeal m →
    θ_run (Cert.GateUpIdeal.defs (F := Ideal)) (onTc (τ := Cert.GateUpIdeal.τ) (Cert.GateUpIdeal.main (F := Ideal))) ⟨m, fun _ => 0, g⟩ (fun r => (∀ c : Dev Cert.GateUpIdeal.nD,
      r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
      ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
      ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2))
      ∧ r.2.sem = fun _ => 0)

def quiescent_GateUpReferenceIdeal [hGateUpReferenceIdeal : Cert.GateUpReferenceIdeal.Facts] : Prop :=
  ∀ (m : (ℓ : Loc Cert.GateUpReferenceIdeal.nD Cert.GateUpReferenceIdeal.τ Cert.GateUpReferenceIdeal.sig) → Buf (Elt Ideal) ℓ) (g : Dev Cert.GateUpReferenceIdeal.nD → PrngReg), Pre_GateUpReferenceIdeal m →
    θ_run (Cert.GateUpReferenceIdeal.defs (F := Ideal)) (onTc (τ := Cert.GateUpReferenceIdeal.τ) (Cert.GateUpReferenceIdeal.main (F := Ideal))) ⟨m, fun _ => 0, g⟩ (fun r => (∀ c : Dev Cert.GateUpReferenceIdeal.nD,
      r.2.mem ((c.tc : Thread Cert.GateUpReferenceIdeal.nD Cert.GateUpReferenceIdeal.τ).loc Cert.GateUpReferenceIdeal.main_arg0) = m ((c.tc : Thread Cert.GateUpReferenceIdeal.nD Cert.GateUpReferenceIdeal.τ).loc Cert.GateUpReferenceIdeal.main_arg0)
      ∧ r.2.mem ((c.tc : Thread Cert.GateUpReferenceIdeal.nD Cert.GateUpReferenceIdeal.τ).loc Cert.GateUpReferenceIdeal.main_arg1) = m ((c.tc : Thread Cert.GateUpReferenceIdeal.nD Cert.GateUpReferenceIdeal.τ).loc Cert.GateUpReferenceIdeal.main_arg1)
      ∧ r.2.mem ((c.tc : Thread Cert.GateUpReferenceIdeal.nD Cert.GateUpReferenceIdeal.τ).loc Cert.GateUpReferenceIdeal.main_arg2) = m ((c.tc : Thread Cert.GateUpReferenceIdeal.nD Cert.GateUpReferenceIdeal.τ).loc Cert.GateUpReferenceIdeal.main_arg2))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Down_DownIdeal : Prop :=
  True

def algebraic_DownIdeal_DownReferenceIdeal [hDownIdeal : Cert.DownIdeal.Facts] [hDownReferenceIdeal : Cert.DownReferenceIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownIdeal m →
    (∀ c : Dev Cert.DownIdeal.nD,
      m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
      ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)
      ∧ m' ((c.tc : Thread Cert.DownReferenceIdeal.nD Cert.DownReferenceIdeal.τ).loc Cert.DownReferenceIdeal.main_arg2) = m ((c.tc : Thread Cert.DownIdeal.nD Cert.DownIdeal.τ).loc Cert.DownIdeal.main_arg2)
      ∧ m' ((c.tc : Thread Cert.DownReferenceIdeal.nD Cert.DownReferenceIdeal.τ).loc Cert.DownReferenceIdeal.main_arg3) = m ((c.tc : Thread Cert.DownIdeal.nD Cert.DownIdeal.τ).loc Cert.DownIdeal.main_arg3)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v0) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2)
          ∧ r.2.mem ((c.tc : Thread Cert.DownReferenceIdeal.nD Cert.DownReferenceIdeal.τ).loc Cert.DownReferenceIdeal.main_arg3) = m' ((c.tc : Thread Cert.DownReferenceIdeal.nD Cert.DownReferenceIdeal.τ).loc Cert.DownReferenceIdeal.main_arg3))

def preserves_GateUp_GateUpIdeal : Prop :=
  True

def algebraic_GateUpIdeal_GateUpReferenceIdeal [hGateUpIdeal : Cert.GateUpIdeal.Facts] [hGateUpReferenceIdeal : Cert.GateUpReferenceIdeal.Facts] : Prop :=
  ∀ (m : (ℓ : Loc Cert.GateUpIdeal.nD Cert.GateUpIdeal.τ Cert.GateUpIdeal.sig) → Buf (Elt Ideal) ℓ) (g : Dev Cert.GateUpIdeal.nD → PrngReg)
    (m' : (ℓ : Loc Cert.GateUpReferenceIdeal.nD Cert.GateUpReferenceIdeal.τ Cert.GateUpReferenceIdeal.sig) → Buf (Elt Ideal) ℓ) (g' : Dev Cert.GateUpReferenceIdeal.nD → PrngReg), Pre_GateUpIdeal m →
    (∀ c : Dev Cert.GateUpIdeal.nD,
      m' ((c.tc : Thread Cert.GateUpReferenceIdeal.nD Cert.GateUpReferenceIdeal.τ).loc Cert.GateUpReferenceIdeal.main_arg0) = m ((c.tc : Thread Cert.GateUpIdeal.nD Cert.GateUpIdeal.τ).loc Cert.GateUpIdeal.main_arg0)
      ∧ m' ((c.tc : Thread Cert.GateUpReferenceIdeal.nD Cert.GateUpReferenceIdeal.τ).loc Cert.GateUpReferenceIdeal.main_arg1) = m ((c.tc : Thread Cert.GateUpIdeal.nD Cert.GateUpIdeal.τ).loc Cert.GateUpIdeal.main_arg1)
      ∧ m' ((c.tc : Thread Cert.GateUpReferenceIdeal.nD Cert.GateUpReferenceIdeal.τ).loc Cert.GateUpReferenceIdeal.main_arg2) = m ((c.tc : Thread Cert.GateUpIdeal.nD Cert.GateUpIdeal.τ).loc Cert.GateUpIdeal.main_arg2)) →
    ∃ (v0 : (c : Dev Cert.GateUpIdeal.nD) → Buf (Elt Ideal) ((c.tc : Thread Cert.GateUpIdeal.nD Cert.GateUpIdeal.τ).loc Cert.GateUpIdeal.main_v0_0)) (v1 : (c : Dev Cert.GateUpIdeal.nD) → Buf (Elt Ideal) ((c.tc : Thread Cert.GateUpIdeal.nD Cert.GateUpIdeal.τ).loc Cert.GateUpIdeal.main_v0_1)) (v2 : (c : Dev Cert.GateUpIdeal.nD) → Buf (Elt Ideal) ((c.tc : Thread Cert.GateUpIdeal.nD Cert.GateUpIdeal.τ).loc Cert.GateUpIdeal.main_v0_2)),
      θ_run (Cert.GateUpIdeal.defs (F := Ideal)) (onTc (τ := Cert.GateUpIdeal.τ) (Cert.GateUpIdeal.main (F := Ideal))) ⟨m, fun _ => 0, g⟩ (fun r => ∀ c : Dev Cert.GateUpIdeal.nD,
          r.2.mem ((c.tc : Thread Cert.GateUpIdeal.nD Cert.GateUpIdeal.τ).loc Cert.GateUpIdeal.main_v0_0) = v0 c
          ∧ r.2.mem ((c.tc : Thread Cert.GateUpIdeal.nD Cert.GateUpIdeal.τ).loc Cert.GateUpIdeal.main_v0_1) = v1 c
          ∧ r.2.mem ((c.tc : Thread Cert.GateUpIdeal.nD Cert.GateUpIdeal.τ).loc Cert.GateUpIdeal.main_v0_2) = v2 c
          ∧ r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
          ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
          ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2))
      ∧ θ_run (Cert.GateUpReferenceIdeal.defs (F := Ideal)) (onTc (τ := Cert.GateUpReferenceIdeal.τ) (Cert.GateUpReferenceIdeal.main (F := Ideal))) ⟨m', fun _ => 0, g'⟩ (fun r => ∀ c : Dev Cert.GateUpReferenceIdeal.nD,
          r.2.mem ((c.tc : Thread Cert.GateUpReferenceIdeal.nD Cert.GateUpReferenceIdeal.τ).loc Cert.GateUpReferenceIdeal.main_v0_0) = v0 c
          ∧ r.2.mem ((c.tc : Thread Cert.GateUpReferenceIdeal.nD Cert.GateUpReferenceIdeal.τ).loc Cert.GateUpReferenceIdeal.main_v0_1) = v1 c
          ∧ r.2.mem ((c.tc : Thread Cert.GateUpReferenceIdeal.nD Cert.GateUpReferenceIdeal.τ).loc Cert.GateUpReferenceIdeal.main_v0_2) = v2 c
          ∧ r.2.mem ((c.tc : Thread Cert.GateUpReferenceIdeal.nD Cert.GateUpReferenceIdeal.τ).loc Cert.GateUpReferenceIdeal.main_arg0) = m' ((c.tc : Thread Cert.GateUpReferenceIdeal.nD Cert.GateUpReferenceIdeal.τ).loc Cert.GateUpReferenceIdeal.main_arg0)
          ∧ r.2.mem ((c.tc : Thread Cert.GateUpReferenceIdeal.nD Cert.GateUpReferenceIdeal.τ).loc Cert.GateUpReferenceIdeal.main_arg1) = m' ((c.tc : Thread Cert.GateUpReferenceIdeal.nD Cert.GateUpReferenceIdeal.τ).loc Cert.GateUpReferenceIdeal.main_arg1)
          ∧ r.2.mem ((c.tc : Thread Cert.GateUpReferenceIdeal.nD Cert.GateUpReferenceIdeal.τ).loc Cert.GateUpReferenceIdeal.main_arg2) = m' ((c.tc : Thread Cert.GateUpReferenceIdeal.nD Cert.GateUpReferenceIdeal.τ).loc Cert.GateUpReferenceIdeal.main_arg2))

def preserves_Norm_NormIdeal : Prop :=
  True

def algebraic_NormIdeal_NormReferenceIdeal [hNormIdeal : Cert.NormIdeal.Facts] [hNormReferenceIdeal : Cert.NormReferenceIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormIdeal m →
    (∀ c : Dev Cert.NormIdeal.nD,
      m' ((c.tc : Thread Cert.NormReferenceIdeal.nD Cert.NormReferenceIdeal.τ).loc Cert.NormReferenceIdeal.main_arg0) = m ((c.tc : Thread Cert.NormIdeal.nD Cert.NormIdeal.τ).loc Cert.NormIdeal.main_arg0)
      ∧ m' ((c.tc : Thread Cert.NormReferenceIdeal.nD Cert.NormReferenceIdeal.τ).loc Cert.NormReferenceIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v1_0)) (v1 : (c : Dev Cert.NormIdeal.nD) → Buf (Elt Ideal) ((c.tc : Thread Cert.NormIdeal.nD Cert.NormIdeal.τ).loc Cert.NormIdeal.main_v1_1)) (v2 : (c : Dev Cert.NormIdeal.nD) → Buf (Elt Ideal) ((c.tc : Thread Cert.NormIdeal.nD Cert.NormIdeal.τ).loc Cert.NormIdeal.main_v1_2)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1_0) = v0 c
          ∧ r.2.mem ((c.tc : Thread Cert.NormIdeal.nD Cert.NormIdeal.τ).loc Cert.NormIdeal.main_v1_1) = v1 c
          ∧ r.2.mem ((c.tc : Thread Cert.NormIdeal.nD Cert.NormIdeal.τ).loc Cert.NormIdeal.main_v1_2) = v2 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v1_0) = v0 c
          ∧ r.2.mem ((c.tc : Thread Cert.NormReferenceIdeal.nD Cert.NormReferenceIdeal.τ).loc Cert.NormReferenceIdeal.main_v1_1) = v1 c
          ∧ r.2.mem ((c.tc : Thread Cert.NormReferenceIdeal.nD Cert.NormReferenceIdeal.τ).loc Cert.NormReferenceIdeal.main_v1_2) = v2 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1))

def Claim : Prop :=
  ∃ (hKernel : Cert.Kernel.Facts) (hKernelIdeal : Cert.KernelIdeal.Facts) (hReferenceIdeal : Cert.ReferenceIdeal.Facts) (hDown : Cert.Down.Facts) (hDownIdeal : Cert.DownIdeal.Facts) (hDownReferenceIdeal : Cert.DownReferenceIdeal.Facts) (hGateUp : Cert.GateUp.Facts) (hGateUpIdeal : Cert.GateUpIdeal.Facts) (hGateUpReferenceIdeal : Cert.GateUpReferenceIdeal.Facts) (hNorm : Cert.Norm.Facts) (hNormIdeal : Cert.NormIdeal.Facts) (hNormReferenceIdeal : Cert.NormReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Down (hDown := hDown)
    ∧ quiescent_DownIdeal (hDownIdeal := hDownIdeal)
    ∧ quiescent_DownReferenceIdeal (hDownReferenceIdeal := hDownReferenceIdeal)
    ∧ quiescent_GateUp (hGateUp := hGateUp)
    ∧ quiescent_GateUpIdeal (hGateUpIdeal := hGateUpIdeal)
    ∧ quiescent_GateUpReferenceIdeal (hGateUpReferenceIdeal := hGateUpReferenceIdeal)
    ∧ quiescent_Norm (hNorm := hNorm)
    ∧ quiescent_NormIdeal (hNormIdeal := hNormIdeal)
    ∧ quiescent_NormReferenceIdeal (hNormReferenceIdeal := hNormReferenceIdeal)
    ∧ preserves_Kernel_KernelIdeal
    ∧ algebraic_KernelIdeal_ReferenceIdeal (hKernelIdeal := hKernelIdeal) (hReferenceIdeal := hReferenceIdeal)
    ∧ preserves_Down_DownIdeal
    ∧ algebraic_DownIdeal_DownReferenceIdeal (hDownIdeal := hDownIdeal) (hDownReferenceIdeal := hDownReferenceIdeal)
    ∧ preserves_GateUp_GateUpIdeal
    ∧ algebraic_GateUpIdeal_GateUpReferenceIdeal (hGateUpIdeal := hGateUpIdeal) (hGateUpReferenceIdeal := hGateUpReferenceIdeal)
    ∧ preserves_Norm_NormIdeal
    ∧ algebraic_NormIdeal_NormReferenceIdeal (hNormIdeal := hNormIdeal) (hNormReferenceIdeal := hNormReferenceIdeal)
-- ==== Kernel.lean ====
abbrev S8192x5120 : Shape := ⟨2, ![8192, 5120]⟩
abbrev S5120x10752 : Shape := ⟨2, ![5120, 10752]⟩
abbrev S40x84 : Shape := ⟨2, ![40, 84]⟩
abbrev S8192x1792 : Shape := ⟨2, ![8192, 1792]⟩
abbrev S1024x5120 : Shape := ⟨2, ![1024, 5120]⟩
abbrev S5120x256 : Shape := ⟨2, ![5120, 256]⟩
abbrev S1024x256 : Shape := ⟨2, ![1024, 256]⟩
abbrev S1x1 : Shape := ⟨2, ![1, 1]⟩
abbrev S128x128 : Shape := ⟨2, ![128, 128]⟩

abbrev nBuf : Space → Nat
  | .hbm => 4
  | .vmem => 7
  | .smem => 1
  | _ => 0

abbrev bufTy : (tb : Table) → Fin (tcTables nBuf tb) → BufTy
  | .hbm, ⟨0, _⟩ => ⟨S8192x5120, .bf16⟩
  | .hbm, ⟨1, _⟩ => ⟨S5120x10752, .fp8e4m3⟩
  | .hbm, ⟨2, _⟩ => ⟨S40x84, .f32⟩
  | .hbm, ⟨3, _⟩ => ⟨S8192x1792, .bf16⟩
  | .local _ .vmem, ⟨0, _⟩ => ⟨S1024x5120, .bf16⟩
  | .local _ .vmem, ⟨1, _⟩ => ⟨S1024x5120, .bf16⟩
  | .local _ .vmem, ⟨2, _⟩ => ⟨S5120x256, .fp8e4m3⟩
  | .local _ .vmem, ⟨3, _⟩ => ⟨S5120x256, .fp8e4m3⟩
  | .local _ .vmem, ⟨4, _⟩ => ⟨S1024x256, .bf16⟩
  | .local _ .vmem, ⟨5, _⟩ => ⟨S1024x256, .bf16⟩
  | .local _ .vmem, ⟨6, _⟩ => ⟨S5120x256, .bf16⟩
  | .local _ .smem, ⟨0, _⟩ => ⟨S40x84, .f32⟩
  | _, _ => ⟨S8192x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_stg2_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![7, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_off1 (i : grid0.Coords) (c0_i32_6 : BitVec 32) : Fin 2 → Nat :=
  let c0_7 : Index := 0#32
  let arg0 : BitVec 32 := BitVec.ofNat 32 (i 0).val
  let c2_i32 : BitVec 32 := 2#32
  let v8 : BitVec 32 := Scalar.muli arg0 c2_i32
  let v9 : BitVec 32 := Scalar.addi v8 c0_i32_6
  let v10 : Index := Scalar.indexCast v9
  ![0, v10.toNat]
def k0_off2 (i : grid0.Coords) (c0_i32_16 : BitVec 32) : Fin 2 → Nat :=
  let c1 : Index := 1#32
  let arg0 : BitVec 32 := BitVec.ofNat 32 (i 0).val
  let c2_i32 : BitVec 32 := 2#32
  let v8 : BitVec 32 := Scalar.muli arg0 c2_i32
  let v31 : BitVec 32 := Scalar.addi v8 c0_i32_16
  let v32 : Index := Scalar.indexCast v31
  ![1, v32.toNat]
def k0_off3 (i : grid0.Coords) (c0_i32_27 : BitVec 32) : Fin 2 → Nat :=
  let c2 : Index := 2#32
  let arg0 : BitVec 32 := BitVec.ofNat 32 (i 0).val
  let c2_i32 : BitVec 32 := 2#32
  let v8 : BitVec 32 := Scalar.muli arg0 c2_i32
  let v53 : BitVec 32 := Scalar.addi v8 c0_i32_27
  let v54 : Index := Scalar.indexCast v53
  ![2, v54.toNat]
def k0_off4 (i : grid0.Coords) (c0_i32_37 : BitVec 32) : Fin 2 → Nat :=
  let c3 : Index := 3#32
  let arg0 : BitVec 32 := BitVec.ofNat 32 (i 0).val
  let c2_i32 : BitVec 32 := 2#32
  let v8 : BitVec 32 := Scalar.muli arg0 c2_i32
  let v75 : BitVec 32 := Scalar.addi v8 c0_i32_37
  let v76 : Index := Scalar.indexCast v75
  ![3, v76.toNat]
def k0_off5 (i : grid0.Coords) (c0_i32_47 : BitVec 32) : Fin 2 → Nat :=
  let c4 : Index := 4#32
  let arg0 : BitVec 32 := BitVec.ofNat 32 (i 0).val
  let c2_i32 : BitVec 32 := 2#32
  let v8 : BitVec 32 := Scalar.muli arg0 c2_i32
  let v97 : BitVec 32 := Scalar.addi v8 c0_i32_47
  let v98 : Index := Scalar.indexCast v97
  ![4, v98.toNat]
def k0_off6 (i : grid0.Coords) (c0_i32_57 : BitVec 32) : Fin 2 → Nat :=
  let c5 : Index := 5#32
  let arg0 : BitVec 32 := BitVec.ofNat 32 (i 0).val
  let c2_i32 : BitVec 32 := 2#32
  let v8 : BitVec 32 := Scalar.muli arg0 c2_i32
  let v119 : BitVec 32 := Scalar.addi v8 c0_i32_57
  let v120 : Index := Scalar.indexCast v119
  ![5, v120.toNat]
def k0_off7 (i : grid0.Coords) (c0_i32_67 : BitVec 32) : Fin 2 → Nat :=
  let c6 : Index := 6#32
  let arg0 : BitVec 32 := BitVec.ofNat 32 (i 0).val
  let c2_i32 : BitVec 32 := 2#32
  let v8 : BitVec 32 := Scalar.muli arg0 c2_i32
  let v141 : BitVec 32 := Scalar.addi v8 c0_i32_67
  let v142 : Index := Scalar.indexCast v141
  ![6, v142.toNat]
def k0_off8 (i : grid0.Coords) (c0_i32_77 : BitVec 32) : Fin 2 → Nat :=
  let c7 : Index := 7#32
  let arg0 : BitVec 32 := BitVec.ofNat 32 (i 0).val
  let c2_i32 : BitVec 32 := 2#32
  let v8 : BitVec 32 := Scalar.muli arg0 c2_i32
  let v163 : BitVec 32 := Scalar.addi v8 c0_i32_77
  let v164 : Index := Scalar.indexCast v163
  ![7, v164.toNat]
def k0_off9 (i : grid0.Coords) (c0_i32_87 : BitVec 32) : Fin 2 → Nat :=
  let c8 : Index := 8#32
  let arg0 : BitVec 32 := BitVec.ofNat 32 (i 0).val
  let c2_i32 : BitVec 32 := 2#32
  let v8 : BitVec 32 := Scalar.muli arg0 c2_i32
  let v185 : BitVec 32 := Scalar.addi v8 c0_i32_87
  let v186 : Index := Scalar.indexCast v185
  ![8, v186.toNat]
def k0_off10 (i : grid0.Coords) (c0_i32_97 : BitVec 32) : Fin 2 → Nat :=
  let c9 : Index := 9#32
  let arg0 : BitVec 32 := BitVec.ofNat 32 (i 0).val
  let c2_i32 : BitVec 32 := 2#32
  let v8 : BitVec 32 := Scalar.muli arg0 c2_i32
  let v207 : BitVec 32 := Scalar.addi v8 c0_i32_97
  let v208 : Index := Scalar.indexCast v207
  ![9, v208.toNat]
def k0_off11 (i : grid0.Coords) (c0_i32_107 : BitVec 32) : Fin 2 → Nat :=
  let c10 : Index := 10#32
  let arg0 : BitVec 32 := BitVec.ofNat 32 (i 0).val
  let c2_i32 : BitVec 32 := 2#32
  let v8 : BitVec 32 := Scalar.muli arg0 c2_i32
  let v229 : BitVec 32 := Scalar.addi v8 c0_i32_107
  let v230 : Index := Scalar.indexCast v229
  ![10, v230.toNat]
def k0_off12 (i : grid0.Coords) (c0_i32_117 : BitVec 32) : Fin 2 → Nat :=
  let c11 : Index := 11#32
  let arg0 : BitVec 32 := BitVec.ofNat 32 (i 0).val
  let c2_i32 : BitVec 32 := 2#32
  let v8 : BitVec 32 := Scalar.muli arg0 c2_i32
  let v251 : BitVec 32 := Scalar.addi v8 c0_i32_117
  let v252 : Index := Scalar.indexCast v251
  ![11, v252.toNat]
def k0_off13 (i : grid0.Coords) (c0_i32_127 : BitVec 32) : Fin 2 → Nat :=
  let c12 : Index := 12#32
  let arg0 : BitVec 32 := BitVec.ofNat 32 (i 0).val
  let c2_i32 : BitVec 32 := 2#32
  let v8 : BitVec 32 := Scalar.muli arg0 c2_i32
  let v273 : BitVec 32 := Scalar.addi v8 c0_i32_127
  let v274 : Index := Scalar.indexCast v273
  ![12, v274.toNat]
def k0_off14 (i : grid0.Coords) (c0_i32_137 : BitVec 32) : Fin 2 → Nat :=
  let c13 : Index := 13#32
  let arg0 : BitVec 32 := BitVec.ofNat 32 (i 0).val
  let c2_i32 : BitVec 32 := 2#32
  let v8 : BitVec 32 := Scalar.muli arg0 c2_i32
  let v295 : BitVec 32 := Scalar.addi v8 c0_i32_137
  let v296 : Index := Scalar.indexCast v295
  ![13, v296.toNat]
def k0_off15 (i : grid0.Coords) (c0_i32_147 : BitVec 32) : Fin 2 → Nat :=
  let c14 : Index := 14#32
  let arg0 : BitVec 32 := BitVec.ofNat 32 (i 0).val
  let c2_i32 : BitVec 32 := 2#32
  let v8 : BitVec 32 := Scalar.muli arg0 c2_i32
  let v317 : BitVec 32 := Scalar.addi v8 c0_i32_147
  let v318 : Index := Scalar.indexCast v317
  ![14, v318.toNat]
def k0_off16 (i : grid0.Coords) (c0_i32_157 : BitVec 32) : Fin 2 → Nat :=
  let c15 : Index := 15#32
  let arg0 : BitVec 32 := BitVec.ofNat 32 (i 0).val
  let c2_i32 : BitVec 32 := 2#32
  let v8 : BitVec 32 := Scalar.muli arg0 c2_i32
  let v339 : BitVec 32 := Scalar.addi v8 c0_i32_157
  let v340 : Index := Scalar.indexCast v339
  ![15, v340.toNat]
def k0_off17 (i : grid0.Coords) (c0_i32_167 : BitVec 32) : Fin 2 → Nat :=
  let c16 : Index := 16#32
  let arg0 : BitVec 32 := BitVec.ofNat 32 (i 0).val
  let c2_i32 : BitVec 32 := 2#32
  let v8 : BitVec 32 := Scalar.muli arg0 c2_i32
  let v361 : BitVec 32 := Scalar.addi v8 c0_i32_167
  let v362 : Index := Scalar.indexCast v361
  ![16, v362.toNat]
def k0_off18 (i : grid0.Coords) (c0_i32_177 : BitVec 32) : Fin 2 → Nat :=
  let c17 : Index := 17#32
  let arg0 : BitVec 32 := BitVec.ofNat 32 (i 0).val
  let c2_i32 : BitVec 32 := 2#32
  let v8 : BitVec 32 := Scalar.muli arg0 c2_i32
  let v383 : BitVec 32 := Scalar.addi v8 c0_i32_177
  let v384 : Index := Scalar.indexCast v383
  ![17, v384.toNat]
def k0_off19 (i : grid0.Coords) (c0_i32_187 : BitVec 32) : Fin 2 → Nat :=
  let c18 : Index := 18#32
  let arg0 : BitVec 32 := BitVec.ofNat 32 (i 0).val
  let c2_i32 : BitVec 32 := 2#32
  let v8 : BitVec 32 := Scalar.muli arg0 c2_i32
  let v405 : BitVec 32 := Scalar.addi v8 c0_i32_187
  let v406 : Index := Scalar.indexCast v405
  ![18, v406.toNat]
def k0_off20 (i : grid0.Coords) (c0_i32_197 : BitVec 32) : Fin 2 → Nat :=
  let c19 : Index := 19#32
  let arg0 : BitVec 32 := BitVec.ofNat 32 (i 0).val
  let c2_i32 : BitVec 32 := 2#32
  let v8 : BitVec 32 := Scalar.muli arg0 c2_i32
  let v427 : BitVec 32 := Scalar.addi v8 c0_i32_197
  let v428 : Index := Scalar.indexCast v427
  ![19, v428.toNat]
def k0_off21 (i : grid0.Coords) (c0_i32_207 : BitVec 32) : Fin 2 → Nat :=
  let c20 : Index := 20#32
  let arg0 : BitVec 32 := BitVec.ofNat 32 (i 0).val
  let c2_i32 : BitVec 32 := 2#32
  let v8 : BitVec 32 := Scalar.muli arg0 c2_i32
  let v449 : BitVec 32 := Scalar.addi v8 c0_i32_207
  let v450 : Index := Scalar.indexCast v449
  ![20, v450.toNat]
def k0_off22 (i : grid0.Coords) (c0_i32_217 : BitVec 32) : Fin 2 → Nat :=
  let c21 : Index := 21#32
  let arg0 : BitVec 32 := BitVec.ofNat 32 (i 0).val
  let c2_i32 : BitVec 32 := 2#32
  let v8 : BitVec 32 := Scalar.muli arg0 c2_i32
  let v471 : BitVec 32 := Scalar.addi v8 c0_i32_217
  let v472 : Index := Scalar.indexCast v471
  ![21, v472.toNat]
def k0_off23 (i : grid0.Coords) (c0_i32_227 : BitVec 32) : Fin 2 → Nat :=
  let c22 : Index := 22#32
  let arg0 : BitVec 32 := BitVec.ofNat 32 (i 0).val
  let c2_i32 : BitVec 32 := 2#32
  let v8 : BitVec 32 := Scalar.muli arg0 c2_i32
  let v493 : BitVec 32 := Scalar.addi v8 c0_i32_227
  let v494 : Index := Scalar.indexCast v493
  ![22, v494.toNat]
def k0_off24 (i : grid0.Coords) (c0_i32_237 : BitVec 32) : Fin 2 → Nat :=
  let c23 : Index := 23#32
  let arg0 : BitVec 32 := BitVec.ofNat 32 (i 0).val
  let c2_i32 : BitVec 32 := 2#32
  let v8 : BitVec 32 := Scalar.muli arg0 c2_i32
  let v515 : BitVec 32 := Scalar.addi v8 c0_i32_237
  let v516 : Index := Scalar.indexCast v515
  ![23, v516.toNat]
def k0_off25 (i : grid0.Coords) (c0_i32_247 : BitVec 32) : Fin 2 → Nat :=
  let c24 : Index := 24#32
  let arg0 : BitVec 32 := BitVec.ofNat 32 (i 0).val
  let c2_i32 : BitVec 32 := 2#32
  let v8 : BitVec 32 := Scalar.muli arg0 c2_i32
  let v537 : BitVec 32 := Scalar.addi v8 c0_i32_247
  let v538 : Index := Scalar.indexCast v537
  ![24, v538.toNat]
def k0_off26 (i : grid0.Coords) (c0_i32_257 : BitVec 32) : Fin 2 → Nat :=
  let c25 : Index := 25#32
  let arg0 : BitVec 32 := BitVec.ofNat 32 (i 0).val
  let c2_i32 : BitVec 32 := 2#32
  let v8 : BitVec 32 := Scalar.muli arg0 c2_i32
  let v559 : BitVec 32 := Scalar.addi v8 c0_i32_257
  let v560 : Index := Scalar.indexCast v559
  ![25, v560.toNat]
def k0_off27 (i : grid0.Coords) (c0_i32_267 : BitVec 32) : Fin 2 → Nat :=
  let c26 : Index := 26#32
  let arg0 : BitVec 32 := BitVec.ofNat 32 (i 0).val
  let c2_i32 : BitVec 32 := 2#32
  let v8 : BitVec 32 := Scalar.muli arg0 c2_i32
  let v581 : BitVec 32 := Scalar.addi v8 c0_i32_267
  let v582 : Index := Scalar.indexCast v581
  ![26, v582.toNat]
def k0_off28 (i : grid0.Coords) (c0_i32_277 : BitVec 32) : Fin 2 → Nat :=
  let c27 : Index := 27#32
  let arg0 : BitVec 32 := BitVec.ofNat 32 (i 0).val
  let c2_i32 : BitVec 32 := 2#32
  let v8 : BitVec 32 := Scalar.muli arg0 c2_i32
  let v603 : BitVec 32 := Scalar.addi v8 c0_i32_277
  let v604 : Index := Scalar.indexCast v603
  ![27, v604.toNat]
def k0_off29 (i : grid0.Coords) (c0_i32_287 : BitVec 32) : Fin 2 → Nat :=
  let c28 : Index := 28#32
  let arg0 : BitVec 32 := BitVec.ofNat 32 (i 0).val
  let c2_i32 : BitVec 32 := 2#32
  let v8 : BitVec 32 := Scalar.muli arg0 c2_i32
  let v625 : BitVec 32 := Scalar.addi v8 c0_i32_287
  let v626 : Index := Scalar.indexCast v625
  ![28, v626.toNat]
def k0_off30 (i : grid0.Coords) (c0_i32_297 : BitVec 32) : Fin 2 → Nat :=
  let c29 : Index := 29#32
  let arg0 : BitVec 32 := BitVec.ofNat 32 (i 0).val
  let c2_i32 : BitVec 32 := 2#32
  let v8 : BitVec 32 := Scalar.muli arg0 c2_i32
  let v647 : BitVec 32 := Scalar.addi v8 c0_i32_297
  let v648 : Index := Scalar.indexCast v647
  ![29, v648.toNat]
def k0_off31 (i : grid0.Coords) (c0_i32_307 : BitVec 32) : Fin 2 → Nat :=
  let c30 : Index := 30#32
  let arg0 : BitVec 32 := BitVec.ofNat 32 (i 0).val
  let c2_i32 : BitVec 32 := 2#32
  let v8 : BitVec 32 := Scalar.muli arg0 c2_i32
  let v669 : BitVec 32 := Scalar.addi v8 c0_i32_307
  let v670 : Index := Scalar.indexCast v669
  ![30, v670.toNat]
def k0_off32 (i : grid0.Coords) (c0_i32_317 : BitVec 32) : Fin 2 → Nat :=
  let c31 : Index := 31#32
  let arg0 : BitVec 32 := BitVec.ofNat 32 (i 0).val
  let c2_i32 : BitVec 32 := 2#32
  let v8 : BitVec 32 := Scalar.muli arg0 c2_i32
  let v691 : BitVec 32 := Scalar.addi v8 c0_i32_317
  let v692 : Index := Scalar.indexCast v691
  ![31, v692.toNat]
def k0_off33 (i : grid0.Coords) (c0_i32_327 : BitVec 32) : Fin 2 → Nat :=
  let c32 : Index := 32#32
  let arg0 : BitVec 32 := BitVec.ofNat 32 (i 0).val
  let c2_i32 : BitVec 32 := 2#32
  let v8 : BitVec 32 := Scalar.muli arg0 c2_i32
  let v713 : BitVec 32 := Scalar.addi v8 c0_i32_327
  let v714 : Index := Scalar.indexCast v713
  ![32, v714.toNat]
def k0_off34 (i : grid0.Coords) (c0_i32_337 : BitVec 32) : Fin 2 → Nat :=
  let c33 : Index := 33#32
  let arg0 : BitVec 32 := BitVec.ofNat 32 (i 0).val
  let c2_i32 : BitVec 32 := 2#32
  let v8 : BitVec 32 := Scalar.muli arg0 c2_i32
  let v735 : BitVec 32 := Scalar.addi v8 c0_i32_337
  let v736 : Index := Scalar.indexCast v735
  ![33, v736.toNat]
def k0_off35 (i : grid0.Coords) (c0_i32_347 : BitVec 32) : Fin 2 → Nat :=
  let c34 : Index := 34#32
  let arg0 : BitVec 32 := BitVec.ofNat 32 (i 0).val
  let c2_i32 : BitVec 32 := 2#32
  let v8 : BitVec 32 := Scalar.muli arg0 c2_i32
  let v757 : BitVec 32 := Scalar.addi v8 c0_i32_347
  let v758 : Index := Scalar.indexCast v757
  ![34, v758.toNat]
def k0_off36 (i : grid0.Coords) (c0_i32_357 : BitVec 32) : Fin 2 → Nat :=
  let c35 : Index := 35#32
  let arg0 : BitVec 32 := BitVec.ofNat 32 (i 0).val
  let c2_i32 : BitVec 32 := 2#32
  let v8 : BitVec 32 := Scalar.muli arg0 c2_i32
  let v779 : BitVec 32 := Scalar.addi v8 c0_i32_357
  let v780 : Index := Scalar.indexCast v779
  ![35, v780.toNat]
def k0_off37 (i : grid0.Coords) (c0_i32_367 : BitVec 32) : Fin 2 → Nat :=
  let c36 : Index := 36#32
  let arg0 : BitVec 32 := BitVec.ofNat 32 (i 0).val
  let c2_i32 : BitVec 32 := 2#32
  let v8 : BitVec 32 := Scalar.muli arg0 c2_i32
  let v801 : BitVec 32 := Scalar.addi v8 c0_i32_367
  let v802 : Index := Scalar.indexCast v801
  ![36, v802.toNat]
def k0_off38 (i : grid0.Coords) (c0_i32_377 : BitVec 32) : Fin 2 → Nat :=
  let c37 : Index := 37#32
  let arg0 : BitVec 32 := BitVec.ofNat 32 (i 0).val
  let c2_i32 : BitVec 32 := 2#32
  let v8 : BitVec 32 := Scalar.muli arg0 c2_i32
  let v823 : BitVec 32 := Scalar.addi v8 c0_i32_377
  let v824 : Index := Scalar.indexCast v823
  ![37, v824.toNat]
def k0_off39 (i : grid0.Coords) (c0_i32_387 : BitVec 32) : Fin 2 → Nat :=
  let c38 : Index := 38#32
  let arg0 : BitVec 32 := BitVec.ofNat 32 (i 0).val
  let c2_i32 : BitVec 32 := 2#32
  let v8 : BitVec 32 := Scalar.muli arg0 c2_i32
  let v845 : BitVec 32 := Scalar.addi v8 c0_i32_387
  let v846 : Index := Scalar.indexCast v845
  ![38, v846.toNat]
def k0_off40 (i : grid0.Coords) (c0_i32_397 : BitVec 32) : Fin 2 → Nat :=
  let c39 : Index := 39#32
  let arg0 : BitVec 32 := BitVec.ofNat 32 (i 0).val
  let c2_i32 : BitVec 32 := 2#32
  let v8 : BitVec 32 := Scalar.muli arg0 c2_i32
  let v867 : BitVec 32 := Scalar.addi v8 c0_i32_397
  let v868 : Index := Scalar.indexCast v867
  ![39, v868.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S5120x256 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .smem S40x84 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S8192x5120 : Shape := ⟨2, ![8192, 5120]⟩
abbrev S5120x10752 : Shape := ⟨2, ![5120, 10752]⟩
abbrev S40x84 : Shape := ⟨2, ![40, 84]⟩
abbrev S8192x1792 : Shape := ⟨2, ![8192, 1792]⟩
abbrev S40x128x84x128 : Shape := ⟨4, ![40, 128, 84, 128]⟩
abbrev S40x1x84x1 : Shape := ⟨4, ![40, 1, 84, 1]⟩
abbrev S5120x1792 : Shape := ⟨2, ![5120, 1792]⟩

abbrev nBuf : Space → Nat
  | .hbm => 4
  | .vmem => 4
  | .smem => 0
  | _ => 0

abbrev bufTy : (tb : Table) → Fin (tcTables nBuf tb) → BufTy
  | .hbm, ⟨0, _⟩ => ⟨S8192x5120, .bf16⟩
  | .hbm, ⟨1, _⟩ => ⟨S5120x10752, .fp8e4m3⟩
  | .hbm, ⟨2, _⟩ => ⟨S40x84, .f32⟩
  | .hbm, ⟨3, _⟩ => ⟨S8192x1792, .bf16⟩
  | .local _ .vmem, ⟨0, _⟩ => ⟨S8192x5120, .bf16⟩
  | .local _ .vmem, ⟨1, _⟩ => ⟨S5120x10752, .fp8e4m3⟩
  | .local _ .vmem, ⟨2, _⟩ => ⟨S40x84, .f32⟩
  | .local _ .vmem, ⟨3, _⟩ => ⟨S8192x1792, .bf16⟩
  | _, _ => ⟨S8192x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S8192x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5120x10752 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S40x84 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8192x1792 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Down.lean ====
abbrev S8192x4480 : Shape := ⟨2, ![8192, 4480]⟩
abbrev S4480x5120 : Shape := ⟨2, ![4480, 5120]⟩
abbrev S35x40 : Shape := ⟨2, ![35, 40]⟩
abbrev S8192x5120 : Shape := ⟨2, ![8192, 5120]⟩
abbrev S1024x4480 : Shape := ⟨2, ![1024, 4480]⟩
abbrev S4480x256 : Shape := ⟨2, ![4480, 256]⟩
abbrev S1024x256 : Shape := ⟨2, ![1024, 256]⟩
abbrev S1x1 : Shape := ⟨2, ![1, 1]⟩
abbrev S128x128 : Shape := ⟨2, ![128, 128]⟩

abbrev nBuf : Space → Nat
  | .hbm => 5
  | .vmem => 9
  | .smem => 1
  | _ => 0

abbrev bufTy : (tb : Table) → Fin (tcTables nBuf tb) → BufTy
  | .hbm, ⟨0, _⟩ => ⟨S8192x4480, .bf16⟩
  | .hbm, ⟨1, _⟩ => ⟨S4480x5120, .fp8e4m3⟩
  | .hbm, ⟨2, _⟩ => ⟨S35x40, .f32⟩
  | .hbm, ⟨3, _⟩ => ⟨S8192x5120, .bf16⟩
  | .hbm, ⟨4, _⟩ => ⟨S8192x5120, .bf16⟩
  | .local _ .vmem, ⟨0, _⟩ => ⟨S1024x4480, .bf16⟩
  | .local _ .vmem, ⟨1, _⟩ => ⟨S1024x4480, .bf16⟩
  | .local _ .vmem, ⟨2, _⟩ => ⟨S4480x256, .fp8e4m3⟩
  | .local _ .vmem, ⟨3, _⟩ => ⟨S4480x256, .fp8e4m3⟩
  | .local _ .vmem, ⟨4, _⟩ => ⟨S1024x256, .bf16⟩
  | .local _ .vmem, ⟨5, _⟩ => ⟨S1024x256, .bf16⟩
  | .local _ .vmem, ⟨6, _⟩ => ⟨S1024x256, .bf16⟩
  | .local _ .vmem, ⟨7, _⟩ => ⟨S1024x256, .bf16⟩
  | .local _ .vmem, ⟨8, _⟩ => ⟨S4480x256, .bf16⟩
  | .local _ .smem, ⟨0, _⟩ => ⟨S35x40, .f32⟩
  | _, _ => ⟨S8192x4480, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_stg2_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![20, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_off1 (i : grid0.Coords) (c0_i32_8 : BitVec 32) : Fin 2 → Nat :=
  let c0_9 : Index := 0#32
  let arg0 : BitVec 32 := BitVec.ofNat 32 (i 0).val
  let c2_i32 : BitVec 32 := 2#32
  let v11 : BitVec 32 := Scalar.muli arg0 c2_i32
  let v12 : BitVec 32 := Scalar.addi v11 c0_i32_8
  let v13 : Index := Scalar.indexCast v12
  ![0, v13.toNat]
def k0_off2 (i : grid0.Coords) (c0_i32_18 : BitVec 32) : Fin 2 → Nat :=
  let c1 : Index := 1#32
  let arg0 : BitVec 32 := BitVec.ofNat 32 (i 0).val
  let c2_i32 : BitVec 32 := 2#32
  let v11 : BitVec 32 := Scalar.muli arg0 c2_i32
  let v34 : BitVec 32 := Scalar.addi v11 c0_i32_18
  let v35 : Index := Scalar.indexCast v34
  ![1, v35.toNat]
def k0_off3 (i : grid0.Coords) (c0_i32_29 : BitVec 32) : Fin 2 → Nat :=
  let c2 : Index := 2#32
  let arg0 : BitVec 32 := BitVec.ofNat 32 (i 0).val
  let c2_i32 : BitVec 32 := 2#32
  let v11 : BitVec 32 := Scalar.muli arg0 c2_i32
  let v56 : BitVec 32 := Scalar.addi v11 c0_i32_29
  let v57 : Index := Scalar.indexCast v56
  ![2, v57.toNat]
def k0_off4 (i : grid0.Coords) (c0_i32_39 : BitVec 32) : Fin 2 → Nat :=
  let c3 : Index := 3#32
  let arg0 : BitVec 32 := BitVec.ofNat 32 (i 0).val
  let c2_i32 : BitVec 32 := 2#32
  let v11 : BitVec 32 := Scalar.muli arg0 c2_i32
  let v78 : BitVec 32 := Scalar.addi v11 c0_i32_39
  let v79 : Index := Scalar.indexCast v78
  ![3, v79.toNat]
def k0_off5 (i : grid0.Coords) (c0_i32_49 : BitVec 32) : Fin 2 → Nat :=
  let c4 : Index := 4#32
  let arg0 : BitVec 32 := BitVec.ofNat 32 (i 0).val
  let c2_i32 : BitVec 32 := 2#32
  let v11 : BitVec 32 := Scalar.muli arg0 c2_i32
  let v100 : BitVec 32 := Scalar.addi v11 c0_i32_49
  let v101 : Index := Scalar.indexCast v100
  ![4, v101.toNat]
def k0_off6 (i : grid0.Coords) (c0_i32_59 : BitVec 32) : Fin 2 → Nat :=
  let c5 : Index := 5#32
  let arg0 : BitVec 32 := BitVec.ofNat 32 (i 0).val
  let c2_i32 : BitVec 32 := 2#32
  let v11 : BitVec 32 := Scalar.muli arg0 c2_i32
  let v122 : BitVec 32 := Scalar.addi v11 c0_i32_59
  let v123 : Index := Scalar.indexCast v122
  ![5, v123.toNat]
def k0_off7 (i : grid0.Coords) (c0_i32_69 : BitVec 32) : Fin 2 → Nat :=
  let c6 : Index := 6#32
  let arg0 : BitVec 32 := BitVec.ofNat 32 (i 0).val
  let c2_i32 : BitVec 32 := 2#32
  let v11 : BitVec 32 := Scalar.muli arg0 c2_i32
  let v144 : BitVec 32 := Scalar.addi v11 c0_i32_69
  let v145 : Index := Scalar.indexCast v144
  ![6, v145.toNat]
def k0_off8 (i : grid0.Coords) (c0_i32_79 : BitVec 32) : Fin 2 → Nat :=
  let c7 : Index := 7#32
  let arg0 : BitVec 32 := BitVec.ofNat 32 (i 0).val
  let c2_i32 : BitVec 32 := 2#32
  let v11 : BitVec 32 := Scalar.muli arg0 c2_i32
  let v166 : BitVec 32 := Scalar.addi v11 c0_i32_79
  let v167 : Index := Scalar.indexCast v166
  ![7, v167.toNat]
def k0_off9 (i : grid0.Coords) (c0_i32_89 : BitVec 32) : Fin 2 → Nat :=
  let c8 : Index := 8#32
  let arg0 : BitVec 32 := BitVec.ofNat 32 (i 0).val
  let c2_i32 : BitVec 32 := 2#32
  let v11 : BitVec 32 := Scalar.muli arg0 c2_i32
  let v188 : BitVec 32 := Scalar.addi v11 c0_i32_89
  let v189 : Index := Scalar.indexCast v188
  ![8, v189.toNat]
def k0_off10 (i : grid0.Coords) (c0_i32_99 : BitVec 32) : Fin 2 → Nat :=
  let c9 : Index := 9#32
  let arg0 : BitVec 32 := BitVec.ofNat 32 (i 0).val
  let c2_i32 : BitVec 32 := 2#32
  let v11 : BitVec 32 := Scalar.muli arg0 c2_i32
  let v210 : BitVec 32 := Scalar.addi v11 c0_i32_99
  let v211 : Index := Scalar.indexCast v210
  ![9, v211.toNat]
def k0_off11 (i : grid0.Coords) (c0_i32_109 : BitVec 32) : Fin 2 → Nat :=
  let c10 : Index := 10#32
  let arg0 : BitVec 32 := BitVec.ofNat 32 (i 0).val
  let c2_i32 : BitVec 32 := 2#32
  let v11 : BitVec 32 := Scalar.muli arg0 c2_i32
  let v232 : BitVec 32 := Scalar.addi v11 c0_i32_109
  let v233 : Index := Scalar.indexCast v232
  ![10, v233.toNat]
def k0_off12 (i : grid0.Coords) (c0_i32_119 : BitVec 32) : Fin 2 → Nat :=
  let c11 : Index := 11#32
  let arg0 : BitVec 32 := BitVec.ofNat 32 (i 0).val
  let c2_i32 : BitVec 32 := 2#32
  let v11 : BitVec 32 := Scalar.muli arg0 c2_i32
  let v254 : BitVec 32 := Scalar.addi v11 c0_i32_119
  let v255 : Index := Scalar.indexCast v254
  ![11, v255.toNat]
def k0_off13 (i : grid0.Coords) (c0_i32_129 : BitVec 32) : Fin 2 → Nat :=
  let c12 : Index := 12#32
  let arg0 : BitVec 32 := BitVec.ofNat 32 (i 0).val
  let c2_i32 : BitVec 32 := 2#32
  let v11 : BitVec 32 := Scalar.muli arg0 c2_i32
  let v276 : BitVec 32 := Scalar.addi v11 c0_i32_129
  let v277 : Index := Scalar.indexCast v276
  ![12, v277.toNat]
def k0_off14 (i : grid0.Coords) (c0_i32_139 : BitVec 32) : Fin 2 → Nat :=
  let c13 : Index := 13#32
  let arg0 : BitVec 32 := BitVec.ofNat 32 (i 0).val
  let c2_i32 : BitVec 32 := 2#32
  let v11 : BitVec 32 := Scalar.muli arg0 c2_i32
  let v298 : BitVec 32 := Scalar.addi v11 c0_i32_139
  let v299 : Index := Scalar.indexCast v298
  ![13, v299.toNat]
def k0_off15 (i : grid0.Coords) (c0_i32_149 : BitVec 32) : Fin 2 → Nat :=
  let c14 : Index := 14#32
  let arg0 : BitVec 32 := BitVec.ofNat 32 (i 0).val
  let c2_i32 : BitVec 32 := 2#32
  let v11 : BitVec 32 := Scalar.muli arg0 c2_i32
  let v320 : BitVec 32 := Scalar.addi v11 c0_i32_149
  let v321 : Index := Scalar.indexCast v320
  ![14, v321.toNat]
def k0_off16 (i : grid0.Coords) (c0_i32_159 : BitVec 32) : Fin 2 → Nat :=
  let c15 : Index := 15#32
  let arg0 : BitVec 32 := BitVec.ofNat 32 (i 0).val
  let c2_i32 : BitVec 32 := 2#32
  let v11 : BitVec 32 := Scalar.muli arg0 c2_i32
  let v342 : BitVec 32 := Scalar.addi v11 c0_i32_159
  let v343 : Index := Scalar.indexCast v342
  ![15, v343.toNat]
def k0_off17 (i : grid0.Coords) (c0_i32_169 : BitVec 32) : Fin 2 → Nat :=
  let c16 : Index := 16#32
  let arg0 : BitVec 32 := BitVec.ofNat 32 (i 0).val
  let c2_i32 : BitVec 32 := 2#32
  let v11 : BitVec 32 := Scalar.muli arg0 c2_i32
  let v364 : BitVec 32 := Scalar.addi v11 c0_i32_169
  let v365 : Index := Scalar.indexCast v364
  ![16, v365.toNat]
def k0_off18 (i : grid0.Coords) (c0_i32_179 : BitVec 32) : Fin 2 → Nat :=
  let c17 : Index := 17#32
  let arg0 : BitVec 32 := BitVec.ofNat 32 (i 0).val
  let c2_i32 : BitVec 32 := 2#32
  let v11 : BitVec 32 := Scalar.muli arg0 c2_i32
  let v386 : BitVec 32 := Scalar.addi v11 c0_i32_179
  let v387 : Index := Scalar.indexCast v386
  ![17, v387.toNat]
def k0_off19 (i : grid0.Coords) (c0_i32_189 : BitVec 32) : Fin 2 → Nat :=
  let c18 : Index := 18#32
  let arg0 : BitVec 32 := BitVec.ofNat 32 (i 0).val
  let c2_i32 : BitVec 32 := 2#32
  let v11 : BitVec 32 := Scalar.muli arg0 c2_i32
  let v408 : BitVec 32 := Scalar.addi v11 c0_i32_189
  let v409 : Index := Scalar.indexCast v408
  ![18, v409.toNat]
def k0_off20 (i : grid0.Coords) (c0_i32_199 : BitVec 32) : Fin 2 → Nat :=
  let c19 : Index := 19#32
  let arg0 : BitVec 32 := BitVec.ofNat 32 (i 0).val
  let c2_i32 : BitVec 32 := 2#32
  let v11 : BitVec 32 := Scalar.muli arg0 c2_i32
  let v430 : BitVec 32 := Scalar.addi v11 c0_i32_199
  let v431 : Index := Scalar.indexCast v430
  ![19, v431.toNat]
def k0_off21 (i : grid0.Coords) (c0_i32_209 : BitVec 32) : Fin 2 → Nat :=
  let c20 : Index := 20#32
  let arg0 : BitVec 32 := BitVec.ofNat 32 (i 0).val
  let c2_i32 : BitVec 32 := 2#32
  let v11 : BitVec 32 := Scalar.muli arg0 c2_i32
  let v452 : BitVec 32 := Scalar.addi v11 c0_i32_209
  let v453 : Index := Scalar.indexCast v452
  ![20, v453.toNat]
def k0_off22 (i : grid0.Coords) (c0_i32_219 : BitVec 32) : Fin 2 → Nat :=
  let c21 : Index := 21#32
  let arg0 : BitVec 32 := BitVec.ofNat 32 (i 0).val
  let c2_i32 : BitVec 32 := 2#32
  let v11 : BitVec 32 := Scalar.muli arg0 c2_i32
  let v474 : BitVec 32 := Scalar.addi v11 c0_i32_219
  let v475 : Index := Scalar.indexCast v474
  ![21, v475.toNat]
def k0_off23 (i : grid0.Coords) (c0_i32_229 : BitVec 32) : Fin 2 → Nat :=
  let c22 : Index := 22#32
  let arg0 : BitVec 32 := BitVec.ofNat 32 (i 0).val
  let c2_i32 : BitVec 32 := 2#32
  let v11 : BitVec 32 := Scalar.muli arg0 c2_i32
  let v496 : BitVec 32 := Scalar.addi v11 c0_i32_229
  let v497 : Index := Scalar.indexCast v496
  ![22, v497.toNat]
def k0_off24 (i : grid0.Coords) (c0_i32_239 : BitVec 32) : Fin 2 → Nat :=
  let c23 : Index := 23#32
  let arg0 : BitVec 32 := BitVec.ofNat 32 (i 0).val
  let c2_i32 : BitVec 32 := 2#32
  let v11 : BitVec 32 := Scalar.muli arg0 c2_i32
  let v518 : BitVec 32 := Scalar.addi v11 c0_i32_239
  let v519 : Index := Scalar.indexCast v518
  ![23, v519.toNat]
def k0_off25 (i : grid0.Coords) (c0_i32_249 : BitVec 32) : Fin 2 → Nat :=
  let c24 : Index := 24#32
  let arg0 : BitVec 32 := BitVec.ofNat 32 (i 0).val
  let c2_i32 : BitVec 32 := 2#32
  let v11 : BitVec 32 := Scalar.muli arg0 c2_i32
  let v540 : BitVec 32 := Scalar.addi v11 c0_i32_249
  let v541 : Index := Scalar.indexCast v540
  ![24, v541.toNat]
def k0_off26 (i : grid0.Coords) (c0_i32_259 : BitVec 32) : Fin 2 → Nat :=
  let c25 : Index := 25#32
  let arg0 : BitVec 32 := BitVec.ofNat 32 (i 0).val
  let c2_i32 : BitVec 32 := 2#32
  let v11 : BitVec 32 := Scalar.muli arg0 c2_i32
  let v562 : BitVec 32 := Scalar.addi v11 c0_i32_259
  let v563 : Index := Scalar.indexCast v562
  ![25, v563.toNat]
def k0_off27 (i : grid0.Coords) (c0_i32_269 : BitVec 32) : Fin 2 → Nat :=
  let c26 : Index := 26#32
  let arg0 : BitVec 32 := BitVec.ofNat 32 (i 0).val
  let c2_i32 : BitVec 32 := 2#32
  let v11 : BitVec 32 := Scalar.muli arg0 c2_i32
  let v584 : BitVec 32 := Scalar.addi v11 c0_i32_269
  let v585 : Index := Scalar.indexCast v584
  ![26, v585.toNat]
def k0_off28 (i : grid0.Coords) (c0_i32_279 : BitVec 32) : Fin 2 → Nat :=
  let c27 : Index := 27#32
  let arg0 : BitVec 32 := BitVec.ofNat 32 (i 0).val
  let c2_i32 : BitVec 32 := 2#32
  let v11 : BitVec 32 := Scalar.muli arg0 c2_i32
  let v606 : BitVec 32 := Scalar.addi v11 c0_i32_279
  let v607 : Index := Scalar.indexCast v606
  ![27, v607.toNat]
def k0_off29 (i : grid0.Coords) (c0_i32_289 : BitVec 32) : Fin 2 → Nat :=
  let c28 : Index := 28#32
  let arg0 : BitVec 32 := BitVec.ofNat 32 (i 0).val
  let c2_i32 : BitVec 32 := 2#32
  let v11 : BitVec 32 := Scalar.muli arg0 c2_i32
  let v628 : BitVec 32 := Scalar.addi v11 c0_i32_289
  let v629 : Index := Scalar.indexCast v628
  ![28, v629.toNat]
def k0_off30 (i : grid0.Coords) (c0_i32_299 : BitVec 32) : Fin 2 → Nat :=
  let c29 : Index := 29#32
  let arg0 : BitVec 32 := BitVec.ofNat 32 (i 0).val
  let c2_i32 : BitVec 32 := 2#32
  let v11 : BitVec 32 := Scalar.muli arg0 c2_i32
  let v650 : BitVec 32 := Scalar.addi v11 c0_i32_299
  let v651 : Index := Scalar.indexCast v650
  ![29, v651.toNat]
def k0_off31 (i : grid0.Coords) (c0_i32_309 : BitVec 32) : Fin 2 → Nat :=
  let c30 : Index := 30#32
  let arg0 : BitVec 32 := BitVec.ofNat 32 (i 0).val
  let c2_i32 : BitVec 32 := 2#32
  let v11 : BitVec 32 := Scalar.muli arg0 c2_i32
  let v672 : BitVec 32 := Scalar.addi v11 c0_i32_309
  let v673 : Index := Scalar.indexCast v672
  ![30, v673.toNat]
def k0_off32 (i : grid0.Coords) (c0_i32_319 : BitVec 32) : Fin 2 → Nat :=
  let c31 : Index := 31#32
  let arg0 : BitVec 32 := BitVec.ofNat 32 (i 0).val
  let c2_i32 : BitVec 32 := 2#32
  let v11 : BitVec 32 := Scalar.muli arg0 c2_i32
  let v694 : BitVec 32 := Scalar.addi v11 c0_i32_319
  let v695 : Index := Scalar.indexCast v694
  ![31, v695.toNat]
def k0_off33 (i : grid0.Coords) (c0_i32_329 : BitVec 32) : Fin 2 → Nat :=
  let c32 : Index := 32#32
  let arg0 : BitVec 32 := BitVec.ofNat 32 (i 0).val
  let c2_i32 : BitVec 32 := 2#32
  let v11 : BitVec 32 := Scalar.muli arg0 c2_i32
  let v716 : BitVec 32 := Scalar.addi v11 c0_i32_329
  let v717 : Index := Scalar.indexCast v716
  ![32, v717.toNat]
def k0_off34 (i : grid0.Coords) (c0_i32_339 : BitVec 32) : Fin 2 → Nat :=
  let c33 : Index := 33#32
  let arg0 : BitVec 32 := BitVec.ofNat 32 (i 0).val
  let c2_i32 : BitVec 32 := 2#32
  let v11 : BitVec 32 := Scalar.muli arg0 c2_i32
  let v738 : BitVec 32 := Scalar.addi v11 c0_i32_339
  let v739 : Index := Scalar.indexCast v738
  ![33, v739.toNat]
def k0_off35 (i : grid0.Coords) (c0_i32_349 : BitVec 32) : Fin 2 → Nat :=
  let c34 : Index := 34#32
  let arg0 : BitVec 32 := BitVec.ofNat 32 (i 0).val
  let c2_i32 : BitVec 32 := 2#32
  let v11 : BitVec 32 := Scalar.muli arg0 c2_i32
  let v760 : BitVec 32 := Scalar.addi v11 c0_i32_349
  let v761 : Index := Scalar.indexCast v760
  ![34, v761.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4480 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4480x256 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .smem S35x40 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== DownReferenceIdeal.lean ====
abbrev S8192x4480 : Shape := ⟨2, ![8192, 4480]⟩
abbrev S4480x5120 : Shape := ⟨2, ![4480, 5120]⟩
abbrev S35x40 : Shape := ⟨2, ![35, 40]⟩
abbrev S8192x5120 : Shape := ⟨2, ![8192, 5120]⟩
abbrev S35x128x40x128 : Shape := ⟨4, ![35, 128, 40, 128]⟩
abbrev S35x1x40x1 : Shape := ⟨4, ![35, 1, 40, 1]⟩

abbrev nBuf : Space → Nat
  | .hbm => 5
  | .vmem => 5
  | .smem => 0
  | _ => 0

abbrev bufTy : (tb : Table) → Fin (tcTables nBuf tb) → BufTy
  | .hbm, ⟨0, _⟩ => ⟨S8192x4480, .bf16⟩
  | .hbm, ⟨1, _⟩ => ⟨S4480x5120, .fp8e4m3⟩
  | .hbm, ⟨2, _⟩ => ⟨S35x40, .f32⟩
  | .hbm, ⟨3, _⟩ => ⟨S8192x5120, .bf16⟩
  | .hbm, ⟨4, _⟩ => ⟨S8192x5120, .bf16⟩
  | .local _ .vmem, ⟨0, _⟩ => ⟨S8192x4480, .bf16⟩
  | .local _ .vmem, ⟨1, _⟩ => ⟨S4480x5120, .fp8e4m3⟩
  | .local _ .vmem, ⟨2, _⟩ => ⟨S35x40, .f32⟩
  | .local _ .vmem, ⟨3, _⟩ => ⟨S8192x5120, .bf16⟩
  | .local _ .vmem, ⟨4, _⟩ => ⟨S8192x5120, .bf16⟩
  | _, _ => ⟨S8192x4480, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S8192x4480 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4480x5120 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S35x40 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8192x5120 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8192x5120 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== GateUp.lean ====
abbrev S8192x5120 : Shape := ⟨2, ![8192, 5120]⟩
abbrev S5120x10752 : Shape := ⟨2, ![5120, 10752]⟩
abbrev S40x84 : Shape := ⟨2, ![40, 84]⟩
abbrev S8192x4480 : Shape := ⟨2, ![8192, 4480]⟩
abbrev S35x8192x1 : Shape := ⟨3, ![35, 8192, 1]⟩
abbrev S1024x5120 : Shape := ⟨2, ![1024, 5120]⟩
abbrev S5120x128 : Shape := ⟨2, ![5120, 128]⟩
abbrev S1024x128 : Shape := ⟨2, ![1024, 128]⟩
abbrev S1x1024x1 : Shape := ⟨3, ![1, 1024, 1]⟩
abbrev S5120x256 : Shape := ⟨2, ![5120, 256]⟩
abbrev S1x1 : Shape := ⟨2, ![1, 1]⟩
abbrev S128x128 : Shape := ⟨2, ![128, 128]⟩
abbrev S1024x256 : Shape := ⟨2, ![1024, 256]⟩
abbrev S1024 : Shape := ⟨1, ![1024]⟩
abbrev S1024x1 : Shape := ⟨2, ![1024, 1]⟩

abbrev nBuf : Space → Nat
  | .hbm => 6
  | .vmem => 13
  | .smem => 1
  | _ => 0

abbrev bufTy : (tb : Table) → Fin (tcTables nBuf tb) → BufTy
  | .hbm, ⟨0, _⟩ => ⟨S8192x5120, .bf16⟩
  | .hbm, ⟨1, _⟩ => ⟨S5120x10752, .fp8e4m3⟩
  | .hbm, ⟨2, _⟩ => ⟨S40x84, .f32⟩
  | .hbm, ⟨3, _⟩ => ⟨S8192x4480, .fp8e4m3⟩
  | .hbm, ⟨4, _⟩ => ⟨S35x8192x1, .f32⟩
  | .hbm, ⟨5, _⟩ => ⟨S8192x4480, .bf16⟩
  | .local _ .vmem, ⟨0, _⟩ => ⟨S1024x5120, .bf16⟩
  | .local _ .vmem, ⟨1, _⟩ => ⟨S1024x5120, .bf16⟩
  | .local _ .vmem, ⟨2, _⟩ => ⟨S5120x128, .fp8e4m3⟩
  | .local _ .vmem, ⟨3, _⟩ => ⟨S5120x128, .fp8e4m3⟩
  | .local _ .vmem, ⟨4, _⟩ => ⟨S5120x128, .fp8e4m3⟩
  | .local _ .vmem, ⟨5, _⟩ => ⟨S5120x128, .fp8e4m3⟩
  | .local _ .vmem, ⟨6, _⟩ => ⟨S1024x128, .fp8e4m3⟩
  | .local _ .vmem, ⟨7, _⟩ => ⟨S1024x128, .fp8e4m3⟩
  | .local _ .vmem, ⟨8, _⟩ => ⟨S1x1024x1, .f32⟩
  | .local _ .vmem, ⟨9, _⟩ => ⟨S1x1024x1, .f32⟩
  | .local _ .vmem, ⟨10, _⟩ => ⟨S1024x128, .bf16⟩
  | .local _ .vmem, ⟨11, _⟩ => ⟨S1024x128, .bf16⟩
  | .local _ .vmem, ⟨12, _⟩ => ⟨S5120x256, .bf16⟩
  | .local _ .smem, ⟨0, _⟩ => ⟨S40x84, .f32⟩
  | _, _ => ⟨S8192x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_stg3_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![35, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_off1 (i : grid0.Coords) (c14_i32 : BitVec 32) : Fin 2 → Nat :=
  let c0_30 : Index := 0#32
  let arg0 : BitVec 32 := BitVec.ofNat 32 (i 0).val
  let v110 : BitVec 32 := Scalar.addi c14_i32 arg0
  let c0_i32_29 : BitVec 32 := 0#32
  let v111 : BitVec 32 := Scalar.addi v110 c0_i32_29
  let v112 : Index := Scalar.indexCast v111
  ![0, v112.toNat]
def k0_off2 (i : grid0.Coords) (c14_i32 : BitVec 32) : Fin 2 → Nat :=
  let c1 : Index := 1#32
  let arg0 : BitVec 32 := BitVec.ofNat 32 (i 0).val
  let v110 : BitVec 32 := Scalar.addi c14_i32 arg0
  let c0_i32_37 : BitVec 32 := 0#32
  let v123 : BitVec 32 := Scalar.addi v110 c0_i32_37
  let v124 : Index := Scalar.indexCast v123
  ![1, v124.toNat]
def k0_off3 (i : grid0.Coords) (c14_i32 : BitVec 32) : Fin 2 → Nat :=
  let c2 : Index := 2#32
  let arg0 : BitVec 32 := BitVec.ofNat 32 (i 0).val
  let v110 : BitVec 32 := Scalar.addi c14_i32 arg0
  let c0_i32_43 : BitVec 32 := 0#32
  let v135 : BitVec 32 := Scalar.addi v110 c0_i32_43
  let v136 : Index := Scalar.indexCast v135
  ![2, v136.toNat]
def k0_off4 (i : grid0.Coords) (c14_i32 : BitVec 32) : Fin 2 → Nat :=
  let c3 : Index := 3#32
  let arg0 : BitVec 32 := BitVec.ofNat 32 (i 0).val
  let v110 : BitVec 32 := Scalar.addi c14_i32 arg0
  let c0_i32_49 : BitVec 32 := 0#32
  let v147 : BitVec 32 := Scalar.addi v110 c0_i32_49
  let v148 : Index := Scalar.indexCast v147
  ![3, v148.toNat]
def k0_off5 (i : grid0.Coords) (c14_i32 : BitVec 32) : Fin 2 → Nat :=
  let c4 : Index := 4#32
  let arg0 : BitVec 32 := BitVec.ofNat 32 (i 0).val
  let v110 : BitVec 32 := Scalar.addi c14_i32 arg0
  let c0_i32_55 : BitVec 32 := 0#32
  let v159 : BitVec 32 := Scalar.addi v110 c0_i32_55
  let v160 : Index := Scalar.indexCast v159
  ![4, v160.toNat]
def k0_off6 (i : grid0.Coords) (c14_i32 : BitVec 32) : Fin 2 → Nat :=
  let c5 : Index := 5#32
  let arg0 : BitVec 32 := BitVec.ofNat 32 (i 0).val
  let v110 : BitVec 32 := Scalar.addi c14_i32 arg0
  let c0_i32_61 : BitVec 32 := 0#32
  let v171 : BitVec 32 := Scalar.addi v110 c0_i32_61
  let v172 : Index := Scalar.indexCast v171
  ![5, v172.toNat]
def k0_off7 (i : grid0.Coords) (c14_i32 : BitVec 32) : Fin 2 → Nat :=
  let c6 : Index := 6#32
  let arg0 : BitVec 32 := BitVec.ofNat 32 (i 0).val
  let v110 : BitVec 32 := Scalar.addi c14_i32 arg0
  let c0_i32_67 : BitVec 32 := 0#32
  let v183 : BitVec 32 := Scalar.addi v110 c0_i32_67
  let v184 : Index := Scalar.indexCast v183
  ![6, v184.toNat]
def k0_off8 (i : grid0.Coords) (c14_i32 : BitVec 32) : Fin 2 → Nat :=
  let c7 : Index := 7#32
  let arg0 : BitVec 32 := BitVec.ofNat 32 (i 0).val
  let v110 : BitVec 32 := Scalar.addi c14_i32 arg0
  let c0_i32_73 : BitVec 32 := 0#32
  let v195 : BitVec 32 := Scalar.addi v110 c0_i32_73
  let v196 : Index := Scalar.indexCast v195
  ![7, v196.toNat]
def k0_off9 (i : grid0.Coords) (c14_i32 : BitVec 32) : Fin 2 → Nat :=
  let c8 : Index := 8#32
  let arg0 : BitVec 32 := BitVec.ofNat 32 (i 0).val
  let v110 : BitVec 32 := Scalar.addi c14_i32 arg0
  let c0_i32_79 : BitVec 32 := 0#32
  let v207 : BitVec 32 := Scalar.addi v110 c0_i32_79
  let v208 : Index := Scalar.indexCast v207
  ![8, v208.toNat]
def k0_off10 (i : grid0.Coords) (c14_i32 : BitVec 32) : Fin 2 → Nat :=
  let c9 : Index := 9#32
  let arg0 : BitVec 32 := BitVec.ofNat 32 (i 0).val
  let v110 : BitVec 32 := Scalar.addi c14_i32 arg0
  let c0_i32_85 : BitVec 32 := 0#32
  let v219 : BitVec 32 := Scalar.addi v110 c0_i32_85
  let v220 : Index := Scalar.indexCast v219
  ![9, v220.toNat]
def k0_off11 (i : grid0.Coords) (c14_i32 : BitVec 32) : Fin 2 → Nat :=
  let c10 : Index := 10#32
  let arg0 : BitVec 32 := BitVec.ofNat 32 (i 0).val
  let v110 : BitVec 32 := Scalar.addi c14_i32 arg0
  let c0_i32_91 : BitVec 32 := 0#32
  let v231 : BitVec 32 := Scalar.addi v110 c0_i32_91
  let v232 : Index := Scalar.indexCast v231
  ![10, v232.toNat]
def k0_off12 (i : grid0.Coords) (c14_i32 : BitVec 32) : Fin 2 → Nat :=
  let c11 : Index := 11#32
  let arg0 : BitVec 32 := BitVec.ofNat 32 (i 0).val
  let v110 : BitVec 32 := Scalar.addi c14_i32 arg0
  let c0_i32_97 : BitVec 32 := 0#32
  let v243 : BitVec 32 := Scalar.addi v110 c0_i32_97
  let v244 : Index := Scalar.indexCast v243
  ![11, v244.toNat]
def k0_off13 (i : grid0.Coords) (c14_i32 : BitVec 32) : Fin 2 → Nat :=
  let c12 : Index := 12#32
  let arg0 : BitVec 32 := BitVec.ofNat 32 (i 0).val
  let v110 : BitVec 32 := Scalar.addi c14_i32 arg0
  let c0_i32_103 : BitVec 32 := 0#32
  let v255 : BitVec 32 := Scalar.addi v110 c0_i32_103
  let v256 : Index := Scalar.indexCast v255
  ![12, v256.toNat]
def k0_off14 (i : grid0.Coords) (c14_i32 : BitVec 32) : Fin 2 → Nat :=
  let c13 : Index := 13#32
  let arg0 : BitVec 32 := BitVec.ofNat 32 (i 0).val
  let v110 : BitVec 32 := Scalar.addi c14_i32 arg0
  let c0_i32_109 : BitVec 32 := 0#32
  let v267 : BitVec 32 := Scalar.addi v110 c0_i32_109
  let v268 : Index := Scalar.indexCast v267
  ![13, v268.toNat]
def k0_off15 (i : grid0.Coords) (c14_i32 : BitVec 32) : Fin 2 → Nat :=
  let c14 : Index := 14#32
  let arg0 : BitVec 32 := BitVec.ofNat 32 (i 0).val
  let v110 : BitVec 32 := Scalar.addi c14_i32 arg0
  let c0_i32_115 : BitVec 32 := 0#32
  let v279 : BitVec 32 := Scalar.addi v110 c0_i32_115
  let v280 : Index := Scalar.indexCast v279
  ![14, v280.toNat]
def k0_off16 (i : grid0.Coords) (c14_i32 : BitVec 32) : Fin 2 → Nat :=
  let c15 : Index := 15#32
  let arg0 : BitVec 32 := BitVec.ofNat 32 (i 0).val
  let v110 : BitVec 32 := Scalar.addi c14_i32 arg0
  let c0_i32_121 : BitVec 32 := 0#32
  let v291 : BitVec 32 := Scalar.addi v110 c0_i32_121
  let v292 : Index := Scalar.indexCast v291
  ![15, v292.toNat]
def k0_off17 (i : grid0.Coords) (c14_i32 : BitVec 32) : Fin 2 → Nat :=
  let c16 : Index := 16#32
  let arg0 : BitVec 32 := BitVec.ofNat 32 (i 0).val
  let v110 : BitVec 32 := Scalar.addi c14_i32 arg0
  let c0_i32_127 : BitVec 32 := 0#32
  let v303 : BitVec 32 := Scalar.addi v110 c0_i32_127
  let v304 : Index := Scalar.indexCast v303
  ![16, v304.toNat]
def k0_off18 (i : grid0.Coords) (c14_i32 : BitVec 32) : Fin 2 → Nat :=
  let c17 : Index := 17#32
  let arg0 : BitVec 32 := BitVec.ofNat 32 (i 0).val
  let v110 : BitVec 32 := Scalar.addi c14_i32 arg0
  let c0_i32_133 : BitVec 32 := 0#32
  let v315 : BitVec 32 := Scalar.addi v110 c0_i32_133
  let v316 : Index := Scalar.indexCast v315
  ![17, v316.toNat]
def k0_off19 (i : grid0.Coords) (c14_i32 : BitVec 32) : Fin 2 → Nat :=
  let c18 : Index := 18#32
  let arg0 : BitVec 32 := BitVec.ofNat 32 (i 0).val
  let v110 : BitVec 32 := Scalar.addi c14_i32 arg0
  let c0_i32_139 : BitVec 32 := 0#32
  let v327 : BitVec 32 := Scalar.addi v110 c0_i32_139
  let v328 : Index := Scalar.indexCast v327
  ![18, v328.toNat]
def k0_off20 (i : grid0.Coords) (c14_i32 : BitVec 32) : Fin 2 → Nat :=
  let c19 : Index := 19#32
  let arg0 : BitVec 32 := BitVec.ofNat 32 (i 0).val
  let v110 : BitVec 32 := Scalar.addi c14_i32 arg0
  let c0_i32_145 : BitVec 32 := 0#32
  let v339 : BitVec 32 := Scalar.addi v110 c0_i32_145
  let v340 : Index := Scalar.indexCast v339
  ![19, v340.toNat]
def k0_off21 (i : grid0.Coords) (c14_i32 : BitVec 32) : Fin 2 → Nat :=
  let c20 : Index := 20#32
  let arg0 : BitVec 32 := BitVec.ofNat 32 (i 0).val
  let v110 : BitVec 32 := Scalar.addi c14_i32 arg0
  let c0_i32_151 : BitVec 32 := 0#32
  let v351 : BitVec 32 := Scalar.addi v110 c0_i32_151
  let v352 : Index := Scalar.indexCast v351
  ![20, v352.toNat]
def k0_off22 (i : grid0.Coords) (c14_i32 : BitVec 32) : Fin 2 → Nat :=
  let c21 : Index := 21#32
  let arg0 : BitVec 32 := BitVec.ofNat 32 (i 0).val
  let v110 : BitVec 32 := Scalar.addi c14_i32 arg0
  let c0_i32_157 : BitVec 32 := 0#32
  let v363 : BitVec 32 := Scalar.addi v110 c0_i32_157
  let v364 : Index := Scalar.indexCast v363
  ![21, v364.toNat]
def k0_off23 (i : grid0.Coords) (c14_i32 : BitVec 32) : Fin 2 → Nat :=
  let c22 : Index := 22#32
  let arg0 : BitVec 32 := BitVec.ofNat 32 (i 0).val
  let v110 : BitVec 32 := Scalar.addi c14_i32 arg0
  let c0_i32_163 : BitVec 32 := 0#32
  let v375 : BitVec 32 := Scalar.addi v110 c0_i32_163
  let v376 : Index := Scalar.indexCast v375
  ![22, v376.toNat]
def k0_off24 (i : grid0.Coords) (c14_i32 : BitVec 32) : Fin 2 → Nat :=
  let c23 : Index := 23#32
  let arg0 : BitVec 32 := BitVec.ofNat 32 (i 0).val
  let v110 : BitVec 32 := Scalar.addi c14_i32 arg0
  let c0_i32_169 : BitVec 32 := 0#32
  let v387 : BitVec 32 := Scalar.addi v110 c0_i32_169
  let v388 : Index := Scalar.indexCast v387
  ![23, v388.toNat]
def k0_off25 (i : grid0.Coords) (c14_i32 : BitVec 32) : Fin 2 → Nat :=
  let c24 : Index := 24#32
  let arg0 : BitVec 32 := BitVec.ofNat 32 (i 0).val
  let v110 : BitVec 32 := Scalar.addi c14_i32 arg0
  let c0_i32_175 : BitVec 32 := 0#32
  let v399 : BitVec 32 := Scalar.addi v110 c0_i32_175
  let v400 : Index := Scalar.indexCast v399
  ![24, v400.toNat]
def k0_off26 (i : grid0.Coords) (c14_i32 : BitVec 32) : Fin 2 → Nat :=
  let c25 : Index := 25#32
  let arg0 : BitVec 32 := BitVec.ofNat 32 (i 0).val
  let v110 : BitVec 32 := Scalar.addi c14_i32 arg0
  let c0_i32_181 : BitVec 32 := 0#32
  let v411 : BitVec 32 := Scalar.addi v110 c0_i32_181
  let v412 : Index := Scalar.indexCast v411
  ![25, v412.toNat]
def k0_off27 (i : grid0.Coords) (c14_i32 : BitVec 32) : Fin 2 → Nat :=
  let c26 : Index := 26#32
  let arg0 : BitVec 32 := BitVec.ofNat 32 (i 0).val
  let v110 : BitVec 32 := Scalar.addi c14_i32 arg0
  let c0_i32_187 : BitVec 32 := 0#32
  let v423 : BitVec 32 := Scalar.addi v110 c0_i32_187
  let v424 : Index := Scalar.indexCast v423
  ![26, v424.toNat]
def k0_off28 (i : grid0.Coords) (c14_i32 : BitVec 32) : Fin 2 → Nat :=
  let c27 : Index := 27#32
  let arg0 : BitVec 32 := BitVec.ofNat 32 (i 0).val
  let v110 : BitVec 32 := Scalar.addi c14_i32 arg0
  let c0_i32_193 : BitVec 32 := 0#32
  let v435 : BitVec 32 := Scalar.addi v110 c0_i32_193
  let v436 : Index := Scalar.indexCast v435
  ![27, v436.toNat]
def k0_off29 (i : grid0.Coords) (c14_i32 : BitVec 32) : Fin 2 → Nat :=
  let c28 : Index := 28#32
  let arg0 : BitVec 32 := BitVec.ofNat 32 (i 0).val
  let v110 : BitVec 32 := Scalar.addi c14_i32 arg0
  let c0_i32_199 : BitVec 32 := 0#32
  let v447 : BitVec 32 := Scalar.addi v110 c0_i32_199
  let v448 : Index := Scalar.indexCast v447
  ![28, v448.toNat]
def k0_off30 (i : grid0.Coords) (c14_i32 : BitVec 32) : Fin 2 → Nat :=
  let c29 : Index := 29#32
  let arg0 : BitVec 32 := BitVec.ofNat 32 (i 0).val
  let v110 : BitVec 32 := Scalar.addi c14_i32 arg0
  let c0_i32_205 : BitVec 32 := 0#32
  let v459 : BitVec 32 := Scalar.addi v110 c0_i32_205
  let v460 : Index := Scalar.indexCast v459
  ![29, v460.toNat]
def k0_off31 (i : grid0.Coords) (c14_i32 : BitVec 32) : Fin 2 → Nat :=
  let c30 : Index := 30#32
  let arg0 : BitVec 32 := BitVec.ofNat 32 (i 0).val
  let v110 : BitVec 32 := Scalar.addi c14_i32 arg0
  let c0_i32_211 : BitVec 32 := 0#32
  let v471 : BitVec 32 := Scalar.addi v110 c0_i32_211
  let v472 : Index := Scalar.indexCast v471
  ![30, v472.toNat]
def k0_off32 (i : grid0.Coords) (c14_i32 : BitVec 32) : Fin 2 → Nat :=
  let c31 : Index := 31#32
  let arg0 : BitVec 32 := BitVec.ofNat 32 (i 0).val
  let v110 : BitVec 32 := Scalar.addi c14_i32 arg0
  let c0_i32_217 : BitVec 32 := 0#32
  let v483 : BitVec 32 := Scalar.addi v110 c0_i32_217
  let v484 : Index := Scalar.indexCast v483
  ![31, v484.toNat]
def k0_off33 (i : grid0.Coords) (c14_i32 : BitVec 32) : Fin 2 → Nat :=
  let c32 : Index := 32#32
  let arg0 : BitVec 32 := BitVec.ofNat 32 (i 0).val
  let v110 : BitVec 32 := Scalar.addi c14_i32 arg0
  let c0_i32_223 : BitVec 32 := 0#32
  let v495 : BitVec 32 := Scalar.addi v110 c0_i32_223
  let v496 : Index := Scalar.indexCast v495
  ![32, v496.toNat]
def k0_off34 (i : grid0.Coords) (c14_i32 : BitVec 32) : Fin 2 → Nat :=
  let c33 : Index := 33#32
  let arg0 : BitVec 32 := BitVec.ofNat 32 (i 0).val
  let v110 : BitVec 32 := Scalar.addi c14_i32 arg0
  let c0_i32_229 : BitVec 32 := 0#32
  let v507 : BitVec 32 := Scalar.addi v110 c0_i32_229
  let v508 : Index := Scalar.indexCast v507
  ![33, v508.toNat]
def k0_off35 (i : grid0.Coords) (c14_i32 : BitVec 32) : Fin 2 → Nat :=
  let c34 : Index := 34#32
  let arg0 : BitVec 32 := BitVec.ofNat 32 (i 0).val
  let v110 : BitVec 32 := Scalar.addi c14_i32 arg0
  let c0_i32_235 : BitVec 32 := 0#32
  let v519 : BitVec 32 := Scalar.addi v110 c0_i32_235
  let v520 : Index := Scalar.indexCast v519
  ![34, v520.toNat]
def k0_off36 (i : grid0.Coords) (c14_i32 : BitVec 32) : Fin 2 → Nat :=
  let c35 : Index := 35#32
  let arg0 : BitVec 32 := BitVec.ofNat 32 (i 0).val
  let v110 : BitVec 32 := Scalar.addi c14_i32 arg0
  let c0_i32_241 : BitVec 32 := 0#32
  let v531 : BitVec 32 := Scalar.addi v110 c0_i32_241
  let v532 : Index := Scalar.indexCast v531
  ![35, v532.toNat]
def k0_off37 (i : grid0.Coords) (c14_i32 : BitVec 32) : Fin 2 → Nat :=
  let c36 : Index := 36#32
  let arg0 : BitVec 32 := BitVec.ofNat 32 (i 0).val
  let v110 : BitVec 32 := Scalar.addi c14_i32 arg0
  let c0_i32_247 : BitVec 32 := 0#32
  let v543 : BitVec 32 := Scalar.addi v110 c0_i32_247
  let v544 : Index := Scalar.indexCast v543
  ![36, v544.toNat]
def k0_off38 (i : grid0.Coords) (c14_i32 : BitVec 32) : Fin 2 → Nat :=
  let c37 : Index := 37#32
  let arg0 : BitVec 32 := BitVec.ofNat 32 (i 0).val
  let v110 : BitVec 32 := Scalar.addi c14_i32 arg0
  let c0_i32_253 : BitVec 32 := 0#32
  let v555 : BitVec 32 := Scalar.addi v110 c0_i32_253
  let v556 : Index := Scalar.indexCast v555
  ![37, v556.toNat]
def k0_off39 (i : grid0.Coords) (c14_i32 : BitVec 32) : Fin 2 → Nat :=
  let c38 : Index := 38#32
  let arg0 : BitVec 32 := BitVec.ofNat 32 (i 0).val
  let v110 : BitVec 32 := Scalar.addi c14_i32 arg0
  let c0_i32_259 : BitVec 32 := 0#32
  let v567 : BitVec 32 := Scalar.addi v110 c0_i32_259
  let v568 : Index := Scalar.indexCast v567
  ![38, v568.toNat]
def k0_off40 (i : grid0.Coords) (c14_i32 : BitVec 32) : Fin 2 → Nat :=
  let c39 : Index := 39#32
  let arg0 : BitVec 32 := BitVec.ofNat 32 (i 0).val
  let v110 : BitVec 32 := Scalar.addi c14_i32 arg0
  let c0_i32_265 : BitVec 32 := 0#32
  let v579 : BitVec 32 := Scalar.addi v110 c0_i32_265
  let v580 : Index := Scalar.indexCast v579
  ![39, v580.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c14_i32 : BitVec 32 := 14#32
  let v0 : BitVec 32 := Scalar.addi c14_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c49_i32 : BitVec 32 := 49#32
  let v0 : BitVec 32 := Scalar.addi c49_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S5120x128 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S5120x128 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .smem S40x84 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x128 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== GateUpReferenceIdeal.lean ====
abbrev S8192x5120 : Shape := ⟨2, ![8192, 5120]⟩
abbrev S5120x10752 : Shape := ⟨2, ![5120, 10752]⟩
abbrev S40x84 : Shape := ⟨2, ![40, 84]⟩
abbrev S8192x4480 : Shape := ⟨2, ![8192, 4480]⟩
abbrev S35x8192x1 : Shape := ⟨3, ![35, 8192, 1]⟩
abbrev S40x128x84x128 : Shape := ⟨4, ![40, 128, 84, 128]⟩
abbrev S40x1x84x1 : Shape := ⟨4, ![40, 1, 84, 1]⟩
abbrev S8192x10752 : Shape := ⟨2, ![8192, 10752]⟩
abbrev S8192x35x128 : Shape := ⟨3, ![8192, 35, 128]⟩
abbrev S8192x35 : Shape := ⟨2, ![8192, 35]⟩
abbrev S8192x35x1 : Shape := ⟨3, ![8192, 35, 1]⟩
abbrev S1x1x253 : Shape := ⟨3, ![1, 1, 253]⟩
abbrev S8192x35x253 : Shape := ⟨3, ![8192, 35, 253]⟩
abbrev S35x8192 : Shape := ⟨2, ![35, 8192]⟩

abbrev nBuf : Space → Nat
  | .hbm => 6
  | .vmem => 6
  | .smem => 0
  | _ => 0

abbrev bufTy : (tb : Table) → Fin (tcTables nBuf tb) → BufTy
  | .hbm, ⟨0, _⟩ => ⟨S8192x5120, .bf16⟩
  | .hbm, ⟨1, _⟩ => ⟨S5120x10752, .fp8e4m3⟩
  | .hbm, ⟨2, _⟩ => ⟨S40x84, .f32⟩
  | .hbm, ⟨3, _⟩ => ⟨S8192x4480, .fp8e4m3⟩
  | .hbm, ⟨4, _⟩ => ⟨S35x8192x1, .f32⟩
  | .hbm, ⟨5, _⟩ => ⟨S8192x4480, .bf16⟩
  | .local _ .vmem, ⟨0, _⟩ => ⟨S8192x5120, .bf16⟩
  | .local _ .vmem, ⟨1, _⟩ => ⟨S5120x10752, .fp8e4m3⟩
  | .local _ .vmem, ⟨2, _⟩ => ⟨S40x84, .f32⟩
  | .local _ .vmem, ⟨3, _⟩ => ⟨S8192x4480, .fp8e4m3⟩
  | .local _ .vmem, ⟨4, _⟩ => ⟨S35x8192x1, .f32⟩
  | .local _ .vmem, ⟨5, _⟩ => ⟨S8192x4480, .bf16⟩
  | _, _ => ⟨S8192x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S8192x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5120x10752 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S40x84 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8192x4480 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S35x8192x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8192x4480 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Norm.lean ====
abbrev S8192x5120 : Shape := ⟨2, ![8192, 5120]⟩
abbrev S5120 : Shape := ⟨1, ![5120]⟩
abbrev S1x5120 : Shape := ⟨2, ![1, 5120]⟩
abbrev S8192x40 : Shape := ⟨2, ![8192, 40]⟩
abbrev S256x5120 : Shape := ⟨2, ![256, 5120]⟩
abbrev S256x40 : Shape := ⟨2, ![256, 40]⟩
abbrev S128x128 : Shape := ⟨2, ![128, 128]⟩
abbrev S8x128 : Shape := ⟨2, ![8, 128]⟩
abbrev S1x128 : Shape := ⟨2, ![1, 128]⟩
abbrev S128 : Shape := ⟨1, ![128]⟩
abbrev S128x1 : Shape := ⟨2, ![128, 1]⟩

abbrev nBuf : Space → Nat
  | .hbm => 6
  | .vmem => 9
  | .smem => 0
  | _ => 0

abbrev bufTy : (tb : Table) → Fin (tcTables nBuf tb) → BufTy
  | .hbm, ⟨0, _⟩ => ⟨S8192x5120, .bf16⟩
  | .hbm, ⟨1, _⟩ => ⟨S5120, .bf16⟩
  | .hbm, ⟨2, _⟩ => ⟨S1x5120, .bf16⟩
  | .hbm, ⟨3, _⟩ => ⟨S8192x5120, .fp8e4m3⟩
  | .hbm, ⟨4, _⟩ => ⟨S8192x40, .f32⟩
  | .hbm, ⟨5, _⟩ => ⟨S8192x5120, .bf16⟩
  | .local _ .vmem, ⟨0, _⟩ => ⟨S256x5120, .bf16⟩
  | .local _ .vmem, ⟨1, _⟩ => ⟨S256x5120, .bf16⟩
  | .local _ .vmem, ⟨2, _⟩ => ⟨S1x5120, .bf16⟩
  | .local _ .vmem, ⟨3, _⟩ => ⟨S256x5120, .fp8e4m3⟩
  | .local _ .vmem, ⟨4, _⟩ => ⟨S256x5120, .fp8e4m3⟩
  | .local _ .vmem, ⟨5, _⟩ => ⟨S256x40, .f32⟩
  | .local _ .vmem, ⟨6, _⟩ => ⟨S256x40, .f32⟩
  | .local _ .vmem, ⟨7, _⟩ => ⟨S256x5120, .bf16⟩
  | .local _ .vmem, ⟨8, _⟩ => ⟨S256x5120, .bf16⟩
  | _, _ => ⟨S8192x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x5120 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x5120 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x40 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x5120 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== NormReferenceIdeal.lean ====
abbrev S8192x5120 : Shape := ⟨2, ![8192, 5120]⟩
abbrev S5120 : Shape := ⟨1, ![5120]⟩
abbrev S1x5120 : Shape := ⟨2, ![1, 5120]⟩
abbrev S8192x40 : Shape := ⟨2, ![8192, 40]⟩
abbrev S8192 : Shape := ⟨1, ![8192]⟩
abbrev S8192x1 : Shape := ⟨2, ![8192, 1]⟩
abbrev S8192x40x128 : Shape := ⟨3, ![8192, 40, 128]⟩
abbrev S8192x40x1 : Shape := ⟨3, ![8192, 40, 1]⟩
abbrev S1x1x253 : Shape := ⟨3, ![1, 1, 253]⟩
abbrev S8192x40x253 : Shape := ⟨3, ![8192, 40, 253]⟩

abbrev nBuf : Space → Nat
  | .hbm => 6
  | .vmem => 5
  | .smem => 0
  | _ => 0

abbrev bufTy : (tb : Table) → Fin (tcTables nBuf tb) → BufTy
  | .hbm, ⟨0, _⟩ => ⟨S8192x5120, .bf16⟩
  | .hbm, ⟨1, _⟩ => ⟨S5120, .bf16⟩
  | .hbm, ⟨2, _⟩ => ⟨S1x5120, .bf16⟩
  | .hbm, ⟨3, _⟩ => ⟨S8192x5120, .fp8e4m3⟩
  | .hbm, ⟨4, _⟩ => ⟨S8192x40, .f32⟩
  | .hbm, ⟨5, _⟩ => ⟨S8192x5120, .bf16⟩
  | .local _ .vmem, ⟨0, _⟩ => ⟨S8192x5120, .bf16⟩
  | .local _ .vmem, ⟨1, _⟩ => ⟨S1x5120, .bf16⟩
  | .local _ .vmem, ⟨2, _⟩ => ⟨S8192x5120, .fp8e4m3⟩
  | .local _ .vmem, ⟨3, _⟩ => ⟨S8192x40, .f32⟩
  | .local _ .vmem, ⟨4, _⟩ => ⟨S8192x5120, .bf16⟩
  | _, _ => ⟨S8192x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S8192x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x5120 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192x5120 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8192x40 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8192x5120 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Common.lean ====
module

public import Idealize.ShloMosaic.Lib.Pointwise
public import Idealize.ShloMosaic.Lib.Writes
public import Idealize.ShloMosaic.Lib.Pipeline.ValueKit
public import Idealize.ShloMosaic.Lib.Tactic

@[expose] public section

/-! What the four calls' proofs share: indices written as pairs of numbers. -/

noncomputable section
open Idealize.ShloMosaic Idealize.ShloMosaic.TcCoe Idealize.SL.Sem

namespace Cert.Own

theorem hz : (![0, 0] : Fin 2 → Nat) = fun _ => 0 := funext fun a => by fin_cases a <;> rfl

/-- An index of the array `[a, b]` from two numbers, with a bound taken by remainder (never reached). -/
def at2 {a b : Nat} (ha : 0 < a) (hb : 0 < b) (i j : Nat) : (⟨2, ![a, b]⟩ : Shape).Idx :=
  Idealize.ShloMosaic.ValueIdx.ix2 ⟨i % a, Nat.mod_lt _ ha⟩ ⟨j % b, Nat.mod_lt _ hb⟩

theorem at2_eq {a b : Nat} (ha : 0 < a) (hb : 0 < b) (i j : Nat) (x : (⟨2, ![a, b]⟩ : Shape).Idx) (h0 : (x 0).val = i) (h1 : (x 1).val = j) :
    x = at2 ha hb i j := by
  subst h0 h1
  funext d
  apply Fin.ext
  match d with
  | ⟨0, _⟩ => exact (Nat.mod_eq_of_lt (x 0).isLt).symm
  | ⟨1, _⟩ => exact (Nat.mod_eq_of_lt (x 1).isLt).symm

end Cert.Own
-- ==== Proof.Qkv.lean ====
module

public import proofs.«01_k».proof.Proof.Gen.KernelIdeal.Value
public import proofs.«01_k».proof.Proof.Gen.ReferenceIdeal.Value
public import proofs.«01_k».proof.Defs
public import proofs.«01_k».proof.Proof.Common

@[expose] public section
set_option maxRecDepth 16384

noncomputable section
open Idealize.ShloMosaic Idealize.ShloMosaic.TcCoe Idealize.SL.Sem Cert.Own

namespace Cert.KernelIdeal.Own
open Cert.KernelIdeal Cert.KernelIdeal.Gen
variable {F : FTy → Type} [FloatOps F]

/-- The dequantised weight column block of width 256 numbered `nb`: the codes of the block widened to bf16, each times
    the bf16 scale of the 128 × 128 block it lies in. `x1` holds the codes of this block, `x2` all scales. -/
def wide (nb : Fin 7) (x1 : Vec F S5120x256 .fp8e4m3) (x2 : Vec F S40x84 .f32) : Vec F S5120x256 .bf16 := fun y =>
  FloatOps.mulf (FloatOps.extf .bf16 bitsLt_fp8e4m3_bf16 (x1 y))
    (Scalar.truncf .bf16 bitsLt_bf16_f32 (x2 (Idealize.ShloMosaic.ValueIdx.ix2 ⟨(y 0).val / 128, by have : (y 0).val < 5120 := (y 0).isLt; omega⟩
      ⟨2 * nb.val + (y 1).val / 128, by have : (y 1).val < 256 := (y 1).isLt; omega⟩)))

/-- The scale word's column, computed in 32-bit arithmetic, is `2 n + q`. -/
theorem col_word0 (n : Fin 7) :
    BitVec.toNat (Scalar.indexCast (Scalar.addi (Scalar.muli (BitVec.ofNat 32 n.val) 2#32) 0#32)) = 2 * n.val + 0 := by
  revert n; decide +kernel
theorem col_word1 (n : Fin 7) :
    BitVec.toNat (Scalar.indexCast (Scalar.addi (Scalar.muli (BitVec.ofNat 32 n.val) 2#32) 1#32)) = 2 * n.val + 1 := by
  revert n; decide +kernel

/-- One store of the fill: what a 128 × 128 store writes is `wide` on its rectangle. -/
theorem piece (nb : Fin 7) (arg3 : Memref sig .tc .vmem S5120x256 .fp8e4m3) (harg3 : arg3.IsWhole) (arg4 : Memref sig .tc .smem S40x84 .f32) (harg4 : arg4.IsWhole)
    (x1 : Vec F S5120x256 .fp8e4m3) (x2 : Vec F S40x84 .f32) (a b : Nat) (inb) (r : Nat)
    (w : Nat) (sinb) (j) (v : FVec F S128x128 .fp8e4m3) (sc : F .f32) (P : FVec F S128x128 .bf16)
    (hP : P = shapeCast S128x128 (mulf (extf .bf16 v bitsLt_fp8e4m3_bf16) (broadcast S128x128 (Scalar.truncf .bf16 bitsLt_bf16_f32 sc))) shapeCasts_S128x128_S128x128)
    (hv : v = View.readAt (Elt F) arg3.view (Rect.unit (s := S5120x256) ![a, b] ![128, 128] inb).toLoadRect (harg3.unread x1))
    (hsc : sc = View.readAt (Elt F) arg4.view (Rect.unit (s := S40x84) ![r, w] ![1, 1] sinb).toLoadRect (harg4.unread x2) j)
    (ha : a = 128 * r) (hb : b % 128 = 0) (hw : w = 2 * nb.val + b / 128) :
    ∀ x : (Rect.unit (s := S5120x256) ![a, b] ![128, 128] inb).shape.Idx, P x
      = wide nb x1 x2 ((Rect.unit (s := S5120x256) ![a, b] ![128, 128] inb).emb x) := by
  intro x
  obtain ⟨q, rfl⟩ : ∃ q, b = 128 * q := ⟨b / 128, by omega⟩
  rw [Nat.mul_div_cancel_left q (by decide)] at hw
  subst ha hw hP hv hsc
  rw [shapeCast_self]
  unfold wide
  show FloatOps.mulf (FloatOps.extf .bf16 bitsLt_fp8e4m3_bf16 (View.readAt (Elt F) arg3.view (Rect.unit (s := S5120x256) ![128 * r, 128 * q] ![128, 128] inb).toLoadRect (harg3.unread x1) x)) (Scalar.truncf .bf16 bitsLt_bf16_f32 _) = _
  rw [View.readAt_eq_ld, View.readAt_eq_ld, harg3.read_unread, harg4.read_unread]
  have hj0 : (j 0).val = 0 := by have : (j 0).val < 1 := (j 0).isLt; omega
  have hj1 : (j 1).val = 0 := by have : (j 1).val < 1 := (j 1).isLt; omega
  have hx0 : (x 0).val < 128 := (x 0).isLt
  have hx1 : (x 1).val < 128 := (x 1).isLt
  have he : (Rect.unit (s := S5120x256) ![128 * r, 128 * q] ![128, 128] inb).emb x = (Rect.unit (s := S5120x256) ![128 * r, 128 * q] ![128, 128] inb).idx x := rfl
  have e0 := Rect.idx_unit_val (s := S5120x256) ![128 * r, 128 * q] ![128, 128] inb x 0
  have e1 := Rect.idx_unit_val (s := S5120x256) ![128 * r, 128 * q] ![128, 128] inb x 1
  have e0' : ((Rect.unit (s := S5120x256) ![128 * r, 128 * q] ![128, 128] inb).idx x 0 : Nat) = 128 * r + (x 0).val := e0
  have e1' : ((Rect.unit (s := S5120x256) ![128 * r, 128 * q] ![128, 128] inb).idx x 1 : Nat) = 128 * q + (x 1).val := e1
  rw [he]
  show FloatOps.mulf (FloatOps.extf .bf16 bitsLt_fp8e4m3_bf16 (x1 ((Rect.unit (s := S5120x256) ![128 * r, 128 * q] ![128, 128] inb).idx x))) (Scalar.truncf .bf16 bitsLt_bf16_f32 _) = _
  congr 2
  refine View.ld_unit_apply_of x2 _ _ sinb j _ (fun a => ?_)
  match a with
  | ⟨0, _⟩ => show ((Rect.unit (s := S5120x256) ![128 * r, 128 * q] ![128, 128] inb).idx x 0 : Nat) / 128 = r + (j 0).val; omega
  | ⟨1, _⟩ => show 2 * nb.val + ((Rect.unit (s := S5120x256) ![128 * r, 128 * q] ![128, 128] inb).idx x 1 : Nat) / 128 = 2 * nb.val + q + (j 1).val; omega

set_option maxHeartbeats 4000000 in
theorem pieces_A (c : Dev nD) (i : grid0.Coords) (arg2 : Memref sig .tc .vmem S1024x5120 .bf16) (harg2 : arg2.IsWhole) (arg3 : Memref sig .tc .vmem S5120x256 .fp8e4m3) (harg3 : arg3.IsWhole) (arg4 : Memref sig .tc .smem S40x84 .f32) (harg4 : arg4.IsWhole) (arg5 : Memref sig .tc .vmem S1024x256 .bf16) (harg5 : arg5.IsWhole) (arg6 : Memref sig .tc .vmem S5120x256 .bf16) (harg6 : arg6.IsWhole) (hc0 : cond0_0 i)
    (x0 : Vec F S1024x5120 .bf16) (x1 : Vec F S5120x256 .fp8e4m3) (x2 : Vec F S40x84 .f32) :
    ∀ p ∈ (kernelRun0_A c i arg2 harg2 arg3 harg3 arg4 harg4 arg5 harg5 arg6 harg6 hc0 x0 x1 x2).2.1, ∀ x, p.2 x = wide (i 0) x1 x2 (p.1.emb x) := by
  unfold kernelRun0_A
  dsimp only
  sl_unfold_words
  simp only [List.forall_mem_cons]
  repeat' refine And.intro ?_ ?_
  all_goals first
    | exact fun p hp => absurd hp List.not_mem_nil
    | exact piece (i 0) arg3 harg3 arg4 harg4 x1 x2 _ _ _ _ _ _ _ _ _ _ rfl rfl rfl rfl rfl (col_word0 (i 0))
    | exact piece (i 0) arg3 harg3 arg4 harg4 x1 x2 _ _ _ _ _ _ _ _ _ _ rfl rfl rfl rfl rfl (col_word1 (i 0))
/-- The filled scratch. -/
theorem sout_A (c : Dev nD) (i : grid0.Coords) (arg2 : Memref sig .tc .vmem S1024x5120 .bf16) (harg2 : arg2.IsWhole) (arg3 : Memref sig .tc .vmem S5120x256 .fp8e4m3) (harg3 : arg3.IsWhole) (arg4 : Memref sig .tc .smem S40x84 .f32) (harg4 : arg4.IsWhole) (arg5 : Memref sig .tc .vmem S1024x256 .bf16) (harg5 : arg5.IsWhole) (arg6 : Memref sig .tc .vmem S5120x256 .bf16) (harg6 : arg6.IsWhole) (hc0 : cond0_0 i)
    (x0 : Vec F S1024x5120 .bf16) (x1 : Vec F S5120x256 .fp8e4m3) (x2 : Vec F S40x84 .f32) :
    sout0_A_0 c i arg2 harg2 arg3 harg3 arg4 harg4 arg5 harg5 arg6 harg6 hc0 x0 x1 x2 = wide (i 0) x1 x2 := by
  funext y
  unfold sout0_A_0
  exact View.read_writes_apply_of_pieces _ _ _ _ (pieces_A c i arg2 harg2 arg3 harg3 arg4 harg4 arg5 harg5 arg6 harg6 hc0 x0 x1 x2) y (scover0_A_0 c i arg2 harg2 arg3 harg3 arg4 harg4 arg5 harg5 arg6 harg6 hc0 x0 x1 x2 y)

/-- The product block stored at a point, from the activations' block and the filled scratch. -/
abbrev prod (x0 : Vec F S1024x5120 .bf16) (w : Vec F S5120x256 .bf16) : Vec F S1024x256 .bf16 := k0_pay2 x0 w

theorem out_B (c : Dev nD) (i : grid0.Coords) (arg2 : Memref sig .tc .vmem S1024x5120 .bf16) (harg2 : arg2.IsWhole) (arg3 : Memref sig .tc .vmem S5120x256 .fp8e4m3) (harg3 : arg3.IsWhole) (arg4 : Memref sig .tc .smem S40x84 .f32) (harg4 : arg4.IsWhole) (arg5 : Memref sig .tc .vmem S1024x256 .bf16) (harg5 : arg5.IsWhole) (arg6 : Memref sig .tc .vmem S5120x256 .bf16) (harg6 : arg6.IsWhole) (hc0 : ¬cond0_0 i)
    (x0 : Vec F S1024x5120 .bf16) (x1 : Vec F S5120x256 .fp8e4m3) (x2 : Vec F S40x84 .f32) (xs : Vec F S5120x256 .bf16) :
    out0_B_3 c i arg2 harg2 arg3 harg3 arg4 harg4 arg5 harg5 arg6 harg6 hc0 x0 x1 x2 xs = prod x0 xs := by
  unfold out0_B_3
  rw [View.read_writes_eq_canon _ _ _ (cover0_B_3 c i arg2 harg2 arg3 harg3 arg4 harg4 arg5 harg5 arg6 harg6 hc0 x0 x1 x2 xs)]
  unfold kernelRun0_B
  dsimp only
  sl_unfold_words
  rw [View.canon_unit_zero hz]
  simp only [View.readAt_eq_ld, harg2.read_unread, harg6.read_unread, View.ld_unit_zero (S := S1024x5120) hz, View.ld_unit_zero (S := S5120x256) hz]

/-- A whole load of a buffer filled by stores that all agree with `G` and cover it reads `G`. -/
theorem cov_eq (v : Memref sig .tc .vmem S5120x256 .bf16) (L : List (View.Piece (Elt F) S5120x256 .bf16)) (inb) (G : Vec F S5120x256 .bf16)
    (hG : ∀ p ∈ L, ∀ x, p.2 x = G (p.1.emb x)) (hc : ∀ y, ∃ p ∈ L, y ∈ p.1.set) :
    v.view.readCov L (Rect.unit (s := S5120x256) ![0, 0] S5120x256.size inb).toLoadRect = G := by
  funext y
  show v.view.readAt (Elt F) _ _ y = _
  rw [View.readAt_eq_ld, View.ld_unit_zero (S := S5120x256) hz]
  exact View.read_writes_apply_of_pieces _ _ _ _ hG y (hc y)

theorem out_A (c : Dev nD) (i : grid0.Coords) (arg2 : Memref sig .tc .vmem S1024x5120 .bf16) (harg2 : arg2.IsWhole) (arg3 : Memref sig .tc .vmem S5120x256 .fp8e4m3) (harg3 : arg3.IsWhole) (arg4 : Memref sig .tc .smem S40x84 .f32) (harg4 : arg4.IsWhole) (arg5 : Memref sig .tc .vmem S1024x256 .bf16) (harg5 : arg5.IsWhole) (arg6 : Memref sig .tc .vmem S5120x256 .bf16) (harg6 : arg6.IsWhole) (hc0 : cond0_0 i)
    (x0 : Vec F S1024x5120 .bf16) (x1 : Vec F S5120x256 .fp8e4m3) (x2 : Vec F S40x84 .f32) :
    out0_A_3 c i arg2 harg2 arg3 harg3 arg4 harg4 arg5 harg5 arg6 harg6 hc0 x0 x1 x2 = prod x0 (wide (i 0) x1 x2) := by
  unfold out0_A_3
  rw [View.read_writes_eq_canon _ _ _ (cover0_A_3 c i arg2 harg2 arg3 harg3 arg4 harg4 arg5 harg5 arg6 harg6 hc0 x0 x1 x2)]
  have hL := cov_eq arg6 _ inb_S5120x256_S5120x256_0_0 _ (pieces_A c i arg2 harg2 arg3 harg3 arg4 harg4 arg5 harg5 arg6 harg6 hc0 x0 x1 x2)
    (scover0_A_0 c i arg2 harg2 arg3 harg3 arg4 harg4 arg5 harg5 arg6 harg6 hc0 x0 x1 x2)
  rw [← hL]
  unfold kernelRun0_A
  dsimp only
  rw [View.canon_unit_zero hz, View.readAt_eq_ld, harg2.read_unread, View.ld_unit_zero (S := S1024x5120) hz]
  exact rfl

/-! ## Across the grid -/
variable (m : (ℓ : Loc nD τ sig) → Buf (Elt F) ℓ) (ρ : Dev nD → PrngReg)

/-- The kernel's index maps at point `t`: the activations' block is `t % 8`, the weight column block `t / 8`. -/
theorem idx_facts : ∀ t : Fin cfg0.N, win0_0.index t (0 : Fin 2) = t.val % 8 ∧ win0_0.index t (1 : Fin 2) = 0
    ∧ win0_1.index t (0 : Fin 2) = 0 ∧ win0_1.index t (1 : Fin 2) = t.val / 8
    ∧ win0_2.index t (0 : Fin 2) = 0 ∧ win0_2.index t (1 : Fin 2) = 0
    ∧ win0_3.index t (0 : Fin 2) = t.val % 8 ∧ win0_3.index t (1 : Fin 2) = t.val / 8
    ∧ ((grid0.coords t) 0).val = t.val / 8 :=
  (by decide +kernel : ∀ t : Fin grid0.N, _)

abbrev arg0 (c : Dev nD) : Vec F S8192x5120 .bf16 := m ((c : Thread nD τ).loc main_arg0)
abbrev arg1 (c : Dev nD) : Vec F S5120x10752 .fp8e4m3 := m ((c : Thread nD τ).loc main_arg1)
abbrev arg2 (c : Dev nD) : Vec F S40x84 .f32 := m ((c : Thread nD τ).loc main_arg2)

/-- The dequantised weight column block `n` (256 columns), from the whole arrays. -/
def wcol (a1 : Vec F S5120x10752 .fp8e4m3) (a2 : Vec F S40x84 .f32) (n : Nat) : Vec F S5120x256 .bf16 := fun y =>
  FloatOps.mulf (FloatOps.extf .bf16 bitsLt_fp8e4m3_bf16 (a1 (at2 (by decide) (by decide) (y 0).val (256 * n + (y 1).val))))
    (Scalar.truncf .bf16 bitsLt_bf16_f32 (a2 (at2 (by decide) (by decide) ((y 0).val / 128) (2 * n + (y 1).val / 128))))

/-- The row block `n` (1024 rows) of the activations. -/
def xrow (a0 : Vec F S8192x5120 .bf16) (n : Nat) : Vec F S1024x5120 .bf16 := fun y =>
  a0 (at2 (by decide) (by decide) (1024 * n + (y 0).val) (y 1).val)

theorem iblk0_eq (c : Dev nD) (t : Fin cfg0.N) : (iblk m c 0 t : Vec F S1024x5120 .bf16) = xrow (arg0 m c) (t.val % 8) := by
  obtain ⟨e0, e1, -⟩ := idx_facts t
  funext y
  unfold iblk xrow
  rw [View.read_apply]
  show V m c main_arg0 _ = _
  rw [V_main_arg0]
  refine congrArg (m ((c : Thread nD τ).loc main_arg0)) (at2_eq _ _ _ _ _ ?_ ?_)
  · show win0_0.index t (0 : Fin 2) * 1024 + 1 * (y 0).val = _; omega
  · show win0_0.index t (1 : Fin 2) * 5120 + 1 * (y 1).val = _; omega

theorem iblk1_apply (c : Dev nD) (t : Fin cfg0.N) (y : S5120x256.Idx) : (iblk m c 1 t : Vec F S5120x256 .fp8e4m3) y
    = arg1 m c (at2 (by decide) (by decide) (y 0).val (256 * (t.val / 8) + (y 1).val)) := by
  obtain ⟨-, -, e0, e1, -⟩ := idx_facts t
  unfold iblk
  rw [View.read_apply]
  show V m c main_arg1 _ = _
  rw [V_main_arg1]
  refine congrArg (m ((c : Thread nD τ).loc main_arg1)) (at2_eq _ _ _ _ _ ?_ ?_)
  · show win0_1.index t (0 : Fin 2) * 5120 + 1 * (y 0).val = _; omega
  · show win0_1.index t (1 : Fin 2) * 256 + 1 * (y 1).val = _; omega

theorem iblk2_apply (c : Dev nD) (t : Fin cfg0.N) (y : S40x84.Idx) : (iblk m c 2 t : Vec F S40x84 .f32) y
    = arg2 m c (at2 (by decide) (by decide) (y 0).val (y 1).val) := by
  obtain ⟨-, -, -, -, e0, e1, -⟩ := idx_facts t
  unfold iblk
  rw [View.read_apply]
  show V m c main_arg2 _ = _
  rw [V_main_arg2]
  refine congrArg (m ((c : Thread nD τ).loc main_arg2)) (at2_eq _ _ _ _ _ ?_ ?_)
  · show win0_2.index t (0 : Fin 2) * 40 + 1 * (y 0).val = _; omega
  · show win0_2.index t (1 : Fin 2) * 84 + 1 * (y 1).val = _; omega

theorem wide_eq (c : Dev nD) (t : Fin cfg0.N) : wide ((grid0.coords t) 0) (iblk m c 1 t) (iblk m c 2 t) = wcol (arg1 m c) (arg2 m c) (t.val / 8) := by
  obtain ⟨-, -, -, -, -, -, -, -, e⟩ := idx_facts t
  funext y
  unfold wide wcol
  rw [iblk1_apply, iblk2_apply]
  show FloatOps.mulf _ (Scalar.truncf _ _ (arg2 m c (at2 _ _ ((y 0).val / 128) (2 * ((grid0.coords t) 0).val + (y 1).val / 128)))) = _
  rw [e]

/-- After every point: the output buffer holds the product of the row block with the dequantised column block, and the
    scratch holds that column block. -/
theorem outs_eq (c : Dev nD) : ∀ (n : ℕ) (h : n < cfg0.N), outsAt0 m c n h
    = (prod (xrow (arg0 m c) (n % 8)) (wcol (arg1 m c) (arg2 m c) (n / 8)), wcol (arg1 m c) (arg2 m c) (n / 8)) := by
  intro n
  induction n with
  | zero =>
    intro h
    refine (outsAt0_A m c ⟨0, h⟩ (Nat.zero_mod _)).trans ?_
    rw [out_A, sout_A, wide_eq, iblk0_eq]
  | succ n ih =>
    intro h
    by_cases h0 : (n + 1) % 8 = 0
    · refine (outsAt0_A m c ⟨n + 1, h⟩ h0).trans ?_
      rw [out_A, sout_A, wide_eq, iblk0_eq]
    · have hd : (n + 1) / 8 = n / 8 := by omega
      refine (outsAt0_B m c ⟨n + 1, h⟩ h0).trans ?_
      rw [out_B, iblk0_eq]
      unfold sout0_B_0
      show (prod _ (outsAt0 m c n _).2, (outsAt0 m c n _).2) = _
      rw [ih, hd]

/-- The whole result. -/
def whole (a0 : Vec F S8192x5120 .bf16) (a1 : Vec F S5120x10752 .fp8e4m3) (a2 : Vec F S40x84 .f32) : Vec F S8192x1792 .bf16 := fun i =>
  prod (xrow a0 ((i 0).val / 1024)) (wcol a1 a2 ((i 1).val / 256)) (at2 (by decide) (by decide) ((i 0).val % 1024) ((i 1).val % 256))

theorem flushed_eq (c : Dev nD) (t : Fin cfg0.N) (hf : (cfg0.win 3).flush t = true) :
    (dats m 0 c).flushed 3 t = ((cfg0.win 3).blk t).view.read (Elt F) (whole (arg0 m c) (arg1 m c) (arg2 m c)) := by
  show (cfg0.win 3).cut (grid0.coords t) ((dats m 0 c).after 3 t) = _
  obtain ⟨-, -, -, -, -, -, e0, e1, -⟩ := idx_facts t
  rw [after0_3, outs_eq]
  funext y
  have hy0 : (y 0).val < 1024 := (y 0).isLt
  have hy1 : (y 1).val < 256 := (y 1).isLt
  have hb0 : (((cfg0.win 3).blk t).view.emb y 0).val = win0_3.index t (0 : Fin 2) * 1024 + 1 * (y 0).val := rfl
  have hb1 : (((cfg0.win 3).blk t).view.emb y 1).val = win0_3.index t (1 : Fin 2) * 256 + 1 * (y 1).val := rfl
  show prod (xrow (arg0 m c) (t.val % 8)) (wcol (arg1 m c) (arg2 m c) (t.val / 8)) ((cfg0.win 3).xinj (grid0.coords t) y) = whole (arg0 m c) (arg1 m c) (arg2 m c) (((cfg0.win 3).blk t).view.emb y)
  unfold whole
  rw [show (((cfg0.win 3).blk t).view.emb y 0).val / 1024 = t.val % 8 from by omega, show (((cfg0.win 3).blk t).view.emb y 1).val / 256 = t.val / 8 from by omega,
    show (((cfg0.win 3).blk t).view.emb y 0).val % 1024 = (y 0).val from by omega, show (((cfg0.win 3).blk t).view.emb y 1).val % 256 = (y 1).val from by omega]
  exact congrArg _ (at2_eq (a := 1024) (b := 256) _ _ _ _ _ rfl rfl)

theorem final (c : Dev nD) : (dats m 0 c).arrAt 3 cfg0.N = whole (arg0 m c) (arg1 m c) (arg2 m c) :=
  (dats m 0 c).arrAt_eq_of_cover 3 _ (fun t hf => flushed_eq m c t hf) (fun i => (Value.covered_iff3 i).2 (by
    have h0 : (i 0).val < 8192 := (i 0).isLt; have h1 : (i 1).val < 1792 := (i 1).isLt; omega))

end Cert.KernelIdeal.Own

namespace Cert.KernelIdeal.Own
open Cert.KernelIdeal Cert.KernelIdeal.Gen

/-- Over the extended reals: entry `(r, n)` is the sum over `k` of the activation times code times block scale. -/
theorem whole_ideal (a0 : Vec Ideal S8192x5120 .bf16) (a1 : Vec Ideal S5120x10752 .fp8e4m3) (a2 : Vec Ideal S40x84 .f32) (i : S8192x1792.Idx) :
    whole a0 a1 a2 i = ∑ k : Fin 5120, a0 (at2 (by decide) (by decide) (i 0).val k.val) *
      (a1 (at2 (by decide) (by decide) k.val (i 1).val) * a2 (at2 (by decide) (by decide) (k.val / 128) ((i 1).val / 128))) := by
  have h0 : (i 0).val < 8192 := (i 0).isLt
  have h1 : (i 1).val < 1792 := (i 1).isLt
  unfold whole prod k0_pay2
  pointwise
  refine Finset.sum_congr rfl fun k _ => ?_
  have hk : k.val < 5120 := k.isLt
  unfold xrow wcol
  refine congrArg₂ (· * ·) (congrArg a0 (at2_eq _ _ _ _ _ ?_ ?_)) (congrArg₂ (· * ·) (congrArg a1 (at2_eq _ _ _ _ _ ?_ ?_)) (congrArg a2 (at2_eq _ _ _ _ _ ?_ ?_)))
  · show (1024 * ((i 0).val / 1024) + (i 0).val % 1024 % 1024) % 8192 = _; omega
  · show k.val % 5120 = _; omega
  · show k.val % 5120 = _; omega
  · show (256 * ((i 1).val / 256) + (i 1).val % 256 % 256) % 10752 = _; omega
  · show (k.val / 128) % 40 = _; omega
  · show (2 * ((i 1).val / 256) + (i 1).val % 256 % 256 / 128) % 84 = _; omega
end Cert.KernelIdeal.Own

namespace Cert.ReferenceIdeal.Own
open Cert.ReferenceIdeal Cert.ReferenceIdeal.Gen Cert.KernelIdeal.Own

theorem ref_ideal (a0 : Vec Ideal S8192x5120 .bf16) (a1 : Vec Ideal S5120x10752 .fp8e4m3) (a2 : Vec Ideal S40x84 .f32) (i : S8192x1792.Idx) :
    Cert.ReferenceIdeal.Value.G3 a0 a1 a2 i = ∑ k : Fin 5120, a0 (at2 (by decide) (by decide) (i 0).val k.val) *
      (a1 (at2 (by decide) (by decide) k.val (i 1).val) * a2 (at2 (by decide) (by decide) (k.val / 128) ((i 1).val / 128))) := by
  have h0 : (i 0).val < 8192 := (i 0).isLt
  have h1 : (i 1).val < 1792 := (i 1).isLt
  unfold Cert.ReferenceIdeal.Value.G3 k0_pay1
  pointwise
  refine Finset.sum_congr rfl fun k _ => ?_
  have hk : k.val < 5120 := k.isLt
  refine congrArg₂ (· * ·) (congrArg a0 (at2_eq _ _ _ _ _ rfl rfl)) (congrArg₂ (· * ·) (congrArg a1 (at2_eq _ _ _ _ _ rfl ?_)) (congrArg a2 (at2_eq _ _ _ _ _ rfl rfl)))
  show (i 1).val / 128 * 128 + (i 1).val % 128 = _; omega
end Cert.ReferenceIdeal.Own

namespace Cert.KernelIdeal.Own
open Cert.KernelIdeal Cert.KernelIdeal.Gen

/-- The two programs' results are equal over the extended reals. -/
theorem whole_eq (a0 : Vec Ideal S8192x5120 .bf16) (a1 : Vec Ideal S5120x10752 .fp8e4m3) (a2 : Vec Ideal S40x84 .f32) :
    Cert.ReferenceIdeal.Value.G3 a0 a1 a2 = whole a0 a1 a2 :=
  funext fun i => (Cert.ReferenceIdeal.Own.ref_ideal a0 a1 a2 i).trans (whole_ideal a0 a1 a2 i).symm

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v0) = whole (arg0 m c) (arg1 m c) (arg2 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

theorem algebraic : Cert.algebraic_KernelIdeal_ReferenceIdeal := by
  intro m ρ m' ρ' _ hag
  refine ⟨fun c => whole (arg0 m c) (arg1 m c) (arg2 m c), run m ρ, ?_⟩
  refine (θ_run (Cert.ReferenceIdeal.defs (F := Ideal)) _ _).mono (fun r h c => ?_) (Cert.ReferenceIdeal.Value.run (F := Ideal) m' ρ')
  obtain ⟨hv, h'⟩ := h c
  refine ⟨hv.trans ?_, h'⟩
  rw [(hag c).1, (hag c).2.1, (hag c).2.2]
  exact whole_eq _ _ _

end Cert.KernelIdeal.Own
-- ==== Proof.Down.lean ====
module

public import proofs.«01_k».proof.Proof.Gen.DownIdeal.Value
public import proofs.«01_k».proof.Proof.Gen.DownReferenceIdeal.Value
public import proofs.«01_k».proof.Defs
public import proofs.«01_k».proof.Proof.Common

@[expose] public section
set_option maxRecDepth 16384

noncomputable section
open Idealize.ShloMosaic Idealize.ShloMosaic.TcCoe Idealize.SL.Sem Cert.Own

namespace Cert.DownIdeal.Own
open Cert.DownIdeal Cert.DownIdeal.Gen
variable {F : FTy → Type} [FloatOps F]

/-- The dequantised weight column block of width 256 numbered `nb`: the codes of the block widened to bf16, each times
    the bf16 scale of the 128 × 128 block it lies in. `x1` holds the codes of this block, `x2` all scales. -/
def wide (nb : Fin 20) (x1 : Vec F S4480x256 .fp8e4m3) (x2 : Vec F S35x40 .f32) : Vec F S4480x256 .bf16 := fun y =>
  FloatOps.mulf (FloatOps.extf .bf16 bitsLt_fp8e4m3_bf16 (x1 y))
    (Scalar.truncf .bf16 bitsLt_bf16_f32 (x2 (Idealize.ShloMosaic.ValueIdx.ix2 ⟨(y 0).val / 128, by have : (y 0).val < 4480 := (y 0).isLt; omega⟩
      ⟨2 * nb.val + (y 1).val / 128, by have : (y 1).val < 256 := (y 1).isLt; omega⟩)))

/-- The scale word's column, computed in 32-bit arithmetic, is `2 n + q`. -/
theorem col_word0 (n : Fin 20) :
    BitVec.toNat (Scalar.indexCast (Scalar.addi (Scalar.muli (BitVec.ofNat 32 n.val) 2#32) 0#32)) = 2 * n.val + 0 := by
  revert n; decide +kernel
theorem col_word1 (n : Fin 20) :
    BitVec.toNat (Scalar.indexCast (Scalar.addi (Scalar.muli (BitVec.ofNat 32 n.val) 2#32) 1#32)) = 2 * n.val + 1 := by
  revert n; decide +kernel

/-- One store of the fill: what a 128 × 128 store writes is `wide` on its rectangle. -/
theorem piece (nb : Fin 20) (arg3 : Memref sig .tc .vmem S4480x256 .fp8e4m3) (harg3 : arg3.IsWhole) (arg4 : Memref sig .tc .smem S35x40 .f32) (harg4 : arg4.IsWhole)
    (x1 : Vec F S4480x256 .fp8e4m3) (x2 : Vec F S35x40 .f32) (a b : Nat) (inb) (r : Nat)
    (w : Nat) (sinb) (j) (v : FVec F S128x128 .fp8e4m3) (sc : F .f32) (P : FVec F S128x128 .bf16)
    (hP : P = shapeCast S128x128 (mulf (extf .bf16 v bitsLt_fp8e4m3_bf16) (broadcast S128x128 (Scalar.truncf .bf16 bitsLt_bf16_f32 sc))) shapeCasts_S128x128_S128x128)
    (hv : v = View.readAt (Elt F) arg3.view (Rect.unit (s := S4480x256) ![a, b] ![128, 128] inb).toLoadRect (harg3.unread x1))
    (hsc : sc = View.readAt (Elt F) arg4.view (Rect.unit (s := S35x40) ![r, w] ![1, 1] sinb).toLoadRect (harg4.unread x2) j)
    (ha : a = 128 * r) (hb : b % 128 = 0) (hw : w = 2 * nb.val + b / 128) :
    ∀ x : (Rect.unit (s := S4480x256) ![a, b] ![128, 128] inb).shape.Idx, P x
      = wide nb x1 x2 ((Rect.unit (s := S4480x256) ![a, b] ![128, 128] inb).emb x) := by
  intro x
  obtain ⟨q, rfl⟩ : ∃ q, b = 128 * q := ⟨b / 128, by omega⟩
  rw [Nat.mul_div_cancel_left q (by decide)] at hw
  subst ha hw hP hv hsc
  rw [shapeCast_self]
  unfold wide
  show FloatOps.mulf (FloatOps.extf .bf16 bitsLt_fp8e4m3_bf16 (View.readAt (Elt F) arg3.view (Rect.unit (s := S4480x256) ![128 * r, 128 * q] ![128, 128] inb).toLoadRect (harg3.unread x1) x)) (Scalar.truncf .bf16 bitsLt_bf16_f32 _) = _
  rw [View.readAt_eq_ld, View.readAt_eq_ld, harg3.read_unread, harg4.read_unread]
  have hj0 : (j 0).val = 0 := by have : (j 0).val < 1 := (j 0).isLt; omega
  have hj1 : (j 1).val = 0 := by have : (j 1).val < 1 := (j 1).isLt; omega
  have hx0 : (x 0).val < 128 := (x 0).isLt
  have hx1 : (x 1).val < 128 := (x 1).isLt
  have he : (Rect.unit (s := S4480x256) ![128 * r, 128 * q] ![128, 128] inb).emb x = (Rect.unit (s := S4480x256) ![128 * r, 128 * q] ![128, 128] inb).idx x := rfl
  have e0 := Rect.idx_unit_val (s := S4480x256) ![128 * r, 128 * q] ![128, 128] inb x 0
  have e1 := Rect.idx_unit_val (s := S4480x256) ![128 * r, 128 * q] ![128, 128] inb x 1
  have e0' : ((Rect.unit (s := S4480x256) ![128 * r, 128 * q] ![128, 128] inb).idx x 0 : Nat) = 128 * r + (x 0).val := e0
  have e1' : ((Rect.unit (s := S4480x256) ![128 * r, 128 * q] ![128, 128] inb).idx x 1 : Nat) = 128 * q + (x 1).val := e1
  rw [he]
  show FloatOps.mulf (FloatOps.extf .bf16 bitsLt_fp8e4m3_bf16 (x1 ((Rect.unit (s := S4480x256) ![128 * r, 128 * q] ![128, 128] inb).idx x))) (Scalar.truncf .bf16 bitsLt_bf16_f32 _) = _
  congr 2
  refine View.ld_unit_apply_of x2 _ _ sinb j _ (fun a => ?_)
  match a with
  | ⟨0, _⟩ => show ((Rect.unit (s := S4480x256) ![128 * r, 128 * q] ![128, 128] inb).idx x 0 : Nat) / 128 = r + (j 0).val; omega
  | ⟨1, _⟩ => show 2 * nb.val + ((Rect.unit (s := S4480x256) ![128 * r, 128 * q] ![128, 128] inb).idx x 1 : Nat) / 128 = 2 * nb.val + q + (j 1).val; omega

set_option maxHeartbeats 4000000 in
theorem pieces_A (c : Dev nD) (i : grid0.Coords) (arg2 : Memref sig .tc .vmem S1024x4480 .bf16) (harg2 : arg2.IsWhole) (arg3 : Memref sig .tc .vmem S4480x256 .fp8e4m3) (harg3 : arg3.IsWhole) (arg4 : Memref sig .tc .smem S35x40 .f32) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S4480x256 .bf16) (harg7 : arg7.IsWhole) (hc0 : cond0_0 i)
    (x0 : Vec F S1024x4480 .bf16) (x1 : Vec F S4480x256 .fp8e4m3) (x2 : Vec F S35x40 .f32) (x3 : Vec F S1024x256 .bf16) :
    ∀ p ∈ (kernelRun0_A c i arg2 harg2 arg3 harg3 arg4 harg4 arg5 harg5 arg6 harg6 arg7 harg7 hc0 x0 x1 x2 x3).2.1, ∀ x, p.2 x = wide (i 0) x1 x2 (p.1.emb x) := by
  unfold kernelRun0_A
  dsimp only
  sl_unfold_words
  simp only [List.forall_mem_cons]
  repeat' refine And.intro ?_ ?_
  all_goals first
    | exact fun p hp => absurd hp List.not_mem_nil
    | exact piece (i 0) arg3 harg3 arg4 harg4 x1 x2 _ _ _ _ _ _ _ _ _ _ rfl rfl rfl rfl rfl (col_word0 (i 0))
    | exact piece (i 0) arg3 harg3 arg4 harg4 x1 x2 _ _ _ _ _ _ _ _ _ _ rfl rfl rfl rfl rfl (col_word1 (i 0))
/-- The filled scratch. -/
theorem sout_A (c : Dev nD) (i : grid0.Coords) (arg2 : Memref sig .tc .vmem S1024x4480 .bf16) (harg2 : arg2.IsWhole) (arg3 : Memref sig .tc .vmem S4480x256 .fp8e4m3) (harg3 : arg3.IsWhole) (arg4 : Memref sig .tc .smem S35x40 .f32) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S4480x256 .bf16) (harg7 : arg7.IsWhole) (hc0 : cond0_0 i)
    (x0 : Vec F S1024x4480 .bf16) (x1 : Vec F S4480x256 .fp8e4m3) (x2 : Vec F S35x40 .f32) (x3 : Vec F S1024x256 .bf16) :
    sout0_A_0 c i arg2 harg2 arg3 harg3 arg4 harg4 arg5 harg5 arg6 harg6 arg7 harg7 hc0 x0 x1 x2 x3 = wide (i 0) x1 x2 := by
  funext y
  unfold sout0_A_0
  exact View.read_writes_apply_of_pieces _ _ _ _ (pieces_A c i arg2 harg2 arg3 harg3 arg4 harg4 arg5 harg5 arg6 harg6 arg7 harg7 hc0 x0 x1 x2 x3) y (scover0_A_0 c i arg2 harg2 arg3 harg3 arg4 harg4 arg5 harg5 arg6 harg6 arg7 harg7 hc0 x0 x1 x2 x3 y)

/-- The product block stored at a point, from the activations' block and the filled scratch. -/
abbrev prod (x0 : Vec F S1024x4480 .bf16) (w : Vec F S4480x256 .bf16) (x3 : Vec F S1024x256 .bf16) : Vec F S1024x256 .bf16 := k0_pay2 x0 w x3

theorem out_B (c : Dev nD) (i : grid0.Coords) (arg2 : Memref sig .tc .vmem S1024x4480 .bf16) (harg2 : arg2.IsWhole) (arg3 : Memref sig .tc .vmem S4480x256 .fp8e4m3) (harg3 : arg3.IsWhole) (arg4 : Memref sig .tc .smem S35x40 .f32) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S4480x256 .bf16) (harg7 : arg7.IsWhole) (hc0 : ¬cond0_0 i)
    (x0 : Vec F S1024x4480 .bf16) (x1 : Vec F S4480x256 .fp8e4m3) (x2 : Vec F S35x40 .f32) (x3 : Vec F S1024x256 .bf16) (xs : Vec F S4480x256 .bf16) :
    out0_B_4 c i arg2 harg2 arg3 harg3 arg4 harg4 arg5 harg5 arg6 harg6 arg7 harg7 hc0 x0 x1 x2 x3 xs = prod x0 xs x3 := by
  unfold out0_B_4
  rw [View.read_writes_eq_canon _ _ _ (cover0_B_4 c i arg2 harg2 arg3 harg3 arg4 harg4 arg5 harg5 arg6 harg6 arg7 harg7 hc0 x0 x1 x2 x3 xs)]
  unfold kernelRun0_B
  dsimp only
  sl_unfold_words
  rw [View.canon_unit_zero hz]
  simp only [View.readAt_eq_ld, harg2.read_unread, harg5.read_unread, harg7.read_unread, View.ld_unit_zero (S := S1024x256) hz, View.ld_unit_zero (S := S1024x4480) hz, View.ld_unit_zero (S := S4480x256) hz]

/-- A whole load of a buffer filled by stores that all agree with `G` and cover it reads `G`. -/
theorem cov_eq (v : Memref sig .tc .vmem S4480x256 .bf16) (L : List (View.Piece (Elt F) S4480x256 .bf16)) (inb) (G : Vec F S4480x256 .bf16)
    (hG : ∀ p ∈ L, ∀ x, p.2 x = G (p.1.emb x)) (hc : ∀ y, ∃ p ∈ L, y ∈ p.1.set) :
    v.view.readCov L (Rect.unit (s := S4480x256) ![0, 0] S4480x256.size inb).toLoadRect = G := by
  funext y
  show v.view.readAt (Elt F) _ _ y = _
  rw [View.readAt_eq_ld, View.ld_unit_zero (S := S4480x256) hz]
  exact View.read_writes_apply_of_pieces _ _ _ _ hG y (hc y)

theorem out_A (c : Dev nD) (i : grid0.Coords) (arg2 : Memref sig .tc .vmem S1024x4480 .bf16) (harg2 : arg2.IsWhole) (arg3 : Memref sig .tc .vmem S4480x256 .fp8e4m3) (harg3 : arg3.IsWhole) (arg4 : Memref sig .tc .smem S35x40 .f32) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S4480x256 .bf16) (harg7 : arg7.IsWhole) (hc0 : cond0_0 i)
    (x0 : Vec F S1024x4480 .bf16) (x1 : Vec F S4480x256 .fp8e4m3) (x2 : Vec F S35x40 .f32) (x3 : Vec F S1024x256 .bf16) :
    out0_A_4 c i arg2 harg2 arg3 harg3 arg4 harg4 arg5 harg5 arg6 harg6 arg7 harg7 hc0 x0 x1 x2 x3 = prod x0 (wide (i 0) x1 x2) x3 := by
  unfold out0_A_4
  rw [View.read_writes_eq_canon _ _ _ (cover0_A_4 c i arg2 harg2 arg3 harg3 arg4 harg4 arg5 harg5 arg6 harg6 arg7 harg7 hc0 x0 x1 x2 x3)]
  have hL := cov_eq arg7 _ inb_S4480x256_S4480x256_0_0 _ (pieces_A c i arg2 harg2 arg3 harg3 arg4 harg4 arg5 harg5 arg6 harg6 arg7 harg7 hc0 x0 x1 x2 x3)
    (scover0_A_0 c i arg2 harg2 arg3 harg3 arg4 harg4 arg5 harg5 arg6 harg6 arg7 harg7 hc0 x0 x1 x2 x3)
  rw [← hL]
  unfold kernelRun0_A
  dsimp only
  rw [View.canon_unit_zero hz, View.readAt_eq_ld, harg2.read_unread, View.ld_unit_zero (S := S1024x4480) hz, View.readAt_eq_ld, harg5.read_unread, View.ld_unit_zero (S := S1024x256) hz]
  exact rfl

/-! ## Across the grid -/
variable (m : (ℓ : Loc nD τ sig) → Buf (Elt F) ℓ) (ρ : Dev nD → PrngReg)

/-- The kernel's index maps at point `t`: the activations' block is `t % 8`, the weight column block `t / 8`. -/
theorem idx_facts : ∀ t : Fin cfg0.N, win0_0.index t (0 : Fin 2) = t.val % 8 ∧ win0_0.index t (1 : Fin 2) = 0
    ∧ win0_1.index t (0 : Fin 2) = 0 ∧ win0_1.index t (1 : Fin 2) = t.val / 8
    ∧ win0_2.index t (0 : Fin 2) = 0 ∧ win0_2.index t (1 : Fin 2) = 0
    ∧ win0_3.index t (0 : Fin 2) = t.val % 8 ∧ win0_3.index t (1 : Fin 2) = t.val / 8
    ∧ win0_4.index t (0 : Fin 2) = t.val % 8 ∧ win0_4.index t (1 : Fin 2) = t.val / 8
    ∧ ((grid0.coords t) 0).val = t.val / 8 :=
  (by decide +kernel : ∀ t : Fin grid0.N, _)

abbrev arg0 (c : Dev nD) : Vec F S8192x4480 .bf16 := m ((c : Thread nD τ).loc main_arg0)
abbrev arg1 (c : Dev nD) : Vec F S4480x5120 .fp8e4m3 := m ((c : Thread nD τ).loc main_arg1)
abbrev arg2 (c : Dev nD) : Vec F S35x40 .f32 := m ((c : Thread nD τ).loc main_arg2)
abbrev arg3 (c : Dev nD) : Vec F S8192x5120 .bf16 := m ((c : Thread nD τ).loc main_arg3)

/-- The dequantised weight column block `n` (256 columns), from the whole arrays. -/
def wcol (a1 : Vec F S4480x5120 .fp8e4m3) (a2 : Vec F S35x40 .f32) (n : Nat) : Vec F S4480x256 .bf16 := fun y =>
  FloatOps.mulf (FloatOps.extf .bf16 bitsLt_fp8e4m3_bf16 (a1 (at2 (by decide) (by decide) (y 0).val (256 * n + (y 1).val))))
    (Scalar.truncf .bf16 bitsLt_bf16_f32 (a2 (at2 (by decide) (by decide) ((y 0).val / 128) (2 * n + (y 1).val / 128))))

/-- The row block `n` (1024 rows) of the activations. -/
def xrow (a0 : Vec F S8192x4480 .bf16) (n : Nat) : Vec F S1024x4480 .bf16 := fun y =>
  a0 (at2 (by decide) (by decide) (1024 * n + (y 0).val) (y 1).val)

theorem iblk0_eq (c : Dev nD) (t : Fin cfg0.N) : (iblk m c 0 t : Vec F S1024x4480 .bf16) = xrow (arg0 m c) (t.val % 8) := by
  obtain ⟨e0, e1, -⟩ := idx_facts t
  funext y
  unfold iblk xrow
  rw [View.read_apply]
  show V m c main_arg0 _ = _
  rw [V_main_arg0]
  refine congrArg (m ((c : Thread nD τ).loc main_arg0)) (at2_eq _ _ _ _ _ ?_ ?_)
  · show win0_0.index t (0 : Fin 2) * 1024 + 1 * (y 0).val = _; omega
  · show win0_0.index t (1 : Fin 2) * 4480 + 1 * (y 1).val = _; omega

theorem iblk1_apply (c : Dev nD) (t : Fin cfg0.N) (y : S4480x256.Idx) : (iblk m c 1 t : Vec F S4480x256 .fp8e4m3) y
    = arg1 m c (at2 (by decide) (by decide) (y 0).val (256 * (t.val / 8) + (y 1).val)) := by
  obtain ⟨-, -, e0, e1, -⟩ := idx_facts t
  unfold iblk
  rw [View.read_apply]
  show V m c main_arg1 _ = _
  rw [V_main_arg1]
  refine congrArg (m ((c : Thread nD τ).loc main_arg1)) (at2_eq _ _ _ _ _ ?_ ?_)
  · show win0_1.index t (0 : Fin 2) * 4480 + 1 * (y 0).val = _; omega
  · show win0_1.index t (1 : Fin 2) * 256 + 1 * (y 1).val = _; omega

theorem iblk2_apply (c : Dev nD) (t : Fin cfg0.N) (y : S35x40.Idx) : (iblk m c 2 t : Vec F S35x40 .f32) y
    = arg2 m c (at2 (by decide) (by decide) (y 0).val (y 1).val) := by
  obtain ⟨-, -, -, -, e0, e1, -⟩ := idx_facts t
  unfold iblk
  rw [View.read_apply]
  show V m c main_arg2 _ = _
  rw [V_main_arg2]
  refine congrArg (m ((c : Thread nD τ).loc main_arg2)) (at2_eq _ _ _ _ _ ?_ ?_)
  · show win0_2.index t (0 : Fin 2) * 35 + 1 * (y 0).val = _; omega
  · show win0_2.index t (1 : Fin 2) * 40 + 1 * (y 1).val = _; omega

/-- The block of the residual at row block `n`, column block `k`. -/
def resid (a3 : Vec F S8192x5120 .bf16) (n k : Nat) : Vec F S1024x256 .bf16 := fun y =>
  a3 (at2 (by decide) (by decide) (1024 * n + (y 0).val) (256 * k + (y 1).val))

theorem iblk3_eq (c : Dev nD) (t : Fin cfg0.N) : (iblk m c 3 t : Vec F S1024x256 .bf16) = resid (arg3 m c) (t.val % 8) (t.val / 8) := by
  obtain ⟨-, -, -, -, -, -, e0, e1, -⟩ := idx_facts t
  funext y
  unfold iblk resid
  rw [View.read_apply]
  show V m c main_arg3 _ = _
  rw [V_main_arg3]
  refine congrArg (m ((c : Thread nD τ).loc main_arg3)) (at2_eq _ _ _ _ _ ?_ ?_)
  · show win0_3.index t (0 : Fin 2) * 1024 + 1 * (y 0).val = _; omega
  · show win0_3.index t (1 : Fin 2) * 256 + 1 * (y 1).val = _; omega

theorem wide_eq (c : Dev nD) (t : Fin cfg0.N) : wide ((grid0.coords t) 0) (iblk m c 1 t) (iblk m c 2 t) = wcol (arg1 m c) (arg2 m c) (t.val / 8) := by
  obtain ⟨-, -, -, -, -, -, -, -, -, -, e⟩ := idx_facts t
  funext y
  unfold wide wcol
  rw [iblk1_apply, iblk2_apply]
  show FloatOps.mulf _ (Scalar.truncf _ _ (arg2 m c (at2 _ _ ((y 0).val / 128) (2 * ((grid0.coords t) 0).val + (y 1).val / 128)))) = _
  rw [e]

/-- After every point: the output buffer holds the product of the row block with the dequantised column block, and the
    scratch holds that column block. -/
theorem outs_eq (c : Dev nD) : ∀ (n : ℕ) (h : n < cfg0.N), outsAt0 m c n h
    = (prod (xrow (arg0 m c) (n % 8)) (wcol (arg1 m c) (arg2 m c) (n / 8)) (resid (arg3 m c) (n % 8) (n / 8)), wcol (arg1 m c) (arg2 m c) (n / 8)) := by
  intro n
  induction n with
  | zero =>
    intro h
    refine (outsAt0_A m c ⟨0, h⟩ (Nat.zero_mod _)).trans ?_
    rw [out_A, sout_A, wide_eq, iblk0_eq, iblk3_eq]
  | succ n ih =>
    intro h
    by_cases h0 : (n + 1) % 8 = 0
    · refine (outsAt0_A m c ⟨n + 1, h⟩ h0).trans ?_
      rw [out_A, sout_A, wide_eq, iblk0_eq, iblk3_eq]
    · have hd : (n + 1) / 8 = n / 8 := by omega
      refine (outsAt0_B m c ⟨n + 1, h⟩ h0).trans ?_
      rw [out_B, iblk0_eq, iblk3_eq]
      unfold sout0_B_0
      show (prod _ (outsAt0 m c n _).2 _, (outsAt0 m c n _).2) = _
      rw [ih, hd]

/-- The whole result. -/
def whole (a0 : Vec F S8192x4480 .bf16) (a1 : Vec F S4480x5120 .fp8e4m3) (a2 : Vec F S35x40 .f32) (a3 : Vec F S8192x5120 .bf16) : Vec F S8192x5120 .bf16 := fun i =>
  prod (xrow a0 ((i 0).val / 1024)) (wcol a1 a2 ((i 1).val / 256)) (resid a3 ((i 0).val / 1024) ((i 1).val / 256)) (at2 (by decide) (by decide) ((i 0).val % 1024) ((i 1).val % 256))

theorem flushed_eq (c : Dev nD) (t : Fin cfg0.N) (hf : (cfg0.win 4).flush t = true) :
    (dats m 0 c).flushed 4 t = ((cfg0.win 4).blk t).view.read (Elt F) (whole (arg0 m c) (arg1 m c) (arg2 m c) (arg3 m c)) := by
  show (cfg0.win 4).cut (grid0.coords t) ((dats m 0 c).after 4 t) = _
  obtain ⟨-, -, -, -, -, -, -, -, e0, e1, -⟩ := idx_facts t
  rw [after0_4, outs_eq]
  funext y
  have hy0 : (y 0).val < 1024 := (y 0).isLt
  have hy1 : (y 1).val < 256 := (y 1).isLt
  have hb0 : (((cfg0.win 4).blk t).view.emb y 0).val = win0_4.index t (0 : Fin 2) * 1024 + 1 * (y 0).val := rfl
  have hb1 : (((cfg0.win 4).blk t).view.emb y 1).val = win0_4.index t (1 : Fin 2) * 256 + 1 * (y 1).val := rfl
  show prod (xrow (arg0 m c) (t.val % 8)) (wcol (arg1 m c) (arg2 m c) (t.val / 8)) (resid (arg3 m c) (t.val % 8) (t.val / 8)) ((cfg0.win 4).xinj (grid0.coords t) y) = whole (arg0 m c) (arg1 m c) (arg2 m c) (arg3 m c) (((cfg0.win 4).blk t).view.emb y)
  unfold whole
  rw [show (((cfg0.win 4).blk t).view.emb y 0).val / 1024 = t.val % 8 from by omega, show (((cfg0.win 4).blk t).view.emb y 1).val / 256 = t.val / 8 from by omega,
    show (((cfg0.win 4).blk t).view.emb y 0).val % 1024 = (y 0).val from by omega, show (((cfg0.win 4).blk t).view.emb y 1).val % 256 = (y 1).val from by omega]
  exact congrArg _ (at2_eq (a := 1024) (b := 256) _ _ _ _ _ rfl rfl)

theorem final (c : Dev nD) : (dats m 0 c).arrAt 4 cfg0.N = whole (arg0 m c) (arg1 m c) (arg2 m c) (arg3 m c) :=
  (dats m 0 c).arrAt_eq_of_cover 4 _ (fun t hf => flushed_eq m c t hf) (fun i => (Value.covered_iff4 i).2 (by
    have h0 : (i 0).val < 8192 := (i 0).isLt; have h1 : (i 1).val < 5120 := (i 1).isLt; omega))

end Cert.DownIdeal.Own

namespace Cert.DownIdeal.Own
open Cert.DownIdeal Cert.DownIdeal.Gen

/-- Over the extended reals: entry `(r, n)` is the sum over `k` of the activation times code times block scale. -/
theorem whole_ideal (a0 : Vec Ideal S8192x4480 .bf16) (a1 : Vec Ideal S4480x5120 .fp8e4m3) (a2 : Vec Ideal S35x40 .f32) (a3 : Vec Ideal S8192x5120 .bf16) (i : S8192x5120.Idx) :
    whole a0 a1 a2 a3 i = a3 (at2 (by decide) (by decide) (i 0).val (i 1).val) + ∑ k : Fin 4480, a0 (at2 (by decide) (by decide) (i 0).val k.val) *
      (a1 (at2 (by decide) (by decide) k.val (i 1).val) * a2 (at2 (by decide) (by decide) (k.val / 128) ((i 1).val / 128))) := by
  have h0 : (i 0).val < 8192 := (i 0).isLt
  have h1 : (i 1).val < 5120 := (i 1).isLt
  unfold whole prod k0_pay2
  pointwise
  refine congrArg₂ (· + ·) (congrArg a3 (at2_eq _ _ _ _ _ ?_ ?_)) ?_
  · show (1024 * ((i 0).val / 1024) + (i 0).val % 1024 % 1024) % 8192 = _; omega
  · show (256 * ((i 1).val / 256) + (i 1).val % 256 % 256) % 5120 = _; omega
  refine Finset.sum_congr rfl fun k _ => ?_
  have hk : k.val < 4480 := k.isLt
  unfold xrow wcol
  refine congrArg₂ (· * ·) (congrArg a0 (at2_eq _ _ _ _ _ ?_ ?_)) (congrArg₂ (· * ·) (congrArg a1 (at2_eq _ _ _ _ _ ?_ ?_)) (congrArg a2 (at2_eq _ _ _ _ _ ?_ ?_)))
  · show (1024 * ((i 0).val / 1024) + (i 0).val % 1024 % 1024) % 8192 = _; omega
  · show k.val % 4480 = _; omega
  · show k.val % 4480 = _; omega
  · show (256 * ((i 1).val / 256) + (i 1).val % 256 % 256) % 5120 = _; omega
  · show (k.val / 128) % 35 = _; omega
  · show (2 * ((i 1).val / 256) + (i 1).val % 256 % 256 / 128) % 40 = _; omega
end Cert.DownIdeal.Own

namespace Cert.DownReferenceIdeal.Own
open Cert.DownReferenceIdeal Cert.DownReferenceIdeal.Gen Cert.DownIdeal.Own

theorem ref_ideal (a0 : Vec Ideal S8192x4480 .bf16) (a1 : Vec Ideal S4480x5120 .fp8e4m3) (a2 : Vec Ideal S35x40 .f32) (a3 : Vec Ideal S8192x5120 .bf16) (i : S8192x5120.Idx) :
    Cert.DownReferenceIdeal.Value.G4 a0 a1 a2 a3 i = a3 (at2 (by decide) (by decide) (i 0).val (i 1).val) + ∑ k : Fin 4480, a0 (at2 (by decide) (by decide) (i 0).val k.val) *
      (a1 (at2 (by decide) (by decide) k.val (i 1).val) * a2 (at2 (by decide) (by decide) (k.val / 128) ((i 1).val / 128))) := by
  have h0 : (i 0).val < 8192 := (i 0).isLt
  have h1 : (i 1).val < 5120 := (i 1).isLt
  unfold Cert.DownReferenceIdeal.Value.G4 k0_pay1
  pointwise
  refine congrArg₂ (· + ·) (congrArg a3 (at2_eq _ _ _ _ _ rfl rfl)) ?_
  refine Finset.sum_congr rfl fun k _ => ?_
  have hk : k.val < 4480 := k.isLt
  refine congrArg₂ (· * ·) (congrArg a0 (at2_eq _ _ _ _ _ rfl rfl)) (congrArg₂ (· * ·) (congrArg a1 (at2_eq _ _ _ _ _ rfl rfl)) (congrArg a2 (at2_eq _ _ _ _ _ rfl rfl)))
end Cert.DownReferenceIdeal.Own

namespace Cert.DownIdeal.Own
open Cert.DownIdeal Cert.DownIdeal.Gen

/-- The two programs' results are equal over the extended reals. -/
theorem whole_eq (a0 : Vec Ideal S8192x4480 .bf16) (a1 : Vec Ideal S4480x5120 .fp8e4m3) (a2 : Vec Ideal S35x40 .f32) (a3 : Vec Ideal S8192x5120 .bf16) :
    Cert.DownReferenceIdeal.Value.G4 a0 a1 a2 a3 = whole a0 a1 a2 a3 :=
  funext fun i => (Cert.DownReferenceIdeal.Own.ref_ideal a0 a1 a2 a3 i).trans (whole_ideal a0 a1 a2 a3 i).symm

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v0) = whole (arg0 m c) (arg1 m c) (arg2 m c) (arg3 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

theorem algebraic : Cert.algebraic_DownIdeal_DownReferenceIdeal := by
  intro m ρ m' ρ' _ hag
  refine ⟨fun c => whole (arg0 m c) (arg1 m c) (arg2 m c) (arg3 m c), run m ρ, ?_⟩
  refine (θ_run (Cert.DownReferenceIdeal.defs (F := Ideal)) _ _).mono (fun r h c => ?_) (Cert.DownReferenceIdeal.Value.run (F := Ideal) m' ρ')
  obtain ⟨hv, h'⟩ := h c
  refine ⟨hv.trans ?_, h'⟩
  rw [(hag c).1, (hag c).2.1, (hag c).2.2.1, (hag c).2.2.2]
  exact whole_eq _ _ _ _

end Cert.DownIdeal.Own
-- ==== Proof.GateUpFill.lean ====
module

public import proofs.«01_k».proof.Proof.Gen.GateUpIdeal.Value
public import proofs.«01_k».proof.Proof.Common

/-! # The gate/up call: what one grid point computes, and the arrays after the run

At the first of the eight row blocks of a column block the kernel dequantises the 128 gate columns and the 128 up columns
side by side into its scratch (`wide`); at every row block it multiplies and stores the codes, the scales and the
dequantised values of that block (`codes`, `scales`, `deq`). -/

@[expose] public section
set_option maxRecDepth 16384

noncomputable section
open Idealize.ShloMosaic Idealize.ShloMosaic.TcCoe Idealize.SL.Sem Cert.Own

namespace Cert.GateUpIdeal.Own
open Cert.GateUpIdeal Cert.GateUpIdeal.Gen
variable {F : FTy → Type} [FloatOps F]

/-- The dequantised weights of column block `nb`: 128 gate columns, then 128 up columns; the codes widened to bf16, each
    times the bf16 scale of the 128 × 128 block it lies in. `x1`, `x2` hold the codes of the two blocks, `x3` all scales. -/
def wide (nb : Fin 35) (x1 x2 : Vec F S5120x128 .fp8e4m3) (x3 : Vec F S40x84 .f32) : Vec F S5120x256 .bf16 := fun y =>
  if (y 1).val < 128 then
    FloatOps.mulf (FloatOps.extf .bf16 bitsLt_fp8e4m3_bf16 (x1 (at2 (by decide) (by decide) (y 0).val (y 1).val)))
      (Scalar.truncf .bf16 bitsLt_bf16_f32 (x3 (at2 (by decide) (by decide) ((y 0).val / 128) (14 + nb.val))))
  else
    FloatOps.mulf (FloatOps.extf .bf16 bitsLt_fp8e4m3_bf16 (x2 (at2 (by decide) (by decide) (y 0).val (y 1).val)))
      (Scalar.truncf .bf16 bitsLt_bf16_f32 (x3 (at2 (by decide) (by decide) ((y 0).val / 128) (49 + nb.val))))

/-- The scale word's column, computed in 32-bit arithmetic. -/
theorem col_gate (n : Fin 35) :
    BitVec.toNat (Scalar.indexCast (Scalar.addi (Scalar.addi 14#32 (BitVec.ofNat 32 n.val)) 0#32)) = 14 + n.val := by
  revert n; decide +kernel
theorem col_up (n : Fin 35) :
    BitVec.toNat (Scalar.indexCast (Scalar.addi (Scalar.addi 49#32 (BitVec.ofNat 32 n.val)) 0#32)) = 49 + n.val := by
  revert n; decide +kernel

/-- One store of the fill, gate columns: what it writes is `wide` on its rectangle. -/
theorem piece_gate (nb : Fin 35) (arg3 : Memref sig .tc .vmem S5120x128 .fp8e4m3) (harg3 : arg3.IsWhole) (arg5 : Memref sig .tc .smem S40x84 .f32) (harg5 : arg5.IsWhole)
    (x1 x2 : Vec F S5120x128 .fp8e4m3) (x3 : Vec F S40x84 .f32) (a : Nat) (inb) (inb3) (r : Nat)
    (w : Nat) (sinb) (j) (v : FVec F S128x128 .fp8e4m3) (sc : F .f32) (P : FVec F S128x128 .bf16)
    (hP : P = shapeCast S128x128 (mulf (extf .bf16 v bitsLt_fp8e4m3_bf16) (broadcast S128x128 (Scalar.truncf .bf16 bitsLt_bf16_f32 sc))) shapeCasts_S128x128_S128x128)
    (hv : v = View.readAt (Elt F) arg3.view (Rect.unit (s := S5120x128) ![a, 0] ![128, 128] inb3).toLoadRect (harg3.unread x1))
    (hsc : sc = View.readAt (Elt F) arg5.view (Rect.unit (s := S40x84) ![r, w] ![1, 1] sinb).toLoadRect (harg5.unread x3) j)
    (ha : a = 128 * r) (hw : w = 14 + nb.val) :
    ∀ x : (Rect.unit (s := S5120x256) ![a, 0] ![128, 128] inb).shape.Idx, P x
      = wide nb x1 x2 x3 ((Rect.unit (s := S5120x256) ![a, 0] ![128, 128] inb).emb x) := by
  intro x
  subst ha hw hP hv hsc
  rw [shapeCast_self]
  unfold wide
  show FloatOps.mulf (FloatOps.extf .bf16 bitsLt_fp8e4m3_bf16 (View.readAt (Elt F) arg3.view (Rect.unit (s := S5120x128) ![128 * r, 0] ![128, 128] inb3).toLoadRect (harg3.unread x1) x)) (Scalar.truncf .bf16 bitsLt_bf16_f32 _) = _
  rw [View.readAt_eq_ld, View.readAt_eq_ld, harg3.read_unread, harg5.read_unread]
  have hj0 : (j 0).val = 0 := by have : (j 0).val < 1 := (j 0).isLt; omega
  have hj1 : (j 1).val = 0 := by have : (j 1).val < 1 := (j 1).isLt; omega
  have hx0 : (x 0).val < 128 := (x 0).isLt
  have hx1 : (x 1).val < 128 := (x 1).isLt
  have he : (Rect.unit (s := S5120x256) ![128 * r, 0] ![128, 128] inb).emb x = (Rect.unit (s := S5120x256) ![128 * r, 0] ![128, 128] inb).idx x := rfl
  have e0 : ((Rect.unit (s := S5120x256) ![128 * r, 0] ![128, 128] inb).idx x 0 : Nat) = 128 * r + (x 0).val := Rect.idx_unit_val (s := S5120x256) ![128 * r, 0] ![128, 128] inb x 0
  have e1 : ((Rect.unit (s := S5120x256) ![128 * r, 0] ![128, 128] inb).idx x 1 : Nat) = 0 + (x 1).val := Rect.idx_unit_val (s := S5120x256) ![128 * r, 0] ![128, 128] inb x 1
  rw [he]
  have hr : 128 * r + (x 0).val < 5120 := e0 ▸ ((Rect.unit (s := S5120x256) ![128 * r, 0] ![128, 128] inb).idx x 0).isLt
  rw [if_pos (by omega)]
  refine congrArg₂ FloatOps.mulf (congrArg _ ?_) (congrArg _ ?_)
  · refine View.ld_unit_apply_of x1 _ _ inb3 x _ (fun a => ?_)
    match a with
    | ⟨0, _⟩ => show ((Rect.unit (s := S5120x256) ![128 * r, 0] ![128, 128] inb).idx x 0 : Nat) % 5120 = 128 * r + (x 0).val; omega
    | ⟨1, _⟩ => show ((Rect.unit (s := S5120x256) ![128 * r, 0] ![128, 128] inb).idx x 1 : Nat) % 128 = 0 + (x 1).val; omega
  · refine View.ld_unit_apply_of x3 _ _ sinb j _ (fun a => ?_)
    match a with
    | ⟨0, _⟩ => show ((Rect.unit (s := S5120x256) ![128 * r, 0] ![128, 128] inb).idx x 0 : Nat) / 128 % 40 = r + (j 0).val; omega
    | ⟨1, _⟩ => show (14 + nb.val) % 84 = 14 + nb.val + (j 1).val; omega

/-- One store of the fill, up columns. -/
theorem piece_up (nb : Fin 35) (arg4 : Memref sig .tc .vmem S5120x128 .fp8e4m3) (harg4 : arg4.IsWhole) (arg5 : Memref sig .tc .smem S40x84 .f32) (harg5 : arg5.IsWhole)
    (x1 x2 : Vec F S5120x128 .fp8e4m3) (x3 : Vec F S40x84 .f32) (a : Nat) (inb) (inb3) (r : Nat)
    (w : Nat) (sinb) (j) (v : FVec F S128x128 .fp8e4m3) (sc : F .f32) (P : FVec F S128x128 .bf16)
    (hP : P = shapeCast S128x128 (mulf (extf .bf16 v bitsLt_fp8e4m3_bf16) (broadcast S128x128 (Scalar.truncf .bf16 bitsLt_bf16_f32 sc))) shapeCasts_S128x128_S128x128)
    (hv : v = View.readAt (Elt F) arg4.view (Rect.unit (s := S5120x128) ![a, 0] ![128, 128] inb3).toLoadRect (harg4.unread x2))
    (hsc : sc = View.readAt (Elt F) arg5.view (Rect.unit (s := S40x84) ![r, w] ![1, 1] sinb).toLoadRect (harg5.unread x3) j)
    (ha : a = 128 * r) (hw : w = 49 + nb.val) :
    ∀ x : (Rect.unit (s := S5120x256) ![a, 128] ![128, 128] inb).shape.Idx, P x
      = wide nb x1 x2 x3 ((Rect.unit (s := S5120x256) ![a, 128] ![128, 128] inb).emb x) := by
  intro x
  subst ha hw hP hv hsc
  rw [shapeCast_self]
  unfold wide
  show FloatOps.mulf (FloatOps.extf .bf16 bitsLt_fp8e4m3_bf16 (View.readAt (Elt F) arg4.view (Rect.unit (s := S5120x128) ![128 * r, 0] ![128, 128] inb3).toLoadRect (harg4.unread x2) x)) (Scalar.truncf .bf16 bitsLt_bf16_f32 _) = _
  rw [View.readAt_eq_ld, View.readAt_eq_ld, harg4.read_unread, harg5.read_unread]
  have hj0 : (j 0).val = 0 := by have : (j 0).val < 1 := (j 0).isLt; omega
  have hj1 : (j 1).val = 0 := by have : (j 1).val < 1 := (j 1).isLt; omega
  have hx0 : (x 0).val < 128 := (x 0).isLt
  have hx1 : (x 1).val < 128 := (x 1).isLt
  have he : (Rect.unit (s := S5120x256) ![128 * r, 128] ![128, 128] inb).emb x = (Rect.unit (s := S5120x256) ![128 * r, 128] ![128, 128] inb).idx x := rfl
  have e0 : ((Rect.unit (s := S5120x256) ![128 * r, 128] ![128, 128] inb).idx x 0 : Nat) = 128 * r + (x 0).val := Rect.idx_unit_val (s := S5120x256) ![128 * r, 128] ![128, 128] inb x 0
  have e1 : ((Rect.unit (s := S5120x256) ![128 * r, 128] ![128, 128] inb).idx x 1 : Nat) = 128 + (x 1).val := Rect.idx_unit_val (s := S5120x256) ![128 * r, 128] ![128, 128] inb x 1
  rw [he]
  have hr : 128 * r + (x 0).val < 5120 := e0 ▸ ((Rect.unit (s := S5120x256) ![128 * r, 128] ![128, 128] inb).idx x 0).isLt
  rw [if_neg (by omega)]
  refine congrArg₂ FloatOps.mulf (congrArg _ ?_) (congrArg _ ?_)
  · refine View.ld_unit_apply_of x2 _ _ inb3 x _ (fun a => ?_)
    match a with
    | ⟨0, _⟩ => show ((Rect.unit (s := S5120x256) ![128 * r, 128] ![128, 128] inb).idx x 0 : Nat) % 5120 = 128 * r + (x 0).val; omega
    | ⟨1, _⟩ => show ((Rect.unit (s := S5120x256) ![128 * r, 128] ![128, 128] inb).idx x 1 : Nat) % 128 = 0 + (x 1).val; omega
  · refine View.ld_unit_apply_of x3 _ _ sinb j _ (fun a => ?_)
    match a with
    | ⟨0, _⟩ => show ((Rect.unit (s := S5120x256) ![128 * r, 128] ![128, 128] inb).idx x 0 : Nat) / 128 % 40 = r + (j 0).val; omega
    | ⟨1, _⟩ => show (49 + nb.val) % 84 = 49 + nb.val + (j 1).val; omega

end Cert.GateUpIdeal.Own
-- ==== Proof.GateUpScratch.lean ====
module

public import proofs.«01_k».proof.Proof.Gen.GateUpIdeal.Value
public import proofs.«01_k».proof.Proof.GateUpFill

/-! The gate/up call: the scratch after its 80 stores. -/

@[expose] public section
set_option maxRecDepth 16384

noncomputable section
open Idealize.ShloMosaic Idealize.ShloMosaic.TcCoe Idealize.SL.Sem Cert.Own

namespace Cert.GateUpIdeal.Own
open Cert.GateUpIdeal Cert.GateUpIdeal.Gen
variable {F : FTy → Type} [FloatOps F]
set_option maxHeartbeats 8000000 in
theorem pieces_A (c : Dev nD) (i : grid0.Coords) (arg2 : Memref sig .tc .vmem S1024x5120 .bf16) (harg2 : arg2.IsWhole) (arg3 : Memref sig .tc .vmem S5120x128 .fp8e4m3) (harg3 : arg3.IsWhole) (arg4 : Memref sig .tc .vmem S5120x128 .fp8e4m3) (harg4 : arg4.IsWhole) (arg5 : Memref sig .tc .smem S40x84 .f32) (harg5 : arg5.IsWhole) (arg6 : Memref sig .tc .vmem S1024x128 .fp8e4m3) (harg6 : arg6.IsWhole) (arg7 : Memref sig .tc .vmem S1x1024x1 .f32) (harg7 : arg7.IsWhole) (arg8 : Memref sig .tc .vmem S1024x128 .bf16) (harg8 : arg8.IsWhole) (arg9 : Memref sig .tc .vmem S5120x256 .bf16) (harg9 : arg9.IsWhole) (hc0 : cond0_0 i)
    (x0 : Vec F S1024x5120 .bf16) (x1 : Vec F S5120x128 .fp8e4m3) (x2 : Vec F S5120x128 .fp8e4m3) (x3 : Vec F S40x84 .f32) :
    ∀ p ∈ (kernelRun0_A c i arg2 harg2 arg3 harg3 arg4 harg4 arg5 harg5 arg6 harg6 arg7 harg7 arg8 harg8 arg9 harg9 hc0 x0 x1 x2 x3).2.2.2.1, ∀ x, p.2 x = wide (i 0) x1 x2 x3 (p.1.emb x) := by
  unfold kernelRun0_A
  dsimp only
  sl_unfold_words
  simp only [List.forall_mem_cons]
  iterate 40 refine And.intro (piece_up (i 0) arg4 harg4 arg5 harg5 x1 x2 x3 _ _ _ _ _ _ _ _ _ _ rfl rfl rfl rfl (col_up (i 0))) ?_
  iterate 40 refine And.intro (piece_gate (i 0) arg3 harg3 arg5 harg5 x1 x2 x3 _ _ _ _ _ _ _ _ _ _ rfl rfl rfl rfl (col_gate (i 0))) ?_
  exact fun p hp => absurd hp List.not_mem_nil

/-- The filled scratch. -/
theorem sout_A (c : Dev nD) (i : grid0.Coords) (arg2 : Memref sig .tc .vmem S1024x5120 .bf16) (harg2 : arg2.IsWhole) (arg3 : Memref sig .tc .vmem S5120x128 .fp8e4m3) (harg3 : arg3.IsWhole) (arg4 : Memref sig .tc .vmem S5120x128 .fp8e4m3) (harg4 : arg4.IsWhole) (arg5 : Memref sig .tc .smem S40x84 .f32) (harg5 : arg5.IsWhole) (arg6 : Memref sig .tc .vmem S1024x128 .fp8e4m3) (harg6 : arg6.IsWhole) (arg7 : Memref sig .tc .vmem S1x1024x1 .f32) (harg7 : arg7.IsWhole) (arg8 : Memref sig .tc .vmem S1024x128 .bf16) (harg8 : arg8.IsWhole) (arg9 : Memref sig .tc .vmem S5120x256 .bf16) (harg9 : arg9.IsWhole) (hc0 : cond0_0 i)
    (x0 : Vec F S1024x5120 .bf16) (x1 : Vec F S5120x128 .fp8e4m3) (x2 : Vec F S5120x128 .fp8e4m3) (x3 : Vec F S40x84 .f32) :
    sout0_A_0 c i arg2 harg2 arg3 harg3 arg4 harg4 arg5 harg5 arg6 harg6 arg7 harg7 arg8 harg8 arg9 harg9 hc0 x0 x1 x2 x3 = wide (i 0) x1 x2 x3 := by
  funext y
  unfold sout0_A_0
  exact View.read_writes_apply_of_pieces _ _ _ _ (pieces_A c i arg2 harg2 arg3 harg3 arg4 harg4 arg5 harg5 arg6 harg6 arg7 harg7 arg8 harg8 arg9 harg9 hc0 x0 x1 x2 x3) y (scover0_A_0 c i arg2 harg2 arg3 harg3 arg4 harg4 arg5 harg5 arg6 harg6 arg7 harg7 arg8 harg8 arg9 harg9 hc0 x0 x1 x2 x3 y)

end Cert.GateUpIdeal.Own
-- ==== Proof.GateUpBlock.lean ====
module

public import proofs.«01_k».proof.Proof.Gen.GateUpIdeal.Value
public import proofs.«01_k».proof.Proof.GateUpScratch

/-! The gate/up call: what one grid point stores. -/

@[expose] public section
set_option maxRecDepth 16384

noncomputable section
open Idealize.ShloMosaic Idealize.ShloMosaic.TcCoe Idealize.SL.Sem Cert.Own

namespace Cert.GateUpIdeal.Own
open Cert.GateUpIdeal Cert.GateUpIdeal.Gen
variable {F : FTy → Type} [FloatOps F]
theorem hz3 : (![0, 0, 0] : Fin 3 → Nat) = fun _ => 0 := funext fun a => by fin_cases a <;> rfl

/-- The exponents of a row block's scales, from the activations' block and the filled scratch. -/
abbrev expos (x0 : Vec F S1024x5120 .bf16) (w : Vec F S5120x256 .bf16) : IVec S1024x1 32 :=
  k0_pay114 (k0_pay110 x0 w) (k0_pay111 x0 w) (k0_pay112 x0 w) (k0_pay113 x0 w)
/-- The three blocks stored at a point. -/
abbrev codes (x0 : Vec F S1024x5120 .bf16) (w : Vec F S5120x256 .bf16) : Vec F S1024x128 .fp8e4m3 := k0_pay2 (k0_pay109 x0 w) (expos x0 w)
abbrev scales (x0 : Vec F S1024x5120 .bf16) (w : Vec F S5120x256 .bf16) : Vec F S1x1024x1 .f32 := k0_pay3 (expos x0 w) k0_pay115
abbrev deq (x0 : Vec F S1024x5120 .bf16) (w : Vec F S5120x256 .bf16) : Vec F S1024x128 .bf16 := k0_pay4 (k0_pay109 x0 w) (expos x0 w) k0_pay115

/-- A whole load of a buffer filled by stores that all agree with `G` and cover it reads `G`. -/
theorem cov_eq (v : Memref sig .tc .vmem S5120x256 .bf16) (L : List (View.Piece (Elt F) S5120x256 .bf16)) (inb) (G : Vec F S5120x256 .bf16)
    (hG : ∀ p ∈ L, ∀ x, p.2 x = G (p.1.emb x)) (hc : ∀ y, ∃ p ∈ L, y ∈ p.1.set) :
    v.view.readCov L (Rect.unit (s := S5120x256) ![0, 0] S5120x256.size inb).toLoadRect = G := by
  funext y
  show v.view.readAt (Elt F) _ _ y = _
  rw [View.readAt_eq_ld, View.ld_unit_zero (S := S5120x256) hz]
  exact View.read_writes_apply_of_pieces _ _ _ _ hG y (hc y)

theorem out_B_4 (c : Dev nD) (i : grid0.Coords) (arg2 : Memref sig .tc .vmem S1024x5120 .bf16) (harg2 : arg2.IsWhole) (arg3 : Memref sig .tc .vmem S5120x128 .fp8e4m3) (harg3 : arg3.IsWhole) (arg4 : Memref sig .tc .vmem S5120x128 .fp8e4m3) (harg4 : arg4.IsWhole) (arg5 : Memref sig .tc .smem S40x84 .f32) (harg5 : arg5.IsWhole) (arg6 : Memref sig .tc .vmem S1024x128 .fp8e4m3) (harg6 : arg6.IsWhole) (arg7 : Memref sig .tc .vmem S1x1024x1 .f32) (harg7 : arg7.IsWhole) (arg8 : Memref sig .tc .vmem S1024x128 .bf16) (harg8 : arg8.IsWhole) (arg9 : Memref sig .tc .vmem S5120x256 .bf16) (harg9 : arg9.IsWhole) (hc0 : ¬cond0_0 i)
    (x0 : Vec F S1024x5120 .bf16) (x1 : Vec F S5120x128 .fp8e4m3) (x2 : Vec F S5120x128 .fp8e4m3) (x3 : Vec F S40x84 .f32) (xs : Vec F S5120x256 .bf16) :
    out0_B_4 c i arg2 harg2 arg3 harg3 arg4 harg4 arg5 harg5 arg6 harg6 arg7 harg7 arg8 harg8 arg9 harg9 hc0 x0 x1 x2 x3 xs = codes x0 xs := by
  unfold out0_B_4
  rw [View.read_writes_eq_canon _ _ _ (cover0_B_4 c i arg2 harg2 arg3 harg3 arg4 harg4 arg5 harg5 arg6 harg6 arg7 harg7 arg8 harg8 arg9 harg9 hc0 x0 x1 x2 x3 xs)]
  unfold kernelRun0_B
  dsimp only
  sl_unfold_words
  rw [View.canon_unit_zero hz]
  simp only [View.readAt_eq_ld, harg2.read_unread, harg9.read_unread, View.ld_unit_zero (S := S1024x5120) hz, View.ld_unit_zero (S := S5120x256) hz]

theorem out_A_4 (c : Dev nD) (i : grid0.Coords) (arg2 : Memref sig .tc .vmem S1024x5120 .bf16) (harg2 : arg2.IsWhole) (arg3 : Memref sig .tc .vmem S5120x128 .fp8e4m3) (harg3 : arg3.IsWhole) (arg4 : Memref sig .tc .vmem S5120x128 .fp8e4m3) (harg4 : arg4.IsWhole) (arg5 : Memref sig .tc .smem S40x84 .f32) (harg5 : arg5.IsWhole) (arg6 : Memref sig .tc .vmem S1024x128 .fp8e4m3) (harg6 : arg6.IsWhole) (arg7 : Memref sig .tc .vmem S1x1024x1 .f32) (harg7 : arg7.IsWhole) (arg8 : Memref sig .tc .vmem S1024x128 .bf16) (harg8 : arg8.IsWhole) (arg9 : Memref sig .tc .vmem S5120x256 .bf16) (harg9 : arg9.IsWhole) (hc0 : cond0_0 i)
    (x0 : Vec F S1024x5120 .bf16) (x1 : Vec F S5120x128 .fp8e4m3) (x2 : Vec F S5120x128 .fp8e4m3) (x3 : Vec F S40x84 .f32) :
    out0_A_4 c i arg2 harg2 arg3 harg3 arg4 harg4 arg5 harg5 arg6 harg6 arg7 harg7 arg8 harg8 arg9 harg9 hc0 x0 x1 x2 x3 = codes x0 (wide (i 0) x1 x2 x3) := by
  unfold out0_A_4
  rw [View.read_writes_eq_canon _ _ _ (cover0_A_4 c i arg2 harg2 arg3 harg3 arg4 harg4 arg5 harg5 arg6 harg6 arg7 harg7 arg8 harg8 arg9 harg9 hc0 x0 x1 x2 x3)]
  have hL := cov_eq arg9 _ inb_S5120x256_S5120x256_0_0 _ (pieces_A c i arg2 harg2 arg3 harg3 arg4 harg4 arg5 harg5 arg6 harg6 arg7 harg7 arg8 harg8 arg9 harg9 hc0 x0 x1 x2 x3)
    (scover0_A_0 c i arg2 harg2 arg3 harg3 arg4 harg4 arg5 harg5 arg6 harg6 arg7 harg7 arg8 harg8 arg9 harg9 hc0 x0 x1 x2 x3)
  rw [← hL]
  unfold kernelRun0_A
  dsimp only
  rw [View.canon_unit_zero hz]
  have hx : View.readAt (Elt F) arg2.view (Rect.unit (s := S1024x5120) ![0, 0] S1024x5120.size inb_S1024x5120_S1024x5120_0_0).toLoadRect (harg2.unread x0) = x0 := by
    rw [View.readAt_eq_ld, harg2.read_unread, View.ld_unit_zero (S := S1024x5120) hz]
  conv_rhs => rw [← hx]
  exact rfl

theorem out_B_5 (c : Dev nD) (i : grid0.Coords) (arg2 : Memref sig .tc .vmem S1024x5120 .bf16) (harg2 : arg2.IsWhole) (arg3 : Memref sig .tc .vmem S5120x128 .fp8e4m3) (harg3 : arg3.IsWhole) (arg4 : Memref sig .tc .vmem S5120x128 .fp8e4m3) (harg4 : arg4.IsWhole) (arg5 : Memref sig .tc .smem S40x84 .f32) (harg5 : arg5.IsWhole) (arg6 : Memref sig .tc .vmem S1024x128 .fp8e4m3) (harg6 : arg6.IsWhole) (arg7 : Memref sig .tc .vmem S1x1024x1 .f32) (harg7 : arg7.IsWhole) (arg8 : Memref sig .tc .vmem S1024x128 .bf16) (harg8 : arg8.IsWhole) (arg9 : Memref sig .tc .vmem S5120x256 .bf16) (harg9 : arg9.IsWhole) (hc0 : ¬cond0_0 i)
    (x0 : Vec F S1024x5120 .bf16) (x1 : Vec F S5120x128 .fp8e4m3) (x2 : Vec F S5120x128 .fp8e4m3) (x3 : Vec F S40x84 .f32) (xs : Vec F S5120x256 .bf16) :
    out0_B_5 c i arg2 harg2 arg3 harg3 arg4 harg4 arg5 harg5 arg6 harg6 arg7 harg7 arg8 harg8 arg9 harg9 hc0 x0 x1 x2 x3 xs = scales x0 xs := by
  unfold out0_B_5
  rw [View.read_writes_eq_canon _ _ _ (cover0_B_5 c i arg2 harg2 arg3 harg3 arg4 harg4 arg5 harg5 arg6 harg6 arg7 harg7 arg8 harg8 arg9 harg9 hc0 x0 x1 x2 x3 xs)]
  unfold kernelRun0_B
  dsimp only
  sl_unfold_words
  rw [View.canon_unit_zero hz3]
  simp only [View.readAt_eq_ld, harg2.read_unread, harg9.read_unread, View.ld_unit_zero (S := S1024x5120) hz, View.ld_unit_zero (S := S5120x256) hz]

theorem out_A_5 (c : Dev nD) (i : grid0.Coords) (arg2 : Memref sig .tc .vmem S1024x5120 .bf16) (harg2 : arg2.IsWhole) (arg3 : Memref sig .tc .vmem S5120x128 .fp8e4m3) (harg3 : arg3.IsWhole) (arg4 : Memref sig .tc .vmem S5120x128 .fp8e4m3) (harg4 : arg4.IsWhole) (arg5 : Memref sig .tc .smem S40x84 .f32) (harg5 : arg5.IsWhole) (arg6 : Memref sig .tc .vmem S1024x128 .fp8e4m3) (harg6 : arg6.IsWhole) (arg7 : Memref sig .tc .vmem S1x1024x1 .f32) (harg7 : arg7.IsWhole) (arg8 : Memref sig .tc .vmem S1024x128 .bf16) (harg8 : arg8.IsWhole) (arg9 : Memref sig .tc .vmem S5120x256 .bf16) (harg9 : arg9.IsWhole) (hc0 : cond0_0 i)
    (x0 : Vec F S1024x5120 .bf16) (x1 : Vec F S5120x128 .fp8e4m3) (x2 : Vec F S5120x128 .fp8e4m3) (x3 : Vec F S40x84 .f32) :
    out0_A_5 c i arg2 harg2 arg3 harg3 arg4 harg4 arg5 harg5 arg6 harg6 arg7 harg7 arg8 harg8 arg9 harg9 hc0 x0 x1 x2 x3 = scales x0 (wide (i 0) x1 x2 x3) := by
  unfold out0_A_5
  rw [View.read_writes_eq_canon _ _ _ (cover0_A_5 c i arg2 harg2 arg3 harg3 arg4 harg4 arg5 harg5 arg6 harg6 arg7 harg7 arg8 harg8 arg9 harg9 hc0 x0 x1 x2 x3)]
  have hL := cov_eq arg9 _ inb_S5120x256_S5120x256_0_0 _ (pieces_A c i arg2 harg2 arg3 harg3 arg4 harg4 arg5 harg5 arg6 harg6 arg7 harg7 arg8 harg8 arg9 harg9 hc0 x0 x1 x2 x3)
    (scover0_A_0 c i arg2 harg2 arg3 harg3 arg4 harg4 arg5 harg5 arg6 harg6 arg7 harg7 arg8 harg8 arg9 harg9 hc0 x0 x1 x2 x3)
  rw [← hL]
  unfold kernelRun0_A
  dsimp only
  rw [View.canon_unit_zero hz3]
  have hx : View.readAt (Elt F) arg2.view (Rect.unit (s := S1024x5120) ![0, 0] S1024x5120.size inb_S1024x5120_S1024x5120_0_0).toLoadRect (harg2.unread x0) = x0 := by
    rw [View.readAt_eq_ld, harg2.read_unread, View.ld_unit_zero (S := S1024x5120) hz]
  conv_rhs => rw [← hx]
  exact rfl

theorem out_B_6 (c : Dev nD) (i : grid0.Coords) (arg2 : Memref sig .tc .vmem S1024x5120 .bf16) (harg2 : arg2.IsWhole) (arg3 : Memref sig .tc .vmem S5120x128 .fp8e4m3) (harg3 : arg3.IsWhole) (arg4 : Memref sig .tc .vmem S5120x128 .fp8e4m3) (harg4 : arg4.IsWhole) (arg5 : Memref sig .tc .smem S40x84 .f32) (harg5 : arg5.IsWhole) (arg6 : Memref sig .tc .vmem S1024x128 .fp8e4m3) (harg6 : arg6.IsWhole) (arg7 : Memref sig .tc .vmem S1x1024x1 .f32) (harg7 : arg7.IsWhole) (arg8 : Memref sig .tc .vmem S1024x128 .bf16) (harg8 : arg8.IsWhole) (arg9 : Memref sig .tc .vmem S5120x256 .bf16) (harg9 : arg9.IsWhole) (hc0 : ¬cond0_0 i)
    (x0 : Vec F S1024x5120 .bf16) (x1 : Vec F S5120x128 .fp8e4m3) (x2 : Vec F S5120x128 .fp8e4m3) (x3 : Vec F S40x84 .f32) (xs : Vec F S5120x256 .bf16) :
    out0_B_6 c i arg2 harg2 arg3 harg3 arg4 harg4 arg5 harg5 arg6 harg6 arg7 harg7 arg8 harg8 arg9 harg9 hc0 x0 x1 x2 x3 xs = deq x0 xs := by
  unfold out0_B_6
  rw [View.read_writes_eq_canon _ _ _ (cover0_B_6 c i arg2 harg2 arg3 harg3 arg4 harg4 arg5 harg5 arg6 harg6 arg7 harg7 arg8 harg8 arg9 harg9 hc0 x0 x1 x2 x3 xs)]
  unfold kernelRun0_B
  dsimp only
  sl_unfold_words
  rw [View.canon_unit_zero hz]
  simp only [View.readAt_eq_ld, harg2.read_unread, harg9.read_unread, View.ld_unit_zero (S := S1024x5120) hz, View.ld_unit_zero (S := S5120x256) hz]

theorem out_A_6 (c : Dev nD) (i : grid0.Coords) (arg2 : Memref sig .tc .vmem S1024x5120 .bf16) (harg2 : arg2.IsWhole) (arg3 : Memref sig .tc .vmem S5120x128 .fp8e4m3) (harg3 : arg3.IsWhole) (arg4 : Memref sig .tc .vmem S5120x128 .fp8e4m3) (harg4 : arg4.IsWhole) (arg5 : Memref sig .tc .smem S40x84 .f32) (harg5 : arg5.IsWhole) (arg6 : Memref sig .tc .vmem S1024x128 .fp8e4m3) (harg6 : arg6.IsWhole) (arg7 : Memref sig .tc .vmem S1x1024x1 .f32) (harg7 : arg7.IsWhole) (arg8 : Memref sig .tc .vmem S1024x128 .bf16) (harg8 : arg8.IsWhole) (arg9 : Memref sig .tc .vmem S5120x256 .bf16) (harg9 : arg9.IsWhole) (hc0 : cond0_0 i)
    (x0 : Vec F S1024x5120 .bf16) (x1 : Vec F S5120x128 .fp8e4m3) (x2 : Vec F S5120x128 .fp8e4m3) (x3 : Vec F S40x84 .f32) :
    out0_A_6 c i arg2 harg2 arg3 harg3 arg4 harg4 arg5 harg5 arg6 harg6 arg7 harg7 arg8 harg8 arg9 harg9 hc0 x0 x1 x2 x3 = deq x0 (wide (i 0) x1 x2 x3) := by
  unfold out0_A_6
  rw [View.read_writes_eq_canon _ _ _ (cover0_A_6 c i arg2 harg2 arg3 harg3 arg4 harg4 arg5 harg5 arg6 harg6 arg7 harg7 arg8 harg8 arg9 harg9 hc0 x0 x1 x2 x3)]
  have hL := cov_eq arg9 _ inb_S5120x256_S5120x256_0_0 _ (pieces_A c i arg2 harg2 arg3 harg3 arg4 harg4 arg5 harg5 arg6 harg6 arg7 harg7 arg8 harg8 arg9 harg9 hc0 x0 x1 x2 x3)
    (scover0_A_0 c i arg2 harg2 arg3 harg3 arg4 harg4 arg5 harg5 arg6 harg6 arg7 harg7 arg8 harg8 arg9 harg9 hc0 x0 x1 x2 x3)
  rw [← hL]
  unfold kernelRun0_A
  dsimp only
  rw [View.canon_unit_zero hz]
  have hx : View.readAt (Elt F) arg2.view (Rect.unit (s := S1024x5120) ![0, 0] S1024x5120.size inb_S1024x5120_S1024x5120_0_0).toLoadRect (harg2.unread x0) = x0 := by
    rw [View.readAt_eq_ld, harg2.read_unread, View.ld_unit_zero (S := S1024x5120) hz]
  conv_rhs => rw [← hx]
  exact rfl

end Cert.GateUpIdeal.Own
-- ==== Proof.GateUpArray.lean ====
module

public import proofs.«01_k».proof.Proof.GateUpBlock

/-! The gate/up call: the three arrays after the run, from the argument arrays. -/

@[expose] public section
set_option maxRecDepth 16384

noncomputable section
open Idealize.ShloMosaic Idealize.ShloMosaic.TcCoe Idealize.SL.Sem Cert.Own

namespace Cert.GateUpIdeal.Own
open Cert.GateUpIdeal Cert.GateUpIdeal.Gen
variable {F : FTy → Type} [FloatOps F]
variable (m : (ℓ : Loc nD τ sig) → Buf (Elt F) ℓ) (ρ : Dev nD → PrngReg)

/-- The kernel's index maps at point `t`: the activations' block is `t % 8`, the column block `t / 8`. -/
theorem idx_facts : ∀ t : Fin cfg0.N, win0_0.index t (0 : Fin 2) = t.val % 8 ∧ win0_0.index t (1 : Fin 2) = 0
    ∧ win0_1.index t (0 : Fin 2) = 0 ∧ win0_1.index t (1 : Fin 2) = 14 + t.val / 8
    ∧ win0_2.index t (0 : Fin 2) = 0 ∧ win0_2.index t (1 : Fin 2) = 49 + t.val / 8
    ∧ win0_3.index t (0 : Fin 2) = 0 ∧ win0_3.index t (1 : Fin 2) = 0
    ∧ win0_4.index t (0 : Fin 2) = t.val % 8 ∧ win0_4.index t (1 : Fin 2) = t.val / 8
    ∧ win0_5.index t (0 : Fin 3) = t.val / 8 ∧ win0_5.index t (1 : Fin 3) = t.val % 8 ∧ win0_5.index t (2 : Fin 3) = 0
    ∧ win0_6.index t (0 : Fin 2) = t.val % 8 ∧ win0_6.index t (1 : Fin 2) = t.val / 8
    ∧ ((grid0.coords t) 0).val = t.val / 8 :=
  (by decide +kernel : ∀ t : Fin grid0.N, _)

abbrev arg0 (c : Dev nD) : Vec F S8192x5120 .bf16 := m ((c : Thread nD τ).loc main_arg0)
abbrev arg1 (c : Dev nD) : Vec F S5120x10752 .fp8e4m3 := m ((c : Thread nD τ).loc main_arg1)
abbrev arg2 (c : Dev nD) : Vec F S40x84 .f32 := m ((c : Thread nD τ).loc main_arg2)

/-- The dequantised weights of column block `n`, from the whole arrays: 128 gate columns, then 128 up columns. -/
def wcol (a1 : Vec F S5120x10752 .fp8e4m3) (a2 : Vec F S40x84 .f32) (n : Nat) : Vec F S5120x256 .bf16 := fun y =>
  if (y 1).val < 128 then
    FloatOps.mulf (FloatOps.extf .bf16 bitsLt_fp8e4m3_bf16 (a1 (at2 (by decide) (by decide) (y 0).val (1792 + 128 * n + (y 1).val % 128))))
      (Scalar.truncf .bf16 bitsLt_bf16_f32 (a2 (at2 (by decide) (by decide) ((y 0).val / 128) (14 + n))))
  else
    FloatOps.mulf (FloatOps.extf .bf16 bitsLt_fp8e4m3_bf16 (a1 (at2 (by decide) (by decide) (y 0).val (6272 + 128 * n + (y 1).val % 128))))
      (Scalar.truncf .bf16 bitsLt_bf16_f32 (a2 (at2 (by decide) (by decide) ((y 0).val / 128) (49 + n))))

/-- The row block `n` (1024 rows) of the activations. -/
def xrow (a0 : Vec F S8192x5120 .bf16) (n : Nat) : Vec F S1024x5120 .bf16 := fun y =>
  a0 (at2 (by decide) (by decide) (1024 * n + (y 0).val) (y 1).val)

theorem iblk0_eq (c : Dev nD) (t : Fin cfg0.N) : (iblk m c 0 t : Vec F S1024x5120 .bf16) = xrow (arg0 m c) (t.val % 8) := by
  obtain ⟨e0, e1, -⟩ := idx_facts t
  funext y
  unfold iblk xrow
  rw [View.read_apply]
  show V m c main_arg0 _ = _
  rw [V_main_arg0]
  refine congrArg (m ((c : Thread nD τ).loc main_arg0)) (at2_eq _ _ _ _ _ ?_ ?_)
  · show win0_0.index t (0 : Fin 2) * 1024 + 1 * (y 0).val = _; omega
  · show win0_0.index t (1 : Fin 2) * 5120 + 1 * (y 1).val = _; omega

theorem iblk1_apply (c : Dev nD) (t : Fin cfg0.N) (y : S5120x128.Idx) : (iblk m c 1 t : Vec F S5120x128 .fp8e4m3) y
    = arg1 m c (at2 (by decide) (by decide) (y 0).val (1792 + 128 * (t.val / 8) + (y 1).val)) := by
  obtain ⟨-, -, e0, e1, -⟩ := idx_facts t
  unfold iblk
  rw [View.read_apply]
  show V m c main_arg1 _ = _
  rw [V_main_arg1]
  refine congrArg (m ((c : Thread nD τ).loc main_arg1)) (at2_eq _ _ _ _ _ ?_ ?_)
  · show win0_1.index t (0 : Fin 2) * 5120 + 1 * (y 0).val = _; omega
  · show win0_1.index t (1 : Fin 2) * 128 + 1 * (y 1).val = _; omega

theorem iblk2_apply (c : Dev nD) (t : Fin cfg0.N) (y : S5120x128.Idx) : (iblk m c 2 t : Vec F S5120x128 .fp8e4m3) y
    = arg1 m c (at2 (by decide) (by decide) (y 0).val (6272 + 128 * (t.val / 8) + (y 1).val)) := by
  obtain ⟨-, -, -, -, e0, e1, -⟩ := idx_facts t
  unfold iblk
  rw [View.read_apply]
  show V m c main_arg1 _ = _
  rw [V_main_arg1]
  refine congrArg (m ((c : Thread nD τ).loc main_arg1)) (at2_eq _ _ _ _ _ ?_ ?_)
  · show win0_2.index t (0 : Fin 2) * 5120 + 1 * (y 0).val = _; omega
  · show win0_2.index t (1 : Fin 2) * 128 + 1 * (y 1).val = _; omega

theorem iblk3_apply (c : Dev nD) (t : Fin cfg0.N) (y : S40x84.Idx) : (iblk m c 3 t : Vec F S40x84 .f32) y
    = arg2 m c (at2 (by decide) (by decide) (y 0).val (y 1).val) := by
  obtain ⟨-, -, -, -, -, -, e0, e1, -⟩ := idx_facts t
  unfold iblk
  rw [View.read_apply]
  show V m c main_arg2 _ = _
  rw [V_main_arg2]
  refine congrArg (m ((c : Thread nD τ).loc main_arg2)) (at2_eq _ _ _ _ _ ?_ ?_)
  · show win0_3.index t (0 : Fin 2) * 40 + 1 * (y 0).val = _; omega
  · show win0_3.index t (1 : Fin 2) * 84 + 1 * (y 1).val = _; omega

theorem wide_eq (c : Dev nD) (t : Fin cfg0.N) :
    wide ((grid0.coords t) 0) (iblk m c 1 t) (iblk m c 2 t) (iblk m c 3 t) = wcol (arg1 m c) (arg2 m c) (t.val / 8) := by
  obtain ⟨-, -, -, -, -, -, -, -, -, -, -, -, -, -, -, e⟩ := idx_facts t
  funext y
  have h0 : (y 0).val < 5120 := (y 0).isLt
  have ht : t.val < 280 := t.isLt
  unfold wide wcol
  rw [iblk1_apply, iblk2_apply, iblk3_apply, iblk3_apply, e]
  refine if_congr Iff.rfl (congrArg₂ FloatOps.mulf (congrArg _ (congrArg (arg1 m c) ?_)) (congrArg _ (congrArg (arg2 m c) ?_)))
    (congrArg₂ FloatOps.mulf (congrArg _ (congrArg (arg1 m c) ?_)) (congrArg _ (congrArg (arg2 m c) ?_)))
  · refine at2_eq _ _ _ _ _ ?_ ?_
    · show (y 0).val % 5120 % 5120 = _; omega
    · show (1792 + 128 * (t.val / 8) + (y 1).val % 128) % 10752 = _; omega
  · refine at2_eq _ _ _ _ _ ?_ ?_
    · show (y 0).val / 128 % 40 % 40 = _; omega
    · show (14 + t.val / 8) % 84 % 84 = _; omega
  · refine at2_eq _ _ _ _ _ ?_ ?_
    · show (y 0).val % 5120 % 5120 = _; omega
    · show (6272 + 128 * (t.val / 8) + (y 1).val % 128) % 10752 = _; omega
  · refine at2_eq _ _ _ _ _ ?_ ?_
    · show (y 0).val / 128 % 40 % 40 = _; omega
    · show (49 + t.val / 8) % 84 % 84 = _; omega

/-- After every point: the output buffers hold the row block's codes, scales and dequantised values for the column block,
    and the scratch holds that column block's weights. -/
theorem outs_eq (c : Dev nD) : ∀ (n : ℕ) (h : n < cfg0.N), outsAt0 m c n h
    = (codes (xrow (arg0 m c) (n % 8)) (wcol (arg1 m c) (arg2 m c) (n / 8)), scales (xrow (arg0 m c) (n % 8)) (wcol (arg1 m c) (arg2 m c) (n / 8)),
      deq (xrow (arg0 m c) (n % 8)) (wcol (arg1 m c) (arg2 m c) (n / 8)), wcol (arg1 m c) (arg2 m c) (n / 8)) := by
  intro n
  induction n with
  | zero =>
    intro h
    refine (outsAt0_A m c ⟨0, h⟩ (Nat.zero_mod _)).trans ?_
    rw [out_A_4, out_A_5, out_A_6, sout_A, wide_eq, iblk0_eq]
  | succ n ih =>
    intro h
    by_cases h0 : (n + 1) % 8 = 0
    · refine (outsAt0_A m c ⟨n + 1, h⟩ h0).trans ?_
      rw [out_A_4, out_A_5, out_A_6, sout_A, wide_eq, iblk0_eq]
    · have hd : (n + 1) / 8 = n / 8 := by omega
      refine (outsAt0_B m c ⟨n + 1, h⟩ h0).trans ?_
      rw [out_B_4, out_B_5, out_B_6, iblk0_eq]
      unfold sout0_B_0
      show (codes _ (outsAt0 m c n _).2.2.2, scales _ (outsAt0 m c n _).2.2.2, deq _ (outsAt0 m c n _).2.2.2, (outsAt0 m c n _).2.2.2) = _
      rw [ih, hd]

/-- An index of the array `[a, b, 1]`. -/
def at3 {a b : Nat} (ha : 0 < a) (hb : 0 < b) (i j : Nat) : (⟨3, ![a, b, 1]⟩ : Shape).Idx :=
  Idealize.ShloMosaic.ValueIdx.ix3 ⟨i % a, Nat.mod_lt _ ha⟩ ⟨j % b, Nat.mod_lt _ hb⟩ 0

theorem at3_eq {a b : Nat} (ha : 0 < a) (hb : 0 < b) (i j : Nat) (x : (⟨3, ![a, b, 1]⟩ : Shape).Idx) (h0 : (x 0).val = i) (h1 : (x 1).val = j) :
    x = at3 ha hb i j := by
  subst h0 h1
  funext d
  apply Fin.ext
  match d with
  | ⟨0, _⟩ => exact (Nat.mod_eq_of_lt (x 0).isLt).symm
  | ⟨1, _⟩ => exact (Nat.mod_eq_of_lt (x 1).isLt).symm
  | ⟨2, _⟩ => exact (Nat.lt_one_iff.mp (x 2).isLt)

/-- The whole array `codes`. -/
def wholeCodes (a0 : Vec F S8192x5120 .bf16) (a1 : Vec F S5120x10752 .fp8e4m3) (a2 : Vec F S40x84 .f32) : Vec F S8192x4480 .fp8e4m3 := fun i =>
  codes (xrow a0 ((i 0).val / 1024)) (wcol a1 a2 ((i 1).val / 128)) (at2 (by decide) (by decide) ((i 0).val % 1024) ((i 1).val % 128))

theorem flushed4 (c : Dev nD) (t : Fin cfg0.N) (hf : (cfg0.win 4).flush t = true) :
    (dats m 0 c).flushed 4 t = ((cfg0.win 4).blk t).view.read (Elt F) (wholeCodes (arg0 m c) (arg1 m c) (arg2 m c)) := by
  show (cfg0.win 4).cut (grid0.coords t) ((dats m 0 c).after 4 t) = _
  obtain ⟨-, -, -, -, -, -, -, -, e0, e1, -⟩ := idx_facts t
  rw [after0_4, outs_eq]
  funext y
  have hy0 : (y 0).val < 1024 := (y 0).isLt
  have hy1 : (y 1).val < 128 := (y 1).isLt
  have hb0 : (((cfg0.win 4).blk t).view.emb y 0).val = win0_4.index t (0 : Fin 2) * 1024 + 1 * (y 0).val := rfl
  have hb1 : (((cfg0.win 4).blk t).view.emb y 1).val = win0_4.index t (1 : Fin 2) * 128 + 1 * (y 1).val := rfl
  show codes (xrow (arg0 m c) (t.val % 8)) (wcol (arg1 m c) (arg2 m c) (t.val / 8)) ((cfg0.win 4).xinj (grid0.coords t) y) = wholeCodes (arg0 m c) (arg1 m c) (arg2 m c) (((cfg0.win 4).blk t).view.emb y)
  unfold wholeCodes
  rw [show (((cfg0.win 4).blk t).view.emb y 0).val / 1024 = t.val % 8 from by omega, show (((cfg0.win 4).blk t).view.emb y 1).val / 128 = t.val / 8 from by omega,
    show (((cfg0.win 4).blk t).view.emb y 0).val % 1024 = (y 0).val from by omega, show (((cfg0.win 4).blk t).view.emb y 1).val % 128 = (y 1).val from by omega]
  exact congrArg _ (at2_eq (a := 1024) (b := 128) _ _ _ _ _ rfl rfl)

theorem final4 (c : Dev nD) : (dats m 0 c).arrAt 4 cfg0.N = wholeCodes (arg0 m c) (arg1 m c) (arg2 m c) :=
  (dats m 0 c).arrAt_eq_of_cover 4 _ (fun t hf => flushed4 m c t hf) (fun i => (Value.covered_iff4 i).2 (by
    have h0 : (i 0).val < 8192 := (i 0).isLt; have h1 : (i 1).val < 4480 := (i 1).isLt; omega))

/-- The whole array `deq`. -/
def wholeDeq (a0 : Vec F S8192x5120 .bf16) (a1 : Vec F S5120x10752 .fp8e4m3) (a2 : Vec F S40x84 .f32) : Vec F S8192x4480 .bf16 := fun i =>
  deq (xrow a0 ((i 0).val / 1024)) (wcol a1 a2 ((i 1).val / 128)) (at2 (by decide) (by decide) ((i 0).val % 1024) ((i 1).val % 128))

theorem flushed6 (c : Dev nD) (t : Fin cfg0.N) (hf : (cfg0.win 6).flush t = true) :
    (dats m 0 c).flushed 6 t = ((cfg0.win 6).blk t).view.read (Elt F) (wholeDeq (arg0 m c) (arg1 m c) (arg2 m c)) := by
  show (cfg0.win 6).cut (grid0.coords t) ((dats m 0 c).after 6 t) = _
  obtain ⟨-, -, -, -, -, -, -, -, -, -, -, -, -, e0, e1, -⟩ := idx_facts t
  rw [after0_6, outs_eq]
  funext y
  have hy0 : (y 0).val < 1024 := (y 0).isLt
  have hy1 : (y 1).val < 128 := (y 1).isLt
  have hb0 : (((cfg0.win 6).blk t).view.emb y 0).val = win0_6.index t (0 : Fin 2) * 1024 + 1 * (y 0).val := rfl
  have hb1 : (((cfg0.win 6).blk t).view.emb y 1).val = win0_6.index t (1 : Fin 2) * 128 + 1 * (y 1).val := rfl
  show deq (xrow (arg0 m c) (t.val % 8)) (wcol (arg1 m c) (arg2 m c) (t.val / 8)) ((cfg0.win 6).xinj (grid0.coords t) y) = wholeDeq (arg0 m c) (arg1 m c) (arg2 m c) (((cfg0.win 6).blk t).view.emb y)
  unfold wholeDeq
  rw [show (((cfg0.win 6).blk t).view.emb y 0).val / 1024 = t.val % 8 from by omega, show (((cfg0.win 6).blk t).view.emb y 1).val / 128 = t.val / 8 from by omega,
    show (((cfg0.win 6).blk t).view.emb y 0).val % 1024 = (y 0).val from by omega, show (((cfg0.win 6).blk t).view.emb y 1).val % 128 = (y 1).val from by omega]
  exact congrArg _ (at2_eq (a := 1024) (b := 128) _ _ _ _ _ rfl rfl)

theorem final6 (c : Dev nD) : (dats m 0 c).arrAt 6 cfg0.N = wholeDeq (arg0 m c) (arg1 m c) (arg2 m c) :=
  (dats m 0 c).arrAt_eq_of_cover 6 _ (fun t hf => flushed6 m c t hf) (fun i => (Value.covered_iff6 i).2 (by
    have h0 : (i 0).val < 8192 := (i 0).isLt; have h1 : (i 1).val < 4480 := (i 1).isLt; omega))

/-- The whole array `scales`. -/
def wholeScales (a0 : Vec F S8192x5120 .bf16) (a1 : Vec F S5120x10752 .fp8e4m3) (a2 : Vec F S40x84 .f32) : Vec F S35x8192x1 .f32 := fun i =>
  scales (xrow a0 ((i 1).val / 1024)) (wcol a1 a2 (i 0).val) (at3 (by decide) (by decide) 0 ((i 1).val % 1024))

theorem flushed5 (c : Dev nD) (t : Fin cfg0.N) (hf : (cfg0.win 5).flush t = true) :
    (dats m 0 c).flushed 5 t = ((cfg0.win 5).blk t).view.read (Elt F) (wholeScales (arg0 m c) (arg1 m c) (arg2 m c)) := by
  show (cfg0.win 5).cut (grid0.coords t) ((dats m 0 c).after 5 t) = _
  obtain ⟨-, -, -, -, -, -, -, -, -, -, e0, e1, -⟩ := idx_facts t
  rw [after0_5, outs_eq]
  funext y
  have hy0 : (y 0).val < 1 := (y 0).isLt
  have hy1 : (y 1).val < 1024 := (y 1).isLt
  have hb0 : (((cfg0.win 5).blk t).view.emb y 0).val = win0_5.index t (0 : Fin 3) * 1 + 1 * (y 0).val := rfl
  have hb1 : (((cfg0.win 5).blk t).view.emb y 1).val = win0_5.index t (1 : Fin 3) * 1024 + 1 * (y 1).val := rfl
  show scales (xrow (arg0 m c) (t.val % 8)) (wcol (arg1 m c) (arg2 m c) (t.val / 8)) ((cfg0.win 5).xinj (grid0.coords t) y) = wholeScales (arg0 m c) (arg1 m c) (arg2 m c) (((cfg0.win 5).blk t).view.emb y)
  unfold wholeScales
  rw [show (((cfg0.win 5).blk t).view.emb y 1).val / 1024 = t.val % 8 from by omega, show (((cfg0.win 5).blk t).view.emb y 0).val = t.val / 8 from by omega,
    show (((cfg0.win 5).blk t).view.emb y 1).val % 1024 = (y 1).val from by omega]
  exact congrArg _ (at3_eq (a := 1) (b := 1024) _ _ _ _ _ (by show (y 0).val = 0; omega) rfl)

theorem final5 (c : Dev nD) : (dats m 0 c).arrAt 5 cfg0.N = wholeScales (arg0 m c) (arg1 m c) (arg2 m c) :=
  (dats m 0 c).arrAt_eq_of_cover 5 _ (fun t hf => flushed5 m c t hf) (fun i => (Value.covered_iff5 i).2 (by
    have h0 : (i 0).val < 35 := (i 0).isLt; have h1 : (i 1).val < 8192 := (i 1).isLt; have h2 : (i 2).val < 1 := (i 2).isLt; omega))

theorem run : θ_run defs (onTc (τ := τ) (main (F := F))) ⟨m, fun _ => 0, ρ⟩ fun r => ∀ c : Dev nD,
      r.2.mem ((c : Thread nD τ).loc main_v0_0) = wholeCodes (arg0 m c) (arg1 m c) (arg2 m c)
      ∧ r.2.mem ((c : Thread nD τ).loc main_v0_1) = wholeScales (arg0 m c) (arg1 m c) (arg2 m c)
      ∧ r.2.mem ((c : Thread nD τ).loc main_v0_2) = wholeDeq (arg0 m c) (arg1 m c) (arg2 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final4 m c), (h c).2.1.trans (final5 m c), (h c).2.2.1.trans (final6 m c), (h c).2.2.2⟩)
    (Value.run_blocks m ρ)

end Cert.GateUpIdeal.Own
-- ==== Proof.Quant.lean ====
module

public import proofs.«01_k».proof.Proof.Common

/-! # The scale of a group of 128 values

The kernel finds a group's scale by searching for the exponent field of `t`, the group's greatest
absolute value `a` divided by 448: bit by bit it keeps the greatest field whose power of two is at
most `t`. The reference says the same thing plainly: the least of the powers `2^-126 … 2^126` that
exceeds `t`, or `2^126` if none does, and `1` for a group of zeros. Here the two are proved equal,
and with them the two reciprocals. -/

@[expose] public section

noncomputable section

namespace Cert.Own

open Idealize.ShloMosaic Idealize.ShloMosaic.TcCoe Idealize.SL.Sem

/-- The float whose exponent field is `w` and whose other bits are zero. -/
def pw (w : BitVec 32) : EReal := FloatOps.ofBits (F := Ideal) .f32 (IntOp.shli .vector w 23#32)

/-- One step of the search: take the bit `b` if the power so named is at most `t`. -/
def pick (t : EReal) (e b : BitVec 32) : BitVec 32 :=
  Scalar.select (FloatOps.cmpf (F := Ideal) (φ := .f32) .oge t (pw (IntOp.addi e b))) (IntOp.addi e b) e

/-- The first three steps. -/
def field3 (t : EReal) : BitVec 32 := pick t (pick t (pick t 0#32 128#32) 64#32) 32#32

/-- The other five steps. -/
def field8 (t : EReal) (e : BitVec 32) : BitVec 32 :=
  pick t (pick t (pick t (pick t (pick t e 16#32) 8#32) 4#32) 2#32) 1#32

/-- The exponent the kernel takes for a group whose greatest absolute value is `a`, `t = a / 448`. -/
def expo (t a : EReal) : BitVec 32 :=
  Scalar.select (IntOp.ori (FloatOps.cmpf (F := Ideal) (φ := .f32) .oeq t (FloatOps.ofBits (F := Ideal) .f32 0x00000000#32))
      (FloatOps.cmpf (F := Ideal) (φ := .f32) .oeq a (FloatOps.ofBits (F := Ideal) .f32 0x00000000#32)))
    0#32 (IntOp.subi (IntOp.minsi (field8 t (field3 t)) 252#32) 126#32)

/-- The kernel's `t`. -/
def tOf (a : EReal) : EReal := a * Ideal.ofBits .f32 0x3B124925#32

/-- The reference's scale of a group whose greatest absolute value is `a`. -/
def scaleOf (a : EReal) : EReal :=
  if a = 0 then 1 else
    Finset.univ.fold min ⊤ fun k : Fin 253 =>
      if tOf a < (((2 : ℝ) ^ ((k : ℤ) - 126) : ℝ) : EReal) then (((2 : ℝ) ^ ((k : ℤ) - 126) : ℝ) : EReal)
      else (((2 : ℝ) ^ (126 : ℤ) : ℝ) : EReal)

/-- The exponent field `c` names the power `2^(c-127)`. -/
theorem pw_pos (c : ℕ) (h1 : 1 ≤ c) (h2 : c ≤ 254) :
    pw (BitVec.ofNat 32 c) = (((2 : ℝ) ^ ((c : ℤ) - 127) : ℝ) : EReal) := by
  have key : ∀ c : Fin 256, ((IntOp.shli .vector (BitVec.ofNat 32 c) 23#32).extractLsb' 31 1 = 0#1)
      ∧ ((IntOp.shli .vector (BitVec.ofNat 32 c) 23#32).extractLsb' 23 8).toNat = c
      ∧ ((IntOp.shli .vector (BitVec.ofNat 32 c) 23#32).extractLsb' 0 23).toNat = 0 := by decide +kernel
  obtain ⟨k1, k2, k3⟩ := key ⟨c, by omega⟩
  simp only at k1 k2 k3
  unfold pw
  rw [Ideal.ofBits_def]
  generalize IntOp.shli .vector (BitVec.ofNat 32 c) 23#32 = w at k1 k2 k3 ⊢
  simp only [Ideal.ofBits]
  unfold Ideal.ieee
  simp only [k2, k3, show (8 + 23 : ℕ) = 31 from rfl, k1]
  rw [if_neg (by norm_num; omega), if_neg (by omega), show ((0#1 : BitVec 1) == 1#1) = false from by decide]
  congr 1
  rw [if_neg (by simp), show ((c : ℤ) - 127) = 23 + ((c : ℤ) - (2 ^ (8 - 1) - 1) - ((23 : ℕ) : ℤ)) by norm_num, zpow_add₀ (by norm_num)]
  norm_num

theorem pw_zero : pw 0#32 = 0 := by
  show Ideal.ofBits .f32 (IntOp.shli .vector 0#32 23#32) = 0
  rw [show IntOp.shli .vector 0#32 23#32 = 0#32 from by decide]
  exact Ideal.ofBits_zero_f32

theorem tOf_const : ∃ r : ℝ, 0 < r ∧ Ideal.ofBits .f32 0x3B124925#32 = (r : EReal) := by
  refine ⟨9586981 * (2 : ℝ) ^ (-32 : ℤ), by positivity, ?_⟩
  simp only [Ideal.ofBits]
  unfold Ideal.ieee
  have k1 : (0x3B124925#32).extractLsb' 31 1 = 0#1 := by decide
  have k2 : ((0x3B124925#32).extractLsb' 23 8).toNat = 118 := by decide
  have k3 : ((0x3B124925#32).extractLsb' 0 23).toNat = 1198373 := by decide
  simp only [k2, k3, show (8 + 23 : ℕ) = 31 from rfl, k1]
  rw [if_neg (by norm_num), if_neg (by norm_num), show ((0#1 : BitVec 1) == 1#1) = false from by decide]
  norm_num

theorem tOf_nonneg (a : EReal) (h : 0 ≤ a) : 0 ≤ tOf a := by
  obtain ⟨r, hr, e⟩ := tOf_const
  rw [tOf, e]; exact mul_nonneg h (by exact_mod_cast hr.le)

theorem tOf_eq_zero (a : EReal) : tOf a = 0 ↔ a = 0 := by
  obtain ⟨r, hr, e⟩ := tOf_const
  rw [tOf, e, mul_eq_zero]
  refine ⟨fun h => h.resolve_right (by exact_mod_cast hr.ne'), Or.inl⟩

/-- What the search knows at a step of width `b`: the power at `n` is at most `t`, the one `2b` further exceeds it. -/
def Known (t : EReal) (n b : ℕ) : Prop :=
  n + 2 * b ≤ 256 ∧ pw (BitVec.ofNat 32 n) ≤ t ∧ (n + 2 * b = 256 ∨ t < pw (BitVec.ofNat 32 (n + 2 * b)))

theorem pick_eq (t : EReal) (n b : ℕ) :
    pick t (BitVec.ofNat 32 n) (BitVec.ofNat 32 b)
      = if pw (BitVec.ofNat 32 (n + b)) ≤ t then BitVec.ofNat 32 (n + b) else BitVec.ofNat 32 n := by
  have : IntOp.addi (BitVec.ofNat 32 n) (BitVec.ofNat 32 b) = BitVec.ofNat 32 (n + b) := by
    show BitVec.ofNat 32 n + BitVec.ofNat 32 b = _
    rw [BitVec.ofNat_add]
  unfold pick
  rw [this]
  by_cases h : pw (BitVec.ofNat 32 (n + b)) ≤ t
  · rw [if_pos h]; simp [Scalar.select, Ideal.cmp, FloatOps.cmpf, h]
  · rw [if_neg h]; simp [Scalar.select, Ideal.cmp, FloatOps.cmpf, h]

theorem step (t : EReal) (e : BitVec 32) (b b' : ℕ) (hb : b = 2 * b') (h : ∃ n, e = BitVec.ofNat 32 n ∧ Known t n b) :
    ∃ n, pick t e (BitVec.ofNat 32 b) = BitVec.ofNat 32 n ∧ Known t n b' := by
  obtain ⟨n, rfl, h1, h2, h3⟩ := h
  rw [pick_eq]
  by_cases g : pw (BitVec.ofNat 32 (n + b)) ≤ t
  · refine ⟨n + b, by rw [if_pos g], by omega, g, ?_⟩
    rw [show n + b + 2 * b' = n + 2 * b by omega]; exact h3
  · refine ⟨n, by rw [if_neg g], by omega, h2, Or.inr ?_⟩
    rw [← hb]; exact not_le.mp g

theorem search (t : EReal) (h : 0 ≤ t) :
    ∃ n : ℕ, n ≤ 255 ∧ field8 t (field3 t) = BitVec.ofNat 32 n ∧ pw (BitVec.ofNat 32 n) ≤ t
      ∧ (n = 255 ∨ t < pw (BitVec.ofNat 32 (n + 1))) := by
  have s0 : ∃ n, (0#32) = BitVec.ofNat 32 n ∧ Known t n 128 :=
    ⟨0, rfl, by norm_num, by rw [show BitVec.ofNat 32 0 = 0#32 from rfl, pw_zero]; exact h, Or.inl (by norm_num)⟩
  have s1 := step t _ 128 64 rfl s0
  have s2 := step t _ 64 32 rfl s1
  have s3 := step t _ 32 16 rfl s2
  have s4 := step t _ 16 8 rfl s3
  have s5 := step t _ 8 4 rfl s4
  have s6 := step t _ 4 2 rfl s5
  have s7 := step t _ 2 1 rfl s6
  obtain ⟨n, hn, h1, h2, h3⟩ := s7
  rcases le_or_gt (pw (BitVec.ofNat 32 (n + 1))) t with g | g
  · refine ⟨n + 1, by omega, ?_, g, ?_⟩
    · unfold field8 field3
      rw [hn, show (1#32) = BitVec.ofNat 32 1 from rfl, pick_eq, if_pos g]
    · rcases h3 with h3 | h3
      · left; omega
      · right; exact h3
  · refine ⟨n, by omega, ?_, h2, Or.inr g⟩
    unfold field8 field3
    rw [hn, show (1#32) = BitVec.ofNat 32 1 from rfl, pick_eq, if_neg (not_le.mpr g)]

theorem two_mono {i j : ℤ} (h : i ≤ j) : (((2 : ℝ) ^ i : ℝ) : EReal) ≤ (((2 : ℝ) ^ j : ℝ) : EReal) := by
  rw [EReal.coe_le_coe_iff]; exact zpow_le_zpow_right₀ (by norm_num) h

theorem two_lt {i j : ℤ} (h : (((2 : ℝ) ^ i : ℝ) : EReal) < (((2 : ℝ) ^ j : ℝ) : EReal)) : i < j := by
  by_contra g; exact absurd (two_mono (not_lt.mp g)) (not_le.mpr h)

/-- Of a group that is not all zeros: the search and the reference name one power. -/
theorem expo_pos (a : EReal) (h : 0 ≤ a) (h0 : a ≠ 0) :
    ∃ m : ℕ, m ≤ 252 ∧ expo (tOf a) a = IntOp.subi (BitVec.ofNat 32 m) 126#32
      ∧ scaleOf a = (((2 : ℝ) ^ ((m : ℤ) - 126) : ℝ) : EReal) := by
  have ht0 : tOf a ≠ 0 := fun g => h0 ((tOf_eq_zero a).mp g)
  obtain ⟨n, hn, hf, h1, h2⟩ := search (tOf a) (tOf_nonneg a h)
  have hmin : ∀ n : Fin 256, IntOp.minsi (BitVec.ofNat 32 n) 252#32 = BitVec.ofNat 32 (min n 252) := by decide +kernel
  refine ⟨min n 252, by omega, ?_, ?_⟩
  · unfold expo
    rw [hf, hmin ⟨n, by omega⟩]
    have z : FloatOps.ofBits (F := Ideal) .f32 0x00000000#32 = (0 : EReal) := Ideal.ofBits_zero_f32
    rw [z]
    simp [Scalar.select, Ideal.cmp, FloatOps.cmpf, ht0, h0, IntOp.ori]
  · unfold scaleOf
    rw [if_neg h0]
    apply le_antisymm
    · rw [Finset.fold_min_le]
      right
      refine ⟨⟨min n 252, by omega⟩, Finset.mem_univ _, ?_⟩
      show (if tOf a < (((2 : ℝ) ^ (((min n 252 : ℕ) : ℤ) - 126) : ℝ) : EReal) then (((2 : ℝ) ^ (((min n 252 : ℕ) : ℤ) - 126) : ℝ) : EReal)
        else (((2 : ℝ) ^ (126 : ℤ) : ℝ) : EReal)) ≤ _
      by_cases g : n ≤ 252
      · have hlt : tOf a < (((2 : ℝ) ^ ((n : ℤ) - 126) : ℝ) : EReal) := by
          rcases h2 with h2 | h2
          · omega
          · rw [pw_pos (n + 1) (by omega) (by omega)] at h2
            rwa [show ((n + 1 : ℕ) : ℤ) - 127 = (n : ℤ) - 126 by push_cast; ring] at h2
        rw [min_eq_left g, if_pos hlt]
      · rw [min_eq_right (by omega)]
        split <;> norm_num
    · rw [Finset.le_fold_min]
      refine ⟨le_top, fun k _ => ?_⟩
      split
      · rename_i hk
        apply two_mono
        by_cases g : n = 0
        · subst g; omega
        · have : n ≤ 254 ∨ n = 255 := by omega
          rcases this with g2 | g2
          · rw [pw_pos n (by omega) g2] at h1
            have := two_lt (lt_of_le_of_lt h1 hk)
            have : (min n 252 : ℕ) ≤ n := min_le_left _ _
            omega
          · exfalso
            rw [g2, show pw (BitVec.ofNat 32 255) = ⊤ from by
              show Ideal.ofBits .f32 (IntOp.shli .vector 255#32 23#32) = ⊤
              rw [show IntOp.shli .vector 255#32 23#32 = 0x7F800000#32 from by decide]
              simp [Ideal.ofBits, Ideal.ieee]] at h1
            exact absurd (lt_of_le_of_lt h1 hk) (not_lt.mpr le_top)
      · apply two_mono
        have : (min n 252 : ℕ) ≤ 252 := min_le_right _ _
        omega

theorem expo_zero : expo (tOf 0) 0 = 0#32 := by
  unfold expo
  have z : FloatOps.ofBits (F := Ideal) .f32 0x00000000#32 = (0 : EReal) := Ideal.ofBits_zero_f32
  have z2 : tOf 0 = 0 := (tOf_eq_zero 0).mpr rfl
  rw [z, z2]
  simp [Scalar.select, Ideal.cmp, FloatOps.cmpf, IntOp.ori]

/-- THE SCALE: the float the kernel makes from its exponent is the reference's scale. -/
theorem scale_eq (a : EReal) (h : 0 ≤ a) : pw (IntOp.addi (expo (tOf a) a) 127#32) = scaleOf a := by
  by_cases h0 : a = 0
  · subst h0
    rw [expo_zero, show IntOp.addi 0#32 127#32 = BitVec.ofNat 32 127 from rfl, pw_pos 127 (by norm_num) (by norm_num), scaleOf, if_pos rfl]
    norm_num
  · obtain ⟨m, hm, he, hs⟩ := expo_pos a h h0
    have key : ∀ m : Fin 253, IntOp.addi (IntOp.subi (BitVec.ofNat 32 m) 126#32) 127#32 = BitVec.ofNat 32 (m + 1) := by decide +kernel
    rw [he, hs, key ⟨m, by omega⟩, pw_pos (m + 1) (by omega) (by omega)]
    rw [show ((((⟨m, by omega⟩ : Fin 253) : ℕ) + 1 : ℕ) : ℤ) - 127 = (m : ℤ) - 126 by push_cast; ring]

/-- THE RECIPROCAL: likewise. -/
theorem inv_eq (a : EReal) (h : 0 ≤ a) : pw (IntOp.subi 127#32 (expo (tOf a) a)) = Ideal.div 1 (scaleOf a) := by
  by_cases h0 : a = 0
  · subst h0
    rw [expo_zero, show IntOp.subi 127#32 0#32 = BitVec.ofNat 32 127 from rfl, pw_pos 127 (by norm_num) (by norm_num), scaleOf, if_pos rfl]
    simp [Ideal.div]
  · obtain ⟨m, hm, he, hs⟩ := expo_pos a h h0
    have key : ∀ m : Fin 253, IntOp.subi 127#32 (IntOp.subi (BitVec.ofNat 32 m) 126#32) = BitVec.ofNat 32 (253 - m) := by decide +kernel
    rw [he, hs, key ⟨m, by omega⟩, pw_pos (253 - m) (by omega) (by omega)]
    have pos : (0 : ℝ) < (2 : ℝ) ^ ((m : ℤ) - 126) := by positivity
    rw [Ideal.div, if_neg (by exact_mod_cast pos.ne'), one_mul, ← EReal.coe_inv, ← zpow_neg]
    congr 2; omega

end Cert.Own
-- ==== Proof.GateUpIdealValue.lean ====
module

public import proofs.«01_k».proof.Proof.GateUpArray
public import proofs.«01_k».proof.Proof.Quant

/-! The gate/up call over the extended reals: the three arrays, entry by entry, from the plain formulas. -/

@[expose] public section
set_option maxRecDepth 16384

noncomputable section
open Idealize.ShloMosaic Idealize.ShloMosaic.TcCoe Idealize.SL.Sem Cert.Own

namespace Cert.GateUpIdeal.Own
open Cert.GateUpIdeal Cert.GateUpIdeal.Gen

/-- Entry `(r, n)` of the product of the activations with the dequantised weights. -/
def proj (a0 : Vec Ideal S8192x5120 .bf16) (a1 : Vec Ideal S5120x10752 .fp8e4m3) (a2 : Vec Ideal S40x84 .f32) (r n : Nat) : EReal :=
  ∑ k : Fin 5120, a0 (at2 (by decide) (by decide) r k.val) *
    (a1 (at2 (by decide) (by decide) k.val n) * a2 (at2 (by decide) (by decide) (k.val / 128) (n / 128)))

/-- The hidden value: `silu` of the gate column times the up column. -/
def hid (a0 : Vec Ideal S8192x5120 .bf16) (a1 : Vec Ideal S5120x10752 .fp8e4m3) (a2 : Vec Ideal S40x84 .f32) (r j : Nat) : EReal :=
  proj a0 a1 a2 r (1792 + j) * Ideal.logistic (proj a0 a1 a2 r (1792 + j)) * proj a0 a1 a2 r (6272 + j)

/-- The greatest absolute value of group `n` of row `r`. -/
def amax (a0 : Vec Ideal S8192x5120 .bf16) (a1 : Vec Ideal S5120x10752 .fp8e4m3) (a2 : Vec Ideal S40x84 .f32) (r n : Nat) : EReal :=
  Finset.univ.fold max ⊥ fun k : Fin 128 => max (hid a0 a1 a2 r (128 * n + k.val)) (-hid a0 a1 a2 r (128 * n + k.val))

/-- A value divided by its group's scale, clipped. -/
def clipped (h a : EReal) : EReal :=
  min (Ideal.ofBits .f32 0x43E00000#32) (max (Ideal.ofBits .f32 0xC3E00000#32) (h * Ideal.div 1 (scaleOf a)))

theorem amax_nonneg {f : Fin 128 → EReal} : 0 ≤ Finset.univ.fold max ⊥ fun k : Fin 128 => max (f k) (-f k) := by
  rw [Finset.le_fold_max]
  right
  refine ⟨0, Finset.mem_univ _, ?_⟩
  rcases le_total 0 (f 0) with h | h
  · exact le_max_of_le_left h
  · exact le_max_of_le_right (by rw [EReal.le_neg]; simpa using h)

/-- The block product, read at an entry. -/
theorem hid_block (a0 : Vec Ideal S8192x5120 .bf16) (a1 : Vec Ideal S5120x10752 .fp8e4m3) (a2 : Vec Ideal S40x84 .f32) (R n : Nat)
    (hR : R < 8) (hn : n < 35) (y : S1024x128.Idx) :
    k0_pay109 (xrow a0 R) (wcol a1 a2 n) y = hid a0 a1 a2 (1024 * R + (y 0).val) (128 * n + (y 1).val) := by
  have h0 : (y 0).val < 1024 := (y 0).isLt
  have h1 : (y 1).val < 128 := (y 1).isLt
  unfold k0_pay109
  pointwise
  have g : ∀ x : Fin 5120, xrow a0 R (ValueIdx.ix2 (y 0) x) * wcol a1 a2 n (ValueIdx.ix2 x ⟨(y 1).val, by omega⟩)
      = a0 (at2 (by decide) (by decide) (1024 * R + (y 0).val) x.val) * (a1 (at2 (by decide) (by decide) x.val (1792 + (128 * n + (y 1).val)))
        * a2 (at2 (by decide) (by decide) (x.val / 128) ((1792 + (128 * n + (y 1).val)) / 128))) := by
    intro x
    unfold xrow wcol
    rw [if_pos (show (y 1).val < 128 from h1)]
    refine congrArg₂ (· * ·) rfl (congrArg₂ (· * ·) (congrArg a1 (at2_eq _ _ _ _ _ ?_ ?_)) (congrArg a2 (at2_eq _ _ _ _ _ ?_ ?_)))
    · show x.val % 5120 = _; omega
    · show (1792 + 128 * n + (y 1).val % 128) % 10752 = _; omega
    · show x.val / 128 % 40 = _; omega
    · show (14 + n) % 84 = _; omega
  have u : ∀ x : Fin 5120, xrow a0 R (ValueIdx.ix2 (y 0) x) * wcol a1 a2 n (ValueIdx.ix2 x ⟨128 + (y 1).val, by omega⟩)
      = a0 (at2 (by decide) (by decide) (1024 * R + (y 0).val) x.val) * (a1 (at2 (by decide) (by decide) x.val (6272 + (128 * n + (y 1).val)))
        * a2 (at2 (by decide) (by decide) (x.val / 128) ((6272 + (128 * n + (y 1).val)) / 128))) := by
    intro x
    unfold xrow wcol
    rw [if_neg (show ¬ 128 + (y 1).val < 128 by omega)]
    refine congrArg₂ (· * ·) rfl (congrArg₂ (· * ·) (congrArg a1 (at2_eq _ _ _ _ _ ?_ ?_)) (congrArg a2 (at2_eq _ _ _ _ _ ?_ ?_)))
    · show x.val % 5120 = _; omega
    · show (6272 + 128 * n + (128 + (y 1).val) % 128) % 10752 = _; omega
    · show x.val / 128 % 40 = _; omega
    · show (49 + n) % 84 = _; omega
  have G := Finset.sum_congr (rfl : (Finset.univ : Finset (Fin 5120)) = _) fun x _ => g x
  have U := Finset.sum_congr (rfl : (Finset.univ : Finset (Fin 5120)) = _) fun x _ => u x
  exact congrArg₂ (· * ·) (congrArg₂ (· * ·) G (congrArg Ideal.logistic G)) U

/-- The group's greatest absolute value, as the kernel takes it. -/
theorem amax_block (x0 : Vec Ideal S1024x5120 .bf16) (w : Vec Ideal S5120x256 .bf16) (y : S1024x1.Idx) :
    k0_pay110 x0 w y = Finset.univ.fold max ⊥ fun k : Fin 128 =>
      max (k0_pay109 x0 w (at2 (by decide) (by decide) (y 0).val k.val)) (-k0_pay109 x0 w (at2 (by decide) (by decide) (y 0).val k.val)) := by
  unfold k0_pay110
  generalize k0_pay109 x0 w = h
  pointwise
  rw [show Ideal.ofBits .f32 4286578688#32 = ⊥ from by simp [Ideal.ofBits, Ideal.ieee]]
  refine congrArg (fun f => Finset.fold max ⊥ f Finset.univ) (funext fun k => ?_)
  rw [← at2_eq (a := 1024) (b := 128) (by decide) (by decide) (y 0).val k.val (ValueIdx.ix2 (y 0) k) rfl rfl]
  rfl

theorem expos_block (x0 : Vec Ideal S1024x5120 .bf16) (w : Vec Ideal S5120x256 .bf16) (y : S1024x1.Idx) :
    expos x0 w y = expo (tOf (k0_pay110 x0 w y)) (k0_pay110 x0 w y) := rfl

theorem codes_block (x0 : Vec Ideal S1024x5120 .bf16) (w : Vec Ideal S5120x256 .bf16) (y : S1024x128.Idx) :
    codes x0 w y = min (Ideal.ofBits .f32 0x43E00000#32) (max (Ideal.ofBits .f32 0xC3E00000#32)
      (k0_pay109 x0 w y * pw (IntOp.subi 127#32 (expos x0 w (at2 (by decide) (by decide) (y 0).val 0))))) := by
  unfold codes k0_pay2
  generalize k0_pay109 x0 w = h
  generalize expos x0 w = e
  pointwise
  rw [← at2_eq (a := 1024) (b := 1) (by decide) (by decide) (y 0).val 0 (ValueIdx.ix2 (y 0) 0) rfl rfl]
  rfl

theorem scales_block (x0 : Vec Ideal S1024x5120 .bf16) (w : Vec Ideal S5120x256 .bf16) (y : S1x1024x1.Idx) :
    scales x0 w y = pw (IntOp.addi (expos x0 w (at2 (by decide) (by decide) (y 1).val 0)) 127#32) := by
  unfold scales k0_pay3 k0_pay1
  generalize expos x0 w = e
  pointwise
  rw [← at2_eq (a := 1024) (b := 1) (by decide) (by decide) (y 1).val 0 (ValueIdx.ix2 (y 1) 0) rfl rfl]
  rfl

theorem deq_block (x0 : Vec Ideal S1024x5120 .bf16) (w : Vec Ideal S5120x256 .bf16) (y : S1024x128.Idx) :
    deq x0 w y = codes x0 w y * pw (IntOp.addi (expos x0 w (at2 (by decide) (by decide) (y 0).val 0)) 127#32) := by
  unfold deq k0_pay4 k0_pay1
  show _ = codes x0 w y * _
  unfold codes
  generalize k0_pay2 (k0_pay109 x0 w) (expos x0 w) = q
  generalize expos x0 w = e
  pointwise
  rw [← at2_eq (a := 1024) (b := 1) (by decide) (by decide) (y 0).val 0 (ValueIdx.ix2 (y 0) 0) rfl rfl]
  rfl

/-- The group's greatest absolute value at a row of the block, from the arrays. -/
theorem amax_eq (a0 : Vec Ideal S8192x5120 .bf16) (a1 : Vec Ideal S5120x10752 .fp8e4m3) (a2 : Vec Ideal S40x84 .f32) (R n : Nat)
    (hR : R < 8) (hn : n < 35) (y : S1024x1.Idx) :
    k0_pay110 (xrow a0 R) (wcol a1 a2 n) y = amax a0 a1 a2 (1024 * R + (y 0).val) n := by
  have h0 : (y 0).val < 1024 := (y 0).isLt
  rw [amax_block]
  refine congrArg (fun f => Finset.fold max ⊥ f Finset.univ) (funext fun k => ?_)
  have hk : k.val < 128 := k.isLt
  have e := hid_block a0 a1 a2 R n hR hn (at2 (by decide) (by decide) (y 0).val k.val)
  have e0 : ((at2 (a := 1024) (b := 128) (by decide) (by decide) (y 0).val k.val) 0).val = (y 0).val := by show (y 0).val % 1024 = _; omega
  have e1 : ((at2 (a := 1024) (b := 128) (by decide) (by decide) (y 0).val k.val) 1).val = k.val := by show k.val % 128 = _; omega
  rw [e0, e1] at e
  exact congrArg₂ max e (congrArg _ e)

theorem amax_pos (a0 : Vec Ideal S8192x5120 .bf16) (a1 : Vec Ideal S5120x10752 .fp8e4m3) (a2 : Vec Ideal S40x84 .f32) (r n : Nat) :
    0 ≤ amax a0 a1 a2 r n := amax_nonneg (f := fun k => hid a0 a1 a2 r (128 * n + k.val))

theorem codes_eq (a0 : Vec Ideal S8192x5120 .bf16) (a1 : Vec Ideal S5120x10752 .fp8e4m3) (a2 : Vec Ideal S40x84 .f32) (R n : Nat)
    (hR : R < 8) (hn : n < 35) (y : S1024x128.Idx) :
    codes (xrow a0 R) (wcol a1 a2 n) y = clipped (hid a0 a1 a2 (1024 * R + (y 0).val) (128 * n + (y 1).val)) (amax a0 a1 a2 (1024 * R + (y 0).val) n) := by
  have h0 : (y 0).val < 1024 := (y 0).isLt
  rw [codes_block, expos_block, hid_block a0 a1 a2 R n hR hn, amax_eq a0 a1 a2 R n hR hn,
    show ((at2 (a := 1024) (b := 1) (by decide) (by decide) (y 0).val 0) 0).val = (y 0).val by show (y 0).val % 1024 = _; omega,
    inv_eq _ (amax_pos a0 a1 a2 _ n)]
  rfl

theorem wholeCodes_ideal (a0 : Vec Ideal S8192x5120 .bf16) (a1 : Vec Ideal S5120x10752 .fp8e4m3) (a2 : Vec Ideal S40x84 .f32) (i : S8192x4480.Idx) :
    wholeCodes a0 a1 a2 i = clipped (hid a0 a1 a2 (i 0).val (i 1).val) (amax a0 a1 a2 (i 0).val ((i 1).val / 128)) := by
  have h0 : (i 0).val < 8192 := (i 0).isLt
  have h1 : (i 1).val < 4480 := (i 1).isLt
  unfold wholeCodes
  rw [codes_eq a0 a1 a2 _ _ (by omega) (by omega),
    show ((at2 (a := 1024) (b := 128) (by decide) (by decide) ((i 0).val % 1024) ((i 1).val % 128)) 0).val = (i 0).val % 1024 by show (i 0).val % 1024 % 1024 = _; omega,
    show ((at2 (a := 1024) (b := 128) (by decide) (by decide) ((i 0).val % 1024) ((i 1).val % 128)) 1).val = (i 1).val % 128 by show (i 1).val % 128 % 128 = _; omega,
    show 1024 * ((i 0).val / 1024) + (i 0).val % 1024 = (i 0).val by omega, show 128 * ((i 1).val / 128) + (i 1).val % 128 = (i 1).val by omega]

theorem wholeScales_ideal (a0 : Vec Ideal S8192x5120 .bf16) (a1 : Vec Ideal S5120x10752 .fp8e4m3) (a2 : Vec Ideal S40x84 .f32) (i : S35x8192x1.Idx) :
    wholeScales a0 a1 a2 i = scaleOf (amax a0 a1 a2 (i 1).val (i 0).val) := by
  have h0 : (i 0).val < 35 := (i 0).isLt
  have h1 : (i 1).val < 8192 := (i 1).isLt
  unfold wholeScales
  rw [scales_block, expos_block, amax_eq a0 a1 a2 _ _ (by omega) h0,
    show ((at2 (a := 1024) (b := 1) (by decide) (by decide) ((at3 (a := 1) (b := 1024) (by decide) (by decide) 0 ((i 1).val % 1024)) 1).val 0) 0).val = (i 1).val % 1024 by
      show (i 1).val % 1024 % 1024 % 1024 = _; omega,
    show 1024 * ((i 1).val / 1024) + (i 1).val % 1024 = (i 1).val by omega, scale_eq _ (amax_pos a0 a1 a2 _ _)]

theorem wholeDeq_ideal (a0 : Vec Ideal S8192x5120 .bf16) (a1 : Vec Ideal S5120x10752 .fp8e4m3) (a2 : Vec Ideal S40x84 .f32) (i : S8192x4480.Idx) :
    wholeDeq a0 a1 a2 i = clipped (hid a0 a1 a2 (i 0).val (i 1).val) (amax a0 a1 a2 (i 0).val ((i 1).val / 128)) * scaleOf (amax a0 a1 a2 (i 0).val ((i 1).val / 128)) := by
  have h0 : (i 0).val < 8192 := (i 0).isLt
  have h1 : (i 1).val < 4480 := (i 1).isLt
  have hc := wholeCodes_ideal a0 a1 a2 i
  unfold wholeCodes at hc
  unfold wholeDeq
  rw [deq_block, hc, expos_block, amax_eq a0 a1 a2 _ _ (by omega) (by omega),
    show ((at2 (a := 1024) (b := 1) (by decide) (by decide) ((at2 (a := 1024) (b := 128) (by decide) (by decide) ((i 0).val % 1024) ((i 1).val % 128)) 0).val 0) 0).val = (i 0).val % 1024 by
      show (i 0).val % 1024 % 1024 % 1024 = _; omega,
    show 1024 * ((i 0).val / 1024) + (i 0).val % 1024 = (i 0).val by omega, scale_eq _ (amax_pos a0 a1 a2 _ _)]

end Cert.GateUpIdeal.Own
-- ==== Proof.QuantRef.lean ====
module

public import proofs.«01_k».proof.Proof.Quant

/-! The values of the words in the reference's list of powers of two. -/

@[expose] public section

noncomputable section

namespace Cert.Own

open Idealize.ShloMosaic Idealize.ShloMosaic.TcCoe Idealize.SL.Sem

/-- Entry `k` of the list is `2^(k - 126)`. -/
theorem power_eq (k : Fin 253) :
    FloatOps.exp2 (F := Ideal) (φ := .f32) (FloatOps.sitofp (F := Ideal) .f32 (IntOp.subi (BitVec.ofNat 32 k.val) 126#32))
      = (((2 : ℝ) ^ ((k.val : ℤ) - 126) : ℝ) : EReal) := by
  have key : ∀ k : Fin 253, (IntOp.subi (BitVec.ofNat 32 k.val) 126#32).toInt = (k.val : ℤ) - 126 := by decide +kernel
  show Ideal.exp2 (((IntOp.subi (BitVec.ofNat 32 k.val) 126#32).toInt : ℝ) : EReal) = _
  rw [key k, Ideal.exp2_coe]
  exact congrArg _ (Real.rpow_intCast 2 _)

theorem top_power : Ideal.ofBits .f32 0x7E800000#32 = (((2 : ℝ) ^ (126 : ℤ) : ℝ) : EReal) := by
  have h := pw_pos 253 (by norm_num) (by norm_num)
  unfold pw at h
  rw [show IntOp.shli .vector (BitVec.ofNat 32 253) 23#32 = 0x7E800000#32 from by decide] at h
  exact h.trans (by norm_num)

theorem inf_word : Ideal.ofBits .f32 0x7F800000#32 = ⊤ := by simp [Ideal.ofBits, Ideal.ieee]

theorem neg_inf_word : Ideal.ofBits .f32 0xFF800000#32 = ⊥ := by simp [Ideal.ofBits, Ideal.ieee]

end Cert.Own
-- ==== Proof.GateUpRef.lean ====
module

public import proofs.«01_k».proof.Proof.Gen.GateUpReferenceIdeal.Value
public import proofs.«01_k».proof.Proof.GateUpIdealValue
public import proofs.«01_k».proof.Proof.QuantRef

/-! The gate/up reference over the extended reals: its three results, entry by entry. -/

@[expose] public section
set_option maxRecDepth 16384

noncomputable section
open Idealize.ShloMosaic Idealize.ShloMosaic.TcCoe Idealize.SL.Sem Cert.Own

namespace Cert.GateUpReferenceIdeal.Own
open Cert.GateUpReferenceIdeal Cert.GateUpReferenceIdeal.Gen Cert.GateUpIdeal.Own

/-- The greatest absolute value of each group. -/
def amaxBy {F : FTy → Type} [FloatOps F] (h : FVec F S8192x35x128 .f32) : FVec F S8192x35x1 .f32 :=
  shapeCast S8192x35x1 (multiReduction .maximumf [2] S8192x35 (absf h) 0xFF800000#32 reduces_S8192x35x128_S8192x35 (.inl rfl) rfl) shapeCasts_S8192x35_S8192x35x1

/-- The powers of two `2^(-126)` to `2^126`. -/
def powers {F : FTy → Type} [FloatOps F] : FVec F S1x1x253 .f32 :=
  exp2 (sitofp .f32 (subi (iota .tc S1x1x253 32 [2] iota_S1x1x253_d2_w32) (broadcast S1x1x253 126#32)))

/-- Each power where it exceeds the threshold, else the greatest power. -/
def above {F : FTy → Type} [FloatOps F] (p : FVec F S1x1x253 .f32) (t : FVec F S8192x35x1 .f32) : FVec F S8192x35x253 .f32 :=
  select (cmpf .ogt (broadcastTo S8192x35x253 p broadcasts_S1x1x253_S8192x35x253) (broadcastTo S8192x35x253 t broadcasts_S8192x35x1_S8192x35x253))
    (broadcastTo S8192x35x253 (shapeCast S1x1x253 p shapeCasts_S1x1x253_S1x1x253) broadcasts_S1x1x253_S8192x35x253)
    (broadcast S8192x35x253 (Scalar.ofBits .f32 0x7E800000#32))

/-- The least of the powers kept. -/
def least {F : FTy → Type} [FloatOps F] (u : FVec F S8192x35x253 .f32) : FVec F S8192x35x1 .f32 :=
  shapeCast S8192x35x1 (multiReduction .minimumf [2] S8192x35 u 0x7F800000#32 reduces_S8192x35x253_S8192x35 (.inl rfl) rfl) shapeCasts_S8192x35_S8192x35x1

/-- The scale: one where the group is zero. -/
def orOne {F : FTy → Type} [FloatOps F] (a s : FVec F S8192x35x1 .f32) : FVec F S8192x35x1 .f32 :=
  select (cmpf .oeq a (broadcast S8192x35x1 (Scalar.ofBits .f32 0x00000000#32))) (broadcast S8192x35x1 (Scalar.ofBits .f32 0x3F800000#32)) s

/-- The threshold: the greatest absolute value over 448. -/
def thr {F : FTy → Type} [FloatOps F] (a : FVec F S8192x35x1 .f32) : FVec F S8192x35x1 .f32 :=
  mulf a (broadcast S8192x35x1 (Scalar.ofBits .f32 0x3B124925#32))

/-- The hidden values over the scales. -/
def ratioBy {F : FTy → Type} [FloatOps F] (h : FVec F S8192x35x128 .f32) (s : FVec F S8192x35x1 .f32) : FVec F S8192x35x128 .f32 :=
  mulf h (broadcastTo S8192x35x128 (divf (broadcast S8192x35x1 (Scalar.ofBits .f32 0x3F800000#32)) s) broadcasts_S8192x35x1_S8192x35x128)

theorem amaxBy_eq (h : FVec Ideal S8192x35x128 .f32) (i : S8192x35x1.Idx) :
    amaxBy h i = Finset.fold max (Ideal.ofBits .f32 0xFF800000#32) (fun x : Fin 128 => FloatOps.absf (F := Ideal) (φ := .f32) (h (ValueIdx.ix3 (i 0) (i 1) x))) Finset.univ := by
  unfold amaxBy
  pointwise
  rfl

theorem powers_eq (i : S1x1x253.Idx) :
    (powers i : Ideal .f32) = (((2 : ℝ) ^ (((i 2).val : ℤ) - 126) : ℝ) : EReal) := by
  refine Eq.trans ?_ (power_eq (i 2))
  unfold powers
  pointwise

theorem above_eq (p : FVec Ideal S1x1x253 .f32) (t : FVec Ideal S8192x35x1 .f32) (i : S8192x35x253.Idx) :
    above p t i = if t (ValueIdx.ix3 (i 0) (i 1) 0) < p (ValueIdx.ix3 0 0 (i 2)) then p (ValueIdx.ix3 0 0 (i 2)) else Ideal.ofBits .f32 0x7E800000#32 := by
  unfold above
  pointwise
  rfl

theorem least_eq (u : FVec Ideal S8192x35x253 .f32) (i : S8192x35x1.Idx) :
    least u i = Finset.fold min (Ideal.ofBits .f32 0x7F800000#32) (fun x : Fin 253 => u (ValueIdx.ix3 (i 0) (i 1) x)) Finset.univ := by
  unfold least
  pointwise
  rfl

theorem orOne_eq (a s : FVec Ideal S8192x35x1 .f32) (i : S8192x35x1.Idx) :
    orOne a s i = if a i = 0 then 1 else s i := by
  unfold orOne
  pointwise

theorem thr_eq (a : FVec Ideal S8192x35x1 .f32) (i : S8192x35x1.Idx) : thr a i = tOf (a i) := rfl

theorem ratioBy_eq (h : FVec Ideal S8192x35x128 .f32) (s : FVec Ideal S8192x35x1 .f32) (i : S8192x35x128.Idx) :
    ratioBy h s i = h i * Ideal.div 1 (s (ValueIdx.ix3 (i 0) (i 1) 0)) := by
  unfold ratioBy
  pointwise
  rfl

/-- The reference's scale is the least power of two above the threshold. -/
theorem scaleBy_eq (a : FVec Ideal S8192x35x1 .f32) (i : S8192x35x1.Idx) :
    orOne a (least (above powers (thr a))) i = scaleOf (a i) := by
  have hi : (ValueIdx.ix3 (i 0) (i 1) 0 : S8192x35x1.Idx) = i := by
    funext k
    fin_cases k
    · rfl
    · rfl
    · exact Fin.ext (by have h2 : (i 2).val < 1 := (i 2).isLt; show 0 = (i 2).val; omega)
  rw [orOne_eq, least_eq, inf_word]
  unfold scaleOf
  refine congrArg (fun z => if a i = 0 then (1 : EReal) else z) (congrArg (fun f => Finset.fold min ⊤ f Finset.univ) (funext fun k => ?_))
  rw [above_eq, powers_eq, thr_eq, top_power]
  rw [show (ValueIdx.ix3 ((ValueIdx.ix3 (i 0) (i 1) k : S8192x35x253.Idx) 0) ((ValueIdx.ix3 (i 0) (i 1) k : S8192x35x253.Idx) 1) 0 : S8192x35x1.Idx) = i from hi]

theorem pay6_def (a0 : Vec Ideal S8192x5120 .bf16) (a1 : Vec Ideal S5120x10752 .fp8e4m3) (a2 : Vec Ideal S40x84 .f32) :
    k0_pay6 a1 a2 a0 = orOne (amaxBy (k0_pay5 a1 a2 a0)) (least (above powers (thr (amaxBy (k0_pay5 a1 a2 a0))))) := by
  unfold k0_pay6 orOne least above powers thr amaxBy
  rfl

theorem pay7_def (a0 : Vec Ideal S8192x5120 .bf16) (a1 : Vec Ideal S5120x10752 .fp8e4m3) (a2 : Vec Ideal S40x84 .f32) :
    k0_pay7 a1 a2 a0 = ratioBy (k0_pay5 a1 a2 a0) (k0_pay6 a1 a2 a0) := by
  unfold k0_pay7 ratioBy
  rfl

theorem pay5_eq (a0 : Vec Ideal S8192x5120 .bf16) (a1 : Vec Ideal S5120x10752 .fp8e4m3) (a2 : Vec Ideal S40x84 .f32) (i : S8192x35x128.Idx) :
    k0_pay5 a1 a2 a0 i = hid a0 a1 a2 (i 0).val (128 * (i 1).val + (i 2).val) := by
  have h0 : (i 0).val < 8192 := (i 0).isLt
  have h1 : (i 1).val < 35 := (i 1).isLt
  have h2 : (i 2).val < 128 := (i 2).isLt
  unfold k0_pay5
  pointwise
  have g : ∀ c : Nat, c = 1792 ∨ c = 6272 → ∀ (hb : (c + ((i 1).val * 128 + (i 2).val)) / 128 * 128 + (i 2).val < 10752) (hc : (c + ((i 1).val * 128 + (i 2).val)) / 128 < 84),
      (∑ x : Fin 5120, a0 (ValueIdx.ix2 (i 0) x) * (a1 (ValueIdx.ix2 x ⟨(c + ((i 1).val * 128 + (i 2).val)) / 128 * 128 + (i 2).val, hb⟩) *
        a2 (ValueIdx.ix2 ⟨x.val / 128, by omega⟩ ⟨(c + ((i 1).val * 128 + (i 2).val)) / 128, hc⟩))) = proj a0 a1 a2 (i 0).val (c + (128 * (i 1).val + (i 2).val)) := by
    intro c hc' hb hc
    unfold proj
    refine Finset.sum_congr rfl fun x _ => ?_
    have hx : x.val < 5120 := x.isLt
    refine congrArg₂ (· * ·) (congrArg a0 (at2_eq _ _ _ _ _ rfl rfl)) (congrArg₂ (· * ·) (congrArg a1 (at2_eq _ _ _ _ _ rfl ?_)) (congrArg a2 (at2_eq _ _ _ _ _ rfl ?_)))
    · show (c + ((i 1).val * 128 + (i 2).val)) / 128 * 128 + (i 2).val = _; rcases hc' with rfl | rfl <;> omega
    · show (c + ((i 1).val * 128 + (i 2).val)) / 128 = _; rcases hc' with rfl | rfl <;> omega
  have G := g 1792 (Or.inl rfl) (by omega) (by omega)
  have U := g 6272 (Or.inr rfl) (by omega) (by omega)
  exact congrArg₂ (· * ·) (congrArg₂ (· * ·) G (congrArg Ideal.logistic G)) U

theorem pay6_eq (a0 : Vec Ideal S8192x5120 .bf16) (a1 : Vec Ideal S5120x10752 .fp8e4m3) (a2 : Vec Ideal S40x84 .f32) (i : S8192x35x1.Idx) :
    k0_pay6 a1 a2 a0 i = scaleOf (amax a0 a1 a2 (i 0).val (i 1).val) := by
  rw [pay6_def, scaleBy_eq, amaxBy_eq, neg_inf_word]
  refine congrArg scaleOf (congrArg (fun f => Finset.fold max ⊥ f Finset.univ) (funext fun k => ?_))
  rw [pay5_eq]
  rfl

theorem pay7_eq (a0 : Vec Ideal S8192x5120 .bf16) (a1 : Vec Ideal S5120x10752 .fp8e4m3) (a2 : Vec Ideal S40x84 .f32) (i : S8192x35x128.Idx) :
    k0_pay7 a1 a2 a0 i = hid a0 a1 a2 (i 0).val (128 * (i 1).val + (i 2).val) * Ideal.div 1 (scaleOf (amax a0 a1 a2 (i 0).val (i 1).val)) := by
  rw [pay7_def, ratioBy_eq, pay5_eq, pay6_eq]

theorem pay2_eq (v : FVec Ideal S8192x35x128 .f32) (i : S8192x4480.Idx) :
    k0_pay2 v (Scalar.ofBits .f32 0xC3E00000#32) i = min (Ideal.ofBits .f32 0x43E00000#32) (max (Ideal.ofBits .f32 0xC3E00000#32)
      (v (ValueIdx.ix3 (i 0) ⟨(i 1).val / 128, by have h1 : (i 1).val < 4480 := (i 1).isLt; omega⟩ ⟨(i 1).val % 128, by omega⟩))) := by
  have h1 : (i 1).val < 4480 := (i 1).isLt
  unfold k0_pay2 k0_pay1
  pointwise
  rfl

theorem pay3_eq (v : FVec Ideal S8192x35x1 .f32) (i : S35x8192x1.Idx) : k0_pay3 v i = v (ValueIdx.ix3 (i 1) (i 0) 0) := by
  unfold k0_pay3
  pointwise
  rfl

theorem pay4_eq (s : FVec Ideal S8192x35x1 .f32) (v : FVec Ideal S8192x35x128 .f32) (i : S8192x4480.Idx) :
    k0_pay4 s v (Scalar.ofBits .f32 0xC3E00000#32) i = min (Ideal.ofBits .f32 0x43E00000#32) (max (Ideal.ofBits .f32 0xC3E00000#32)
      (v (ValueIdx.ix3 (i 0) ⟨(i 1).val / 128, by have h1 : (i 1).val < 4480 := (i 1).isLt; omega⟩ ⟨(i 1).val % 128, by omega⟩)))
      * s (ValueIdx.ix3 (i 0) ⟨(i 1).val / 128, by have h1 : (i 1).val < 4480 := (i 1).isLt; omega⟩ 0) := by
  have h1 : (i 1).val < 4480 := (i 1).isLt
  unfold k0_pay4 k0_pay1
  pointwise
  rfl

theorem hz2 : (![0, 0] : Fin 2 → Nat) = fun _ => 0 := by
  funext k; fin_cases k <;> rfl

theorem pay8_def (a0 : Vec Ideal S8192x5120 .bf16) (a1 : Vec Ideal S5120x10752 .fp8e4m3) (a2 : Vec Ideal S40x84 .f32) :
    k0_pay8 a0 a1 a2 = k0_pay6 a1 a2 a0 := by
  unfold k0_pay8
  rw [View.ld_unit_zero hz2, View.ld_unit_zero hz2, View.ld_unit_zero hz2]

theorem pay9_def (a0 : Vec Ideal S8192x5120 .bf16) (a1 : Vec Ideal S5120x10752 .fp8e4m3) (a2 : Vec Ideal S40x84 .f32) :
    k0_pay9 a0 a1 a2 = k0_pay7 a1 a2 a0 := by
  unfold k0_pay9
  rw [View.ld_unit_zero hz2, View.ld_unit_zero hz2, View.ld_unit_zero hz2]

theorem ref_codes (a0 : Vec Ideal S8192x5120 .bf16) (a1 : Vec Ideal S5120x10752 .fp8e4m3) (a2 : Vec Ideal S40x84 .f32) (i : S8192x4480.Idx) :
    Cert.GateUpReferenceIdeal.Value.G3 a0 a1 a2 i = clipped (hid a0 a1 a2 (i 0).val (i 1).val) (amax a0 a1 a2 (i 0).val ((i 1).val / 128)) := by
  have h1 : (i 1).val < 4480 := (i 1).isLt
  unfold Cert.GateUpReferenceIdeal.Value.G3
  rw [pay2_eq, pay9_def, pay7_eq]
  show min _ (max _ (hid a0 a1 a2 (i 0).val (128 * ((i 1).val / 128) + (i 1).val % 128) * _)) = _
  rw [show 128 * ((i 1).val / 128) + (i 1).val % 128 = (i 1).val by omega]
  rfl

theorem ref_scales (a0 : Vec Ideal S8192x5120 .bf16) (a1 : Vec Ideal S5120x10752 .fp8e4m3) (a2 : Vec Ideal S40x84 .f32) (i : S35x8192x1.Idx) :
    Cert.GateUpReferenceIdeal.Value.G4 a0 a1 a2 i = scaleOf (amax a0 a1 a2 (i 1).val (i 0).val) := by
  unfold Cert.GateUpReferenceIdeal.Value.G4
  rw [pay3_eq, pay8_def, pay6_eq]

theorem ref_deq (a0 : Vec Ideal S8192x5120 .bf16) (a1 : Vec Ideal S5120x10752 .fp8e4m3) (a2 : Vec Ideal S40x84 .f32) (i : S8192x4480.Idx) :
    Cert.GateUpReferenceIdeal.Value.G5 a0 a1 a2 i = clipped (hid a0 a1 a2 (i 0).val (i 1).val) (amax a0 a1 a2 (i 0).val ((i 1).val / 128)) * scaleOf (amax a0 a1 a2 (i 0).val ((i 1).val / 128)) := by
  have h1 : (i 1).val < 4480 := (i 1).isLt
  unfold Cert.GateUpReferenceIdeal.Value.G5
  rw [pay4_eq, pay8_def, pay9_def, pay7_eq, pay6_eq]
  show min _ (max _ (hid a0 a1 a2 (i 0).val (128 * ((i 1).val / 128) + (i 1).val % 128) * _)) * _ = _
  rw [show 128 * ((i 1).val / 128) + (i 1).val % 128 = (i 1).val by omega]
  rfl

end Cert.GateUpReferenceIdeal.Own
-- ==== Proof.GateUp.lean ====
module

public import proofs.«01_k».proof.Defs
public import proofs.«01_k».proof.Proof.GateUpRef

/-! The gate/up kernel and its reference agree over the extended reals. -/

@[expose] public section

noncomputable section
open Idealize.ShloMosaic Idealize.ShloMosaic.TcCoe Idealize.SL.Sem Cert.Own

namespace Cert.GateUpIdeal.Own
open Cert.GateUpIdeal Cert.GateUpIdeal.Gen

theorem algebraic : Cert.algebraic_GateUpIdeal_GateUpReferenceIdeal := by
  intro m ρ m' ρ' _ hag
  refine ⟨fun c => wholeCodes (arg0 m c) (arg1 m c) (arg2 m c), fun c => wholeScales (arg0 m c) (arg1 m c) (arg2 m c),
    fun c => wholeDeq (arg0 m c) (arg1 m c) (arg2 m c), run m ρ, ?_⟩
  refine (θ_run (Cert.GateUpReferenceIdeal.defs (F := Ideal)) _ _).mono (fun r h c => ?_) (Cert.GateUpReferenceIdeal.Value.run (F := Ideal) m' ρ')
  obtain ⟨hc, hs, hd, h'⟩ := h c
  rw [(hag c).1, (hag c).2.1, (hag c).2.2] at hc hs hd
  exact ⟨hc.trans (funext fun i => (Cert.GateUpReferenceIdeal.Own.ref_codes _ _ _ i).trans (wholeCodes_ideal _ _ _ i).symm),
    hs.trans (funext fun i => (Cert.GateUpReferenceIdeal.Own.ref_scales _ _ _ i).trans (wholeScales_ideal _ _ _ i).symm),
    hd.trans (funext fun i => (Cert.GateUpReferenceIdeal.Own.ref_deq _ _ _ i).trans (wholeDeq_ideal _ _ _ i).symm), h'⟩

end Cert.GateUpIdeal.Own
-- ==== Proof.NormBlock.lean ====
module

public import proofs.«01_k».proof.Proof.Gen.NormIdeal.Frame
public import proofs.«01_k».proof.Proof.Common

/-! # The norm call: what one grid point computes

A grid point takes 256 rows, in two blocks of 128. For each block the kernel adds up the squares of the rows by folding
tiles (`squares`, `lanes`, `rolled`), makes of the sums one factor per row (`factor`), and then, for each of the 40 groups
of 128 columns, normalises the tile and quantises it (`codesN`, `scaleN`, `deqN`). -/

@[expose] public section
set_option maxRecDepth 16384

noncomputable section
open Idealize.ShloMosaic Idealize.ShloMosaic.TcCoe Idealize.SL.Sem Cert.Own

namespace Cert.NormIdeal.Own
open Cert.NormIdeal Cert.NormIdeal.Gen
variable {F : FTy → Type} [FloatOps F]

/-- The tile of block `b` of the rows and group `g` of the columns. -/
def xTile (x0 : Vec F S256x5120 .bf16) (b g : Nat) : Vec F S128x128 .bf16 := fun i =>
  x0 (at2 (by decide) (by decide) (128 * b + (i 0).val) (128 * g + (i 1).val))

/-- The weights of group `g` of the columns. -/
def gTile (x1 : Vec F S1x5120 .bf16) (g : Nat) : Vec F S1x128 .bf16 := fun i =>
  x1 (at2 (by decide) (by decide) 0 (128 * g + (i 1).val))

/-- The sum of the squares of eight tiles, transposed. -/
def squares (v0 v1 v2 v3 v4 v5 v6 v7 : Vec F S128x128 .bf16) : FVec F S128x128 .f32 := k0_pay474 v0 v1 v2 v3 v4 v5 v6 v7

/-- Sixteen slices of eight rows, added. -/
def lanes (t : FVec F S128x128 .f32) : FVec F S8x128 .f32 :=
  have w0 : FVec F S8x128 .f32 := extractStridedSlice S8x128 ![0, 0] t slices_S128x128_o0_0_S8x128
  have w1 : FVec F S8x128 .f32 := addf w0 (extractStridedSlice S8x128 ![8, 0] t slices_S128x128_o8_0_S8x128)
  have w2 : FVec F S8x128 .f32 := addf w1 (extractStridedSlice S8x128 ![16, 0] t slices_S128x128_o16_0_S8x128)
  have w3 : FVec F S8x128 .f32 := addf w2 (extractStridedSlice S8x128 ![24, 0] t slices_S128x128_o24_0_S8x128)
  have w4 : FVec F S8x128 .f32 := addf w3 (extractStridedSlice S8x128 ![32, 0] t slices_S128x128_o32_0_S8x128)
  have w5 : FVec F S8x128 .f32 := addf w4 (extractStridedSlice S8x128 ![40, 0] t slices_S128x128_o40_0_S8x128)
  have w6 : FVec F S8x128 .f32 := addf w5 (extractStridedSlice S8x128 ![48, 0] t slices_S128x128_o48_0_S8x128)
  have w7 : FVec F S8x128 .f32 := addf w6 (extractStridedSlice S8x128 ![56, 0] t slices_S128x128_o56_0_S8x128)
  have w8 : FVec F S8x128 .f32 := addf w7 (extractStridedSlice S8x128 ![64, 0] t slices_S128x128_o64_0_S8x128)
  have w9 : FVec F S8x128 .f32 := addf w8 (extractStridedSlice S8x128 ![72, 0] t slices_S128x128_o72_0_S8x128)
  have w10 : FVec F S8x128 .f32 := addf w9 (extractStridedSlice S8x128 ![80, 0] t slices_S128x128_o80_0_S8x128)
  have w11 : FVec F S8x128 .f32 := addf w10 (extractStridedSlice S8x128 ![88, 0] t slices_S128x128_o88_0_S8x128)
  have w12 : FVec F S8x128 .f32 := addf w11 (extractStridedSlice S8x128 ![96, 0] t slices_S128x128_o96_0_S8x128)
  have w13 : FVec F S8x128 .f32 := addf w12 (extractStridedSlice S8x128 ![104, 0] t slices_S128x128_o104_0_S8x128)
  have w14 : FVec F S8x128 .f32 := addf w13 (extractStridedSlice S8x128 ![112, 0] t slices_S128x128_o112_0_S8x128)
  have w15 : FVec F S8x128 .f32 := addf w14 (extractStridedSlice S8x128 ![120, 0] t slices_S128x128_o120_0_S8x128)
  w15

/-- A vector of eight rows and its rotation by `k` rows, added. -/
def rollAdd (k : BitVec 32) (p : FVec F S8x128 .f32) : FVec F S8x128 .f32 := addf p (dynamicRotate 0 k none p rotates_S8x128_d0)

/-- The sum of all eight rows, in each of them. -/
def rolled (p : FVec F S8x128 .f32) : FVec F S8x128 .f32 := rollAdd 1#32 (rollAdd 2#32 (rollAdd 4#32 p))

/-- One of the five parts of a row's sum: eight tiles. -/
def part (f : Nat → Vec F S128x128 .bf16) (c : Nat) : FVec F S8x128 .f32 :=
  rolled (lanes (squares (f (8 * c)) (f (8 * c + 1)) (f (8 * c + 2)) (f (8 * c + 3)) (f (8 * c + 4)) (f (8 * c + 5)) (f (8 * c + 6)) (f (8 * c + 7))))

/-- The sum of the squares of a row of 40 tiles. -/
def total (f : Nat → Vec F S128x128 .bf16) : FVec F S8x128 .f32 :=
  addf (addf (addf (addf (part f 0) (part f 1)) (part f 2)) (part f 3)) (part f 4)

/-- From the sum of the squares to the reciprocal root of the mean. -/
def meanRoot (p : FVec F S8x128 .f32) : FVec F S8x128 .f32 :=
  rsqrt (addf (mulf p (broadcast S8x128 (Scalar.ofBits .f32 0x394CCCCD#32 : F .f32))) (broadcast S8x128 (Scalar.ofBits .f32 0x358637BD#32 : F .f32)))

/-- Sixteen copies, transposed: column by column the same factors. -/
def spread (p : FVec F S8x128 .f32) : FVec F S128x128 .f32 :=
  transpose S128x128 [1, 0] (concatenate S128x128 0 [⟨S8x128, p⟩, ⟨S8x128, p⟩, ⟨S8x128, p⟩, ⟨S8x128, p⟩, ⟨S8x128, p⟩, ⟨S8x128, p⟩, ⟨S8x128, p⟩, ⟨S8x128, p⟩, ⟨S8x128, p⟩, ⟨S8x128, p⟩, ⟨S8x128, p⟩, ⟨S8x128, p⟩, ⟨S8x128, p⟩, ⟨S8x128, p⟩, ⟨S8x128, p⟩, ⟨S8x128, p⟩] concatenates_S8x128_S8x128_S8x128_S8x128_S8x128_S8x128_S8x128_S8x128_S8x128_S8x128_S8x128_S8x128_S8x128_S8x128_S8x128_S8x128_S128x128_d0) transposes_S128x128_p1_0_S128x128

/-- The factor of each row of block `b`, in all 128 columns. -/
def factor (x0 : Vec F S256x5120 .bf16) (b : Nat) : FVec F S128x128 .f32 := spread (meanRoot (total (xTile x0 b)))

/-- A normalised tile: the tile times the row factors, times the weights. -/
def normN (R : FVec F S128x128 .f32) (X : Vec F S128x128 .bf16) (G : Vec F S1x128 .bf16) : FVec F S128x128 .f32 := k0_pay896 R X G

/-- The largest absolute value of each row of a tile. -/
def amaxN (R : FVec F S128x128 .f32) (X : Vec F S128x128 .bf16) (G : Vec F S1x128 .bf16) : FVec F S128x1 .f32 := k0_pay897 R X G

/-- The exponent of each row's scale, by the binary search of the kernel. -/
def exposN (R : FVec F S128x128 .f32) (X : Vec F S128x128 .bf16) (G : Vec F S1x128 .bf16) : IVec S128x1 32 :=
  k0_pay901 (k0_pay897 R X G) (k0_pay898 R X G) (k0_pay899 R X G) (k0_pay900 R X G) 23#32

/-- The scales of a tile's rows. -/
def scaleN (R : FVec F S128x128 .f32) (X : Vec F S128x128 .bf16) (G : Vec F S1x128 .bf16) : FVec F S128x1 .f32 :=
  k0_pay902 (k0_pay897 R X G) (k0_pay898 R X G) (k0_pay899 R X G) (k0_pay900 R X G) 23#32

/-- The codes of a tile. -/
def codesN (R : FVec F S128x128 .f32) (X : Vec F S128x128 .bf16) (G : Vec F S1x128 .bf16) : FVec F S128x128 .fp8e4m3 :=
  k0_pay905 (k0_pay896 R X G) (k0_pay903 (k0_pay897 R X G) (k0_pay898 R X G) (k0_pay899 R X G) (k0_pay900 R X G) 23#32) k0_pay904

/-- The dequantised values of a tile. -/
def deqN (R : FVec F S128x128 .f32) (X : Vec F S128x128 .bf16) (G : Vec F S1x128 .bf16) : FVec F S128x128 .bf16 :=
  k0_pay906 (k0_pay896 R X G) (scaleN R X G) (k0_pay903 (k0_pay897 R X G) (k0_pay898 R X G) (k0_pay899 R X G) (k0_pay900 R X G) 23#32) k0_pay904

theorem ld_tile (x0 : Vec F S256x5120 .bf16) (b g n0 n1 : Nat) (inb) (h0 : n0 = 128 * b) (h1 : n1 = 128 * g) :
    View.ld x0 (Rect.unit (s := S256x5120) ![n0, n1] S128x128.size inb) = (xTile x0 b g : Vec F S128x128 .bf16) := by
  subst h0 h1
  funext x
  refine View.ld_unit_apply_of x0 _ _ inb x _ (fun a => ?_)
  have hb : 128 * b + 128 ≤ 256 := inb 0
  have hg : 128 * g + 128 ≤ 5120 := inb 1
  have hx0 : (x 0).val < 128 := (x 0).isLt
  have hx1 : (x 1).val < 128 := (x 1).isLt
  match a with
  | ⟨0, _⟩ => show (128 * b + (x 0).val) % 256 = 128 * b + (x 0).val; omega
  | ⟨1, _⟩ => show (128 * g + (x 1).val) % 5120 = 128 * g + (x 1).val; omega

theorem ld_gamma (x1 : Vec F S1x5120 .bf16) (g n1 : Nat) (inb) (h1 : n1 = 128 * g) :
    View.ld x1 (Rect.unit (s := S1x5120) ![0, n1] S1x128.size inb) = (gTile x1 g : Vec F S1x128 .bf16) := by
  subst h1
  funext x
  refine View.ld_unit_apply_of x1 _ _ inb x _ (fun a => ?_)
  have hg : 128 * g + 128 ≤ 5120 := inb 1
  have hx0 : (x 0).val < 1 := (x 0).isLt
  have hx1 : (x 1).val < 128 := (x 1).isLt
  match a with
  | ⟨0, _⟩ => show 0 % 1 = 0 + (x 0).val; omega
  | ⟨1, _⟩ => show (128 * g + (x 1).val) % 5120 = 128 * g + (x 1).val; omega

/-- The kernel's factors of row block 0. -/
theorem factor_0 (x0 : Vec F S256x5120 .bf16) (x1 : Vec F S1x5120 .bf16) : k0_pay912 x0 x1 = factor x0 0 := by
  have h : k0_pay912 x0 x1 = spread (meanRoot (addf (addf (addf (addf (rolled (lanes (squares (View.ld x0 r0_0) (View.ld x0 r0_1) (View.ld x0 r0_2) (View.ld x0 r0_3) (View.ld x0 r0_4) (View.ld x0 r0_5) (View.ld x0 r0_6) (View.ld x0 r0_7)))) (rolled (lanes (squares (View.ld x0 r0_8) (View.ld x0 r0_9) (View.ld x0 r0_10) (View.ld x0 r0_11) (View.ld x0 r0_12) (View.ld x0 r0_13) (View.ld x0 r0_14) (View.ld x0 r0_15))))) (rolled (lanes (squares (View.ld x0 r0_16) (View.ld x0 r0_17) (View.ld x0 r0_18) (View.ld x0 r0_19) (View.ld x0 r0_20) (View.ld x0 r0_21) (View.ld x0 r0_22) (View.ld x0 r0_23))))) (rolled (lanes (squares (View.ld x0 r0_24) (View.ld x0 r0_25) (View.ld x0 r0_26) (View.ld x0 r0_27) (View.ld x0 r0_28) (View.ld x0 r0_29) (View.ld x0 r0_30) (View.ld x0 r0_31))))) (rolled (lanes (squares (View.ld x0 r0_32) (View.ld x0 r0_33) (View.ld x0 r0_34) (View.ld x0 r0_35) (View.ld x0 r0_36) (View.ld x0 r0_37) (View.ld x0 r0_38) (View.ld x0 r0_39)))))) := rfl
  rw [h]
  rw [ld_tile x0 0 0 _ _ inb_S256x5120_S128x128_0_0 rfl rfl,
    ld_tile x0 0 1 _ _ inb_S256x5120_S128x128_0_128 rfl rfl,
    ld_tile x0 0 2 _ _ inb_S256x5120_S128x128_0_256 rfl rfl,
    ld_tile x0 0 3 _ _ inb_S256x5120_S128x128_0_384 rfl rfl,
    ld_tile x0 0 4 _ _ inb_S256x5120_S128x128_0_512 rfl rfl,
    ld_tile x0 0 5 _ _ inb_S256x5120_S128x128_0_640 rfl rfl,
    ld_tile x0 0 6 _ _ inb_S256x5120_S128x128_0_768 rfl rfl,
    ld_tile x0 0 7 _ _ inb_S256x5120_S128x128_0_896 rfl rfl,
    ld_tile x0 0 8 _ _ inb_S256x5120_S128x128_0_1024 rfl rfl,
    ld_tile x0 0 9 _ _ inb_S256x5120_S128x128_0_1152 rfl rfl,
    ld_tile x0 0 10 _ _ inb_S256x5120_S128x128_0_1280 rfl rfl,
    ld_tile x0 0 11 _ _ inb_S256x5120_S128x128_0_1408 rfl rfl,
    ld_tile x0 0 12 _ _ inb_S256x5120_S128x128_0_1536 rfl rfl,
    ld_tile x0 0 13 _ _ inb_S256x5120_S128x128_0_1664 rfl rfl,
    ld_tile x0 0 14 _ _ inb_S256x5120_S128x128_0_1792 rfl rfl,
    ld_tile x0 0 15 _ _ inb_S256x5120_S128x128_0_1920 rfl rfl,
    ld_tile x0 0 16 _ _ inb_S256x5120_S128x128_0_2048 rfl rfl,
    ld_tile x0 0 17 _ _ inb_S256x5120_S128x128_0_2176 rfl rfl,
    ld_tile x0 0 18 _ _ inb_S256x5120_S128x128_0_2304 rfl rfl,
    ld_tile x0 0 19 _ _ inb_S256x5120_S128x128_0_2432 rfl rfl,
    ld_tile x0 0 20 _ _ inb_S256x5120_S128x128_0_2560 rfl rfl,
    ld_tile x0 0 21 _ _ inb_S256x5120_S128x128_0_2688 rfl rfl,
    ld_tile x0 0 22 _ _ inb_S256x5120_S128x128_0_2816 rfl rfl,
    ld_tile x0 0 23 _ _ inb_S256x5120_S128x128_0_2944 rfl rfl,
    ld_tile x0 0 24 _ _ inb_S256x5120_S128x128_0_3072 rfl rfl,
    ld_tile x0 0 25 _ _ inb_S256x5120_S128x128_0_3200 rfl rfl,
    ld_tile x0 0 26 _ _ inb_S256x5120_S128x128_0_3328 rfl rfl,
    ld_tile x0 0 27 _ _ inb_S256x5120_S128x128_0_3456 rfl rfl,
    ld_tile x0 0 28 _ _ inb_S256x5120_S128x128_0_3584 rfl rfl,
    ld_tile x0 0 29 _ _ inb_S256x5120_S128x128_0_3712 rfl rfl,
    ld_tile x0 0 30 _ _ inb_S256x5120_S128x128_0_3840 rfl rfl,
    ld_tile x0 0 31 _ _ inb_S256x5120_S128x128_0_3968 rfl rfl,
    ld_tile x0 0 32 _ _ inb_S256x5120_S128x128_0_4096 rfl rfl,
    ld_tile x0 0 33 _ _ inb_S256x5120_S128x128_0_4224 rfl rfl,
    ld_tile x0 0 34 _ _ inb_S256x5120_S128x128_0_4352 rfl rfl,
    ld_tile x0 0 35 _ _ inb_S256x5120_S128x128_0_4480 rfl rfl,
    ld_tile x0 0 36 _ _ inb_S256x5120_S128x128_0_4608 rfl rfl,
    ld_tile x0 0 37 _ _ inb_S256x5120_S128x128_0_4736 rfl rfl,
    ld_tile x0 0 38 _ _ inb_S256x5120_S128x128_0_4864 rfl rfl,
    ld_tile x0 0 39 _ _ inb_S256x5120_S128x128_0_4992 rfl rfl]
  rfl

/-- The kernel's factors of row block 1. -/
theorem factor_1 (x0 : Vec F S256x5120 .bf16) (x1 : Vec F S1x5120 .bf16) : k0_pay1167 x0 x1 = factor x0 1 := by
  have h : k0_pay1167 x0 x1 = spread (meanRoot (addf (addf (addf (addf (rolled (lanes (squares (View.ld x0 r0_120) (View.ld x0 r0_121) (View.ld x0 r0_122) (View.ld x0 r0_123) (View.ld x0 r0_124) (View.ld x0 r0_125) (View.ld x0 r0_126) (View.ld x0 r0_127)))) (rolled (lanes (squares (View.ld x0 r0_128) (View.ld x0 r0_129) (View.ld x0 r0_130) (View.ld x0 r0_131) (View.ld x0 r0_132) (View.ld x0 r0_133) (View.ld x0 r0_134) (View.ld x0 r0_135))))) (rolled (lanes (squares (View.ld x0 r0_136) (View.ld x0 r0_137) (View.ld x0 r0_138) (View.ld x0 r0_139) (View.ld x0 r0_140) (View.ld x0 r0_141) (View.ld x0 r0_142) (View.ld x0 r0_143))))) (rolled (lanes (squares (View.ld x0 r0_144) (View.ld x0 r0_145) (View.ld x0 r0_146) (View.ld x0 r0_147) (View.ld x0 r0_148) (View.ld x0 r0_149) (View.ld x0 r0_150) (View.ld x0 r0_151))))) (rolled (lanes (squares (View.ld x0 r0_152) (View.ld x0 r0_153) (View.ld x0 r0_154) (View.ld x0 r0_155) (View.ld x0 r0_156) (View.ld x0 r0_157) (View.ld x0 r0_158) (View.ld x0 r0_159)))))) := rfl
  rw [h]
  rw [ld_tile x0 1 0 _ _ inb_S256x5120_S128x128_128_0 rfl rfl,
    ld_tile x0 1 1 _ _ inb_S256x5120_S128x128_128_128 rfl rfl,
    ld_tile x0 1 2 _ _ inb_S256x5120_S128x128_128_256 rfl rfl,
    ld_tile x0 1 3 _ _ inb_S256x5120_S128x128_128_384 rfl rfl,
    ld_tile x0 1 4 _ _ inb_S256x5120_S128x128_128_512 rfl rfl,
    ld_tile x0 1 5 _ _ inb_S256x5120_S128x128_128_640 rfl rfl,
    ld_tile x0 1 6 _ _ inb_S256x5120_S128x128_128_768 rfl rfl,
    ld_tile x0 1 7 _ _ inb_S256x5120_S128x128_128_896 rfl rfl,
    ld_tile x0 1 8 _ _ inb_S256x5120_S128x128_128_1024 rfl rfl,
    ld_tile x0 1 9 _ _ inb_S256x5120_S128x128_128_1152 rfl rfl,
    ld_tile x0 1 10 _ _ inb_S256x5120_S128x128_128_1280 rfl rfl,
    ld_tile x0 1 11 _ _ inb_S256x5120_S128x128_128_1408 rfl rfl,
    ld_tile x0 1 12 _ _ inb_S256x5120_S128x128_128_1536 rfl rfl,
    ld_tile x0 1 13 _ _ inb_S256x5120_S128x128_128_1664 rfl rfl,
    ld_tile x0 1 14 _ _ inb_S256x5120_S128x128_128_1792 rfl rfl,
    ld_tile x0 1 15 _ _ inb_S256x5120_S128x128_128_1920 rfl rfl,
    ld_tile x0 1 16 _ _ inb_S256x5120_S128x128_128_2048 rfl rfl,
    ld_tile x0 1 17 _ _ inb_S256x5120_S128x128_128_2176 rfl rfl,
    ld_tile x0 1 18 _ _ inb_S256x5120_S128x128_128_2304 rfl rfl,
    ld_tile x0 1 19 _ _ inb_S256x5120_S128x128_128_2432 rfl rfl,
    ld_tile x0 1 20 _ _ inb_S256x5120_S128x128_128_2560 rfl rfl,
    ld_tile x0 1 21 _ _ inb_S256x5120_S128x128_128_2688 rfl rfl,
    ld_tile x0 1 22 _ _ inb_S256x5120_S128x128_128_2816 rfl rfl,
    ld_tile x0 1 23 _ _ inb_S256x5120_S128x128_128_2944 rfl rfl,
    ld_tile x0 1 24 _ _ inb_S256x5120_S128x128_128_3072 rfl rfl,
    ld_tile x0 1 25 _ _ inb_S256x5120_S128x128_128_3200 rfl rfl,
    ld_tile x0 1 26 _ _ inb_S256x5120_S128x128_128_3328 rfl rfl,
    ld_tile x0 1 27 _ _ inb_S256x5120_S128x128_128_3456 rfl rfl,
    ld_tile x0 1 28 _ _ inb_S256x5120_S128x128_128_3584 rfl rfl,
    ld_tile x0 1 29 _ _ inb_S256x5120_S128x128_128_3712 rfl rfl,
    ld_tile x0 1 30 _ _ inb_S256x5120_S128x128_128_3840 rfl rfl,
    ld_tile x0 1 31 _ _ inb_S256x5120_S128x128_128_3968 rfl rfl,
    ld_tile x0 1 32 _ _ inb_S256x5120_S128x128_128_4096 rfl rfl,
    ld_tile x0 1 33 _ _ inb_S256x5120_S128x128_128_4224 rfl rfl,
    ld_tile x0 1 34 _ _ inb_S256x5120_S128x128_128_4352 rfl rfl,
    ld_tile x0 1 35 _ _ inb_S256x5120_S128x128_128_4480 rfl rfl,
    ld_tile x0 1 36 _ _ inb_S256x5120_S128x128_128_4608 rfl rfl,
    ld_tile x0 1 37 _ _ inb_S256x5120_S128x128_128_4736 rfl rfl,
    ld_tile x0 1 38 _ _ inb_S256x5120_S128x128_128_4864 rfl rfl,
    ld_tile x0 1 39 _ _ inb_S256x5120_S128x128_128_4992 rfl rfl]
  rfl

/-- The codes of all 256 rows. -/
def codesW (x0 : Vec F S256x5120 .bf16) (x1 : Vec F S1x5120 .bf16) : Vec F S256x5120 .fp8e4m3 := fun y =>
  codesN (factor x0 ((y 0).val / 128)) (xTile x0 ((y 0).val / 128) ((y 1).val / 128)) (gTile x1 ((y 1).val / 128))
    (at2 (a := 128) (b := 128) (by decide) (by decide) ((y 0).val % 128) ((y 1).val % 128))

/-- The scales of all 256 rows, 40 in each. -/
def scaleW (x0 : Vec F S256x5120 .bf16) (x1 : Vec F S1x5120 .bf16) : Vec F S256x40 .f32 := fun y =>
  scaleN (factor x0 ((y 0).val / 128)) (xTile x0 ((y 0).val / 128) (y 1).val) (gTile x1 (y 1).val)
    (at2 (a := 128) (b := 1) (by decide) (by decide) ((y 0).val % 128) 0)

/-- The dequantised values of all 256 rows. -/
def deqW (x0 : Vec F S256x5120 .bf16) (x1 : Vec F S1x5120 .bf16) : Vec F S256x5120 .bf16 := fun y =>
  deqN (factor x0 ((y 0).val / 128)) (xTile x0 ((y 0).val / 128) ((y 1).val / 128)) (gTile x1 ((y 1).val / 128))
    (at2 (a := 128) (b := 128) (by decide) (by decide) ((y 0).val % 128) ((y 1).val % 128))

/-- One store: what it writes is `codesW` on its rectangle. -/
theorem piece_codes (x0 : Vec F S256x5120 .bf16) (x1 : Vec F S1x5120 .bf16) (b g : Nat) (n0 n1 : Nat) (R : FVec F S128x128 .f32) (inb) (inbX) (inbG)
    (P : FVec F S128x128 .fp8e4m3) (hR : R = factor x0 b) (h0 : n0 = 128 * b) (h1 : n1 = 128 * g)
    (hP : P = codesN R (View.ld x0 (Rect.unit (s := S256x5120) ![n0, n1] S128x128.size inbX)) (View.ld x1 (Rect.unit (s := S1x5120) ![0, n1] S1x128.size inbG))) :
    ∀ x : (Rect.unit (s := S256x5120) ![n0, n1] S128x128.size inb).shape.Idx, P x = codesW x0 x1 ((Rect.unit (s := S256x5120) ![n0, n1] S128x128.size inb).emb x) := by
  intro x
  rw [ld_tile x0 b g n0 n1 inbX h0 h1, ld_gamma x1 g n1 inbG h1] at hP
  subst hP hR h0 h1
  have hx0 : (x 0).val < 128 := (x 0).isLt
  have hx1 : (x 1).val < 128 := (x 1).isLt
  have e0 : ((Rect.unit (s := S256x5120) ![128 * b, 128 * g] S128x128.size inb).idx x 0 : Nat) = 128 * b + (x 0).val := Rect.idx_unit_val (s := S256x5120) _ _ inb x 0
  have e1 : ((Rect.unit (s := S256x5120) ![128 * b, 128 * g] S128x128.size inb).idx x 1 : Nat) = 128 * g + (x 1).val := Rect.idx_unit_val (s := S256x5120) _ _ inb x 1
  have hb : ((Rect.unit (s := S256x5120) ![128 * b, 128 * g] S128x128.size inb).idx x 0 : Nat) / 128 = b := by omega
  have hg : (((Rect.unit (s := S256x5120) ![128 * b, 128 * g] S128x128.size inb).idx x 1 : Nat) / 128) = g := by omega
  have hi : x = at2 (a := 128) (b := 128) (by decide) (by decide) (((Rect.unit (s := S256x5120) ![128 * b, 128 * g] S128x128.size inb).idx x 0 : Nat) % 128) (((Rect.unit (s := S256x5120) ![128 * b, 128 * g] S128x128.size inb).idx x 1 : Nat) % 128) :=
    at2_eq _ _ _ _ x (by omega) (by omega)
  show _ = codesN (factor x0 (((Rect.unit (s := S256x5120) ![128 * b, 128 * g] S128x128.size inb).idx x 0 : Nat) / 128)) (xTile x0 (((Rect.unit (s := S256x5120) ![128 * b, 128 * g] S128x128.size inb).idx x 0 : Nat) / 128) (((Rect.unit (s := S256x5120) ![128 * b, 128 * g] S128x128.size inb).idx x 1 : Nat) / 128)) (gTile x1 (((Rect.unit (s := S256x5120) ![128 * b, 128 * g] S128x128.size inb).idx x 1 : Nat) / 128))
    (at2 (a := 128) (b := 128) (by decide) (by decide) (((Rect.unit (s := S256x5120) ![128 * b, 128 * g] S128x128.size inb).idx x 0 : Nat) % 128) (((Rect.unit (s := S256x5120) ![128 * b, 128 * g] S128x128.size inb).idx x 1 : Nat) % 128))
  rw [hb, hg, ← hi]

/-- One store: what it writes is `scaleW` on its rectangle. -/
theorem piece_scale (x0 : Vec F S256x5120 .bf16) (x1 : Vec F S1x5120 .bf16) (b g : Nat) (n0 n1 : Nat) (R : FVec F S128x128 .f32) (inb) (inbX) (inbG)
    (P : FVec F S128x1 .f32) (hR : R = factor x0 b) (h0 : n0 = 128 * b) (h1 : n1 = 128 * g)
    (hP : P = scaleN R (View.ld x0 (Rect.unit (s := S256x5120) ![n0, n1] S128x128.size inbX)) (View.ld x1 (Rect.unit (s := S1x5120) ![0, n1] S1x128.size inbG))) :
    ∀ x : (Rect.unit (s := S256x40) ![n0, g] S128x1.size inb).shape.Idx, P x = scaleW x0 x1 ((Rect.unit (s := S256x40) ![n0, g] S128x1.size inb).emb x) := by
  intro x
  rw [ld_tile x0 b g n0 n1 inbX h0 h1, ld_gamma x1 g n1 inbG h1] at hP
  subst hP hR h0 h1
  have hx0 : (x 0).val < 128 := (x 0).isLt
  have hx1 : (x 1).val < 1 := (x 1).isLt
  have e0 : ((Rect.unit (s := S256x40) ![128 * b, g] S128x1.size inb).idx x 0 : Nat) = 128 * b + (x 0).val := Rect.idx_unit_val (s := S256x40) _ _ inb x 0
  have e1 : ((Rect.unit (s := S256x40) ![128 * b, g] S128x1.size inb).idx x 1 : Nat) = g + (x 1).val := Rect.idx_unit_val (s := S256x40) _ _ inb x 1
  have hb : ((Rect.unit (s := S256x40) ![128 * b, g] S128x1.size inb).idx x 0 : Nat) / 128 = b := by omega
  have hg : ((Rect.unit (s := S256x40) ![128 * b, g] S128x1.size inb).idx x 1 : Nat) = g := by omega
  have hi : x = at2 (a := 128) (b := 1) (by decide) (by decide) (((Rect.unit (s := S256x40) ![128 * b, g] S128x1.size inb).idx x 0 : Nat) % 128) 0 :=
    at2_eq _ _ _ _ x (by omega) (by omega)
  show _ = scaleN (factor x0 (((Rect.unit (s := S256x40) ![128 * b, g] S128x1.size inb).idx x 0 : Nat) / 128)) (xTile x0 (((Rect.unit (s := S256x40) ![128 * b, g] S128x1.size inb).idx x 0 : Nat) / 128) ((Rect.unit (s := S256x40) ![128 * b, g] S128x1.size inb).idx x 1 : Nat)) (gTile x1 ((Rect.unit (s := S256x40) ![128 * b, g] S128x1.size inb).idx x 1 : Nat))
    (at2 (a := 128) (b := 1) (by decide) (by decide) (((Rect.unit (s := S256x40) ![128 * b, g] S128x1.size inb).idx x 0 : Nat) % 128) 0)
  rw [hb, hg, ← hi]

/-- One store: what it writes is `deqW` on its rectangle. -/
theorem piece_deq (x0 : Vec F S256x5120 .bf16) (x1 : Vec F S1x5120 .bf16) (b g : Nat) (n0 n1 : Nat) (R : FVec F S128x128 .f32) (inb) (inbX) (inbG)
    (P : FVec F S128x128 .bf16) (hR : R = factor x0 b) (h0 : n0 = 128 * b) (h1 : n1 = 128 * g)
    (hP : P = deqN R (View.ld x0 (Rect.unit (s := S256x5120) ![n0, n1] S128x128.size inbX)) (View.ld x1 (Rect.unit (s := S1x5120) ![0, n1] S1x128.size inbG))) :
    ∀ x : (Rect.unit (s := S256x5120) ![n0, n1] S128x128.size inb).shape.Idx, P x = deqW x0 x1 ((Rect.unit (s := S256x5120) ![n0, n1] S128x128.size inb).emb x) := by
  intro x
  rw [ld_tile x0 b g n0 n1 inbX h0 h1, ld_gamma x1 g n1 inbG h1] at hP
  subst hP hR h0 h1
  have hx0 : (x 0).val < 128 := (x 0).isLt
  have hx1 : (x 1).val < 128 := (x 1).isLt
  have e0 : ((Rect.unit (s := S256x5120) ![128 * b, 128 * g] S128x128.size inb).idx x 0 : Nat) = 128 * b + (x 0).val := Rect.idx_unit_val (s := S256x5120) _ _ inb x 0
  have e1 : ((Rect.unit (s := S256x5120) ![128 * b, 128 * g] S128x128.size inb).idx x 1 : Nat) = 128 * g + (x 1).val := Rect.idx_unit_val (s := S256x5120) _ _ inb x 1
  have hb : ((Rect.unit (s := S256x5120) ![128 * b, 128 * g] S128x128.size inb).idx x 0 : Nat) / 128 = b := by omega
  have hg : (((Rect.unit (s := S256x5120) ![128 * b, 128 * g] S128x128.size inb).idx x 1 : Nat) / 128) = g := by omega
  have hi : x = at2 (a := 128) (b := 128) (by decide) (by decide) (((Rect.unit (s := S256x5120) ![128 * b, 128 * g] S128x128.size inb).idx x 0 : Nat) % 128) (((Rect.unit (s := S256x5120) ![128 * b, 128 * g] S128x128.size inb).idx x 1 : Nat) % 128) :=
    at2_eq _ _ _ _ x (by omega) (by omega)
  show _ = deqN (factor x0 (((Rect.unit (s := S256x5120) ![128 * b, 128 * g] S128x128.size inb).idx x 0 : Nat) / 128)) (xTile x0 (((Rect.unit (s := S256x5120) ![128 * b, 128 * g] S128x128.size inb).idx x 0 : Nat) / 128) (((Rect.unit (s := S256x5120) ![128 * b, 128 * g] S128x128.size inb).idx x 1 : Nat) / 128)) (gTile x1 (((Rect.unit (s := S256x5120) ![128 * b, 128 * g] S128x128.size inb).idx x 1 : Nat) / 128))
    (at2 (a := 128) (b := 128) (by decide) (by decide) (((Rect.unit (s := S256x5120) ![128 * b, 128 * g] S128x128.size inb).idx x 0 : Nat) % 128) (((Rect.unit (s := S256x5120) ![128 * b, 128 * g] S128x128.size inb).idx x 1 : Nat) % 128))
  rw [hb, hg, ← hi]

end Cert.NormIdeal.Own
-- ==== Proof.NormRow.lean ====
module

public import proofs.«01_k».proof.Proof.NormBlock
public import proofs.«01_k».proof.Proof.Quant
public import Idealize.ShloMosaic.Lib.Pipeline.Value
public import Idealize.ShloMosaic.Lib.KernelVsHost.SublaneAllReduce

/-! The norm call over the extended reals: the row factor is the reciprocal root of the mean of the squares of the row. -/

@[expose] public section
set_option maxRecDepth 16384

noncomputable section
open Idealize.ShloMosaic Idealize.ShloMosaic.TcCoe Idealize.SL.Sem Cert.Own

namespace Cert.NormIdeal.Own
open Cert.NormIdeal Cert.NormIdeal.Gen

theorem sum8 (g : Fin 8 → EReal) : SublaneAllReduce.combine8 (· + ·) g = ∑ r, g r := by
  simp only [SublaneAllReduce.combine8, Fin.sum_univ_eight]
  ac_rfl

theorem sum16 (f : Fin 16 → EReal) : f 0 + f 1 + f 2 + f 3 + f 4 + f 5 + f 6 + f 7 + f 8 + f 9 + f 10 + f 11 + f 12 + f 13 + f 14 + f 15 = ∑ j, f j := by
  simp only [Fin.sum_univ_castSucc, Fin.sum_univ_zero, zero_add]
  rfl

/-- Eight rows combined by the rotations: their sum, in each row. -/
theorem rolled_eq (p : FVec Ideal S8x128 .f32) (i : S8x128.Idx) :
    rolled p i = ∑ r : Fin 8, (p (ValueIdx.ix2 r (i 1)) : EReal) := by
  have h := SublaneAllReduce.sublaneAllReduce_apply (α := EReal) (n := 128) (· + ·) rotates_S8x128_d0 p (i 0) (i 1)
  have hi : (ValueIdx.ix2 (i 0) (i 1) : S8x128.Idx) = i := by
    funext k
    fin_cases k <;> rfl
  refine (congrArg (rolled p) hi.symm).trans (Eq.trans h ?_)
  exact sum8 _

/-- The slices added: every eighth row, summed. -/
theorem lanes_eq (t : FVec Ideal S128x128 .f32) (i : S8x128.Idx) :
    lanes t i = ∑ j : Fin 16, (t (ValueIdx.ix2 ⟨8 * j.val + (i 0).val, by have h0 : (i 0).val < 8 := (i 0).isLt; omega⟩ (i 1)) : EReal) := by
  have hi : (i 0).val < 8 := (i 0).isLt
  unfold lanes
  pointwise
  refine Eq.trans ?_ (sum16 _)
  iterate 15 refine congrArg₂ (· + ·) ?_ rfl
  exact congrArg (fun q => t (ValueIdx.ix2 q (i 1))) (Fin.ext (by show (i 0).val = 8 * 0 + (i 0).val; omega))

theorem squares_eq (v0 v1 v2 v3 v4 v5 v6 v7 : Vec Ideal S128x128 .bf16) (i : S128x128.Idx) : squares v0 v1 v2 v3 v4 v5 v6 v7 i
    = v0 (ValueIdx.ix2 (i 1) (i 0)) * v0 (ValueIdx.ix2 (i 1) (i 0)) + v1 (ValueIdx.ix2 (i 1) (i 0)) * v1 (ValueIdx.ix2 (i 1) (i 0))
      + v2 (ValueIdx.ix2 (i 1) (i 0)) * v2 (ValueIdx.ix2 (i 1) (i 0)) + v3 (ValueIdx.ix2 (i 1) (i 0)) * v3 (ValueIdx.ix2 (i 1) (i 0))
      + v4 (ValueIdx.ix2 (i 1) (i 0)) * v4 (ValueIdx.ix2 (i 1) (i 0)) + v5 (ValueIdx.ix2 (i 1) (i 0)) * v5 (ValueIdx.ix2 (i 1) (i 0))
      + v6 (ValueIdx.ix2 (i 1) (i 0)) * v6 (ValueIdx.ix2 (i 1) (i 0)) + v7 (ValueIdx.ix2 (i 1) (i 0)) * v7 (ValueIdx.ix2 (i 1) (i 0)) := by
  unfold squares k0_pay474
  pointwise
  rfl

theorem spread_eq (p : FVec Ideal S8x128 .f32) (i : S128x128.Idx) :
    spread p i = p (at2 (a := 8) (b := 128) (by decide) (by decide) ((i 1).val % 8) (i 0).val) := by
  have e : spread p = transpose S128x128 [1, 0] (concatenate S128x128 0 (List.replicate 16 ⟨S8x128, p⟩) concatenates_S8x128_S8x128_S8x128_S8x128_S8x128_S8x128_S8x128_S8x128_S8x128_S8x128_S8x128_S8x128_S8x128_S8x128_S8x128_S8x128_S128x128_d0) transposes_S128x128_p1_0_S128x128 := rfl
  rw [e]
  have hc : ∀ j : S128x128.Idx, concatenate S128x128 0 (List.replicate 16 ⟨S8x128, p⟩) concatenates_S8x128_S8x128_S8x128_S8x128_S8x128_S8x128_S8x128_S8x128_S8x128_S8x128_S8x128_S8x128_S8x128_S8x128_S8x128_S8x128_S128x128_d0 j
      = p (at2 (a := 8) (b := 128) (by decide) (by decide) ((j 0).val % 8) (j 1).val) := by
    intro j
    refine concatenate_replicate_apply (0 : Fin S128x128.rank) 16 p _ rfl j _ ?_ ?_
    · show (j 0).val % 8 % 8 = (j 0).val % 8; omega
    · intro b hb
      match b with
      | ⟨0, _⟩ => exact absurd rfl hb
      | ⟨1, _⟩ => show (j 1).val % 128 = (j 1).val; have h1 : (j 1).val < 128 := (j 1).isLt; omega
  generalize concatenate S128x128 0 (List.replicate 16 ⟨S8x128, p⟩) concatenates_S8x128_S8x128_S8x128_S8x128_S8x128_S8x128_S8x128_S8x128_S8x128_S8x128_S8x128_S8x128_S8x128_S8x128_S8x128_S8x128_S128x128_d0 = q at hc ⊢
  pointwise
  rw [hc]
  rfl

theorem meanRoot_eq (p : FVec Ideal S8x128 .f32) (i : S8x128.Idx) : meanRoot p i = Ideal.rsqrt (p i * Ideal.ofBits .f32 0x394CCCCD#32 + Ideal.ofBits .f32 0x358637BD#32) := by
  unfold meanRoot
  pointwise

theorem sum_range_mul (f : ℕ → EReal) (m n : ℕ) : ∑ k ∈ Finset.range (m * n), f k = ∑ i ∈ Finset.range m, ∑ j ∈ Finset.range n, f (n * i + j) := by
  induction m with
  | zero => simp
  | succ m ih =>
    rw [Nat.succ_mul, Finset.sum_range_add, ih, Finset.sum_range_succ]
    refine congrArg₂ (· + ·) rfl (Finset.sum_congr rfl fun j _ => ?_)
    rw [Nat.mul_comm n m]

/-- The sum over one tile of 128 columns, in the order the kernel takes it. -/
def tileSum (h : ℕ → EReal) (g : ℕ) : EReal := ∑ r : Fin 8, ∑ j : Fin 16, h (128 * g + (8 * j.val + r.val))

theorem tileSum_eq (h : ℕ → EReal) (g : ℕ) : tileSum h g = ∑ k ∈ Finset.range 128, h (128 * g + k) := by
  have e := sum_range_mul (fun k => h (128 * g + k)) 16 8
  refine Eq.trans ?_ e.symm
  rw [Finset.sum_comm]
  unfold tileSum
  rw [← Fin.sum_univ_eq_sum_range (fun r => ∑ j ∈ Finset.range 16, h (128 * g + (8 * j + r))) 8]
  refine Finset.sum_congr rfl fun r _ => ?_
  rw [← Fin.sum_univ_eq_sum_range (fun j => h (128 * g + (8 * j + r.val))) 16]

/-- The square of entry `k` of row `r`. -/
def sq (x0 : Vec Ideal S256x5120 .bf16) (r k : ℕ) : EReal :=
  x0 (at2 (by decide) (by decide) r k) * x0 (at2 (by decide) (by decide) r k)

theorem part_eq (x0 : Vec Ideal S256x5120 .bf16) (b c : ℕ) (i : S8x128.Idx) :
    part (xTile x0 b) c i = ∑ q ∈ Finset.range 8, tileSum (sq x0 (128 * b + (i 1).val)) (8 * c + q) := by
  unfold part
  rw [rolled_eq]
  have e : ∀ r : Fin 8, lanes (squares (xTile x0 b (8 * c)) (xTile x0 b (8 * c + 1)) (xTile x0 b (8 * c + 2)) (xTile x0 b (8 * c + 3)) (xTile x0 b (8 * c + 4)) (xTile x0 b (8 * c + 5)) (xTile x0 b (8 * c + 6)) (xTile x0 b (8 * c + 7))) (ValueIdx.ix2 r (i 1))
      = ∑ j : Fin 16, (sq x0 (128 * b + (i 1).val) (128 * (8 * c) + (8 * j.val + r.val)) + sq x0 (128 * b + (i 1).val) (128 * (8 * c + 1) + (8 * j.val + r.val)) + sq x0 (128 * b + (i 1).val) (128 * (8 * c + 2) + (8 * j.val + r.val)) + sq x0 (128 * b + (i 1).val) (128 * (8 * c + 3) + (8 * j.val + r.val)) + sq x0 (128 * b + (i 1).val) (128 * (8 * c + 4) + (8 * j.val + r.val)) + sq x0 (128 * b + (i 1).val) (128 * (8 * c + 5) + (8 * j.val + r.val)) + sq x0 (128 * b + (i 1).val) (128 * (8 * c + 6) + (8 * j.val + r.val)) + sq x0 (128 * b + (i 1).val) (128 * (8 * c + 7) + (8 * j.val + r.val))) := by
    intro r
    rw [lanes_eq]
    refine Finset.sum_congr rfl fun j _ => ?_
    rw [squares_eq]
    rfl
  refine (Finset.sum_congr rfl fun r _ => e r).trans ?_
  simp only [Finset.sum_add_distrib, Finset.sum_range_succ, Finset.sum_range_zero, zero_add, add_zero]
  rfl

theorem total_eq (x0 : Vec Ideal S256x5120 .bf16) (b : ℕ) (i : S8x128.Idx) :
    total (xTile x0 b) i = ∑ k : Fin 5120, sq x0 (128 * b + (i 1).val) k.val := by
  have h : total (xTile x0 b) i = part (xTile x0 b) 0 i + part (xTile x0 b) 1 i + part (xTile x0 b) 2 i + part (xTile x0 b) 3 i + part (xTile x0 b) 4 i := rfl
  rw [h, part_eq, part_eq, part_eq, part_eq, part_eq]
  rw [Fin.sum_univ_eq_sum_range (fun k => sq x0 (128 * b + (i 1).val) k) 5120]
  rw [show 5120 = 40 * 128 from rfl, sum_range_mul]
  rw [Finset.sum_congr (rfl : Finset.range 40 = Finset.range 40) fun g _ => (tileSum_eq (sq x0 (128 * b + (i 1).val)) g).symm]
  rw [show 40 = 5 * 8 from rfl, sum_range_mul]
  simp only [Finset.sum_range_succ (fun c => ∑ q ∈ Finset.range 8, tileSum (sq x0 (128 * b + (i 1).val)) (8 * c + q)), Finset.sum_range_zero, zero_add]

/-- The kernel's factor of a row: the reciprocal root of the mean of its squares, plus the small constant. -/
theorem factor_eq (x0 : Vec Ideal S256x5120 .bf16) (b : ℕ) (i : S128x128.Idx) :
    factor x0 b i = Ideal.rsqrt ((∑ k : Fin 5120, sq x0 (128 * b + (i 0).val) k.val) * Ideal.ofBits .f32 0x394CCCCD#32 + Ideal.ofBits .f32 0x358637BD#32) := by
  have h0 : (i 0).val < 128 := (i 0).isLt
  unfold factor
  rw [spread_eq, meanRoot_eq, total_eq,
    show ((at2 (a := 8) (b := 128) (by decide) (by decide) ((i 1).val % 8) (i 0).val) 1).val = (i 0).val by show (i 0).val % 128 = _; omega]

end Cert.NormIdeal.Own
-- ==== Proof.NormIdealValue.lean ====
module

public import proofs.«01_k».proof.Proof.NormRow
public import proofs.«01_k».proof.Proof.GateUpIdealValue

/-! The norm call over the extended reals: the three blocks of a grid point, entry by entry, from the plain formulas. -/

@[expose] public section
set_option maxRecDepth 16384

noncomputable section
open Idealize.ShloMosaic Idealize.ShloMosaic.TcCoe Idealize.SL.Sem Cert.Own

namespace Cert.NormIdeal.Own
open Cert.NormIdeal Cert.NormIdeal.Gen
open Cert.GateUpIdeal.Own (clipped amax_nonneg)

/-- Entry `k` of a row `x`, normalised: times the reciprocal root of the mean of the squares, times the weight. -/
def xn (x w : ℕ → EReal) (k : ℕ) : EReal :=
  x k * Ideal.rsqrt ((∑ j : Fin 5120, x j.val * x j.val) * Ideal.ofBits .f32 0x394CCCCD#32 + Ideal.ofBits .f32 0x358637BD#32) * w k

/-- The greatest absolute value of group `n` of a normalised row. -/
def amaxRow (x w : ℕ → EReal) (n : ℕ) : EReal :=
  Finset.univ.fold max ⊥ fun k : Fin 128 => max (xn x w (128 * n + k.val)) (-xn x w (128 * n + k.val))

theorem amaxRow_pos (x w : ℕ → EReal) (n : ℕ) : 0 ≤ amaxRow x w n := amax_nonneg (f := fun k => xn x w (128 * n + k.val))

/-- Row `r` of a block. -/
def rowOf (x0 : Vec Ideal S256x5120 .bf16) (r : ℕ) : ℕ → EReal := fun k => x0 (at2 (by decide) (by decide) r k)

/-- The weights. -/
def wOf (x1 : Vec Ideal S1x5120 .bf16) : ℕ → EReal := fun k => x1 (at2 (by decide) (by decide) 0 k)

theorem normN_eq (R : FVec Ideal S128x128 .f32) (X : Vec Ideal S128x128 .bf16) (G : Vec Ideal S1x128 .bf16) (y : S128x128.Idx) :
    normN R X G y = X y * R y * G (ValueIdx.ix2 0 (y 1)) := by
  unfold normN k0_pay896
  pointwise
  rfl

theorem amaxN_eq (R : FVec Ideal S128x128 .f32) (X : Vec Ideal S128x128 .bf16) (G : Vec Ideal S1x128 .bf16) (y : S128x1.Idx) :
    amaxN R X G y = Finset.univ.fold max ⊥ fun k : Fin 128 =>
      max (normN R X G (at2 (by decide) (by decide) (y 0).val k.val)) (-normN R X G (at2 (by decide) (by decide) (y 0).val k.val)) := by
  unfold amaxN k0_pay897
  show _ = Finset.univ.fold max ⊥ fun k : Fin 128 => max (k0_pay896 R X G _) (-k0_pay896 R X G _)
  generalize k0_pay896 R X G = h
  pointwise
  rw [show Ideal.ofBits .f32 4286578688#32 = ⊥ from by simp [Ideal.ofBits, Ideal.ieee]]
  refine congrArg (fun f => Finset.fold max ⊥ f Finset.univ) (funext fun k => ?_)
  rw [← at2_eq (a := 128) (b := 128) (by decide) (by decide) (y 0).val k.val (ValueIdx.ix2 (y 0) k) rfl rfl]
  rfl

theorem exposN_eq (R : FVec Ideal S128x128 .f32) (X : Vec Ideal S128x128 .bf16) (G : Vec Ideal S1x128 .bf16) (y : S128x1.Idx) :
    exposN R X G y = expo (tOf (amaxN R X G y)) (amaxN R X G y) := rfl

theorem scaleN_eq (R : FVec Ideal S128x128 .f32) (X : Vec Ideal S128x128 .bf16) (G : Vec Ideal S1x128 .bf16) (y : S128x1.Idx) :
    scaleN R X G y = pw (IntOp.addi (exposN R X G y) 127#32) := rfl

theorem codesN_eq (R : FVec Ideal S128x128 .f32) (X : Vec Ideal S128x128 .bf16) (G : Vec Ideal S1x128 .bf16) (y : S128x128.Idx) :
    codesN R X G y = min (Ideal.ofBits .f32 0x43E00000#32) (max (Ideal.ofBits .f32 0xC3E00000#32)
      (normN R X G y * pw (IntOp.subi 127#32 (exposN R X G (at2 (by decide) (by decide) (y 0).val 0))))) := by
  unfold codesN k0_pay905 k0_pay903 k0_pay904
  show _ = min _ (max _ (k0_pay896 R X G y * pw (IntOp.subi 127#32 (k0_pay901 (k0_pay897 R X G) (k0_pay898 R X G) (k0_pay899 R X G) (k0_pay900 R X G) 23#32 _))))
  generalize k0_pay896 R X G = h
  generalize k0_pay901 (k0_pay897 R X G) (k0_pay898 R X G) (k0_pay899 R X G) (k0_pay900 R X G) 23#32 = e
  pointwise
  rw [← at2_eq (a := 128) (b := 1) (by decide) (by decide) (y 0).val 0 (ValueIdx.ix2 (y 0) 0) rfl rfl]
  rfl

theorem deqN_eq (R : FVec Ideal S128x128 .f32) (X : Vec Ideal S128x128 .bf16) (G : Vec Ideal S1x128 .bf16) (y : S128x128.Idx) :
    deqN R X G y = codesN R X G y * scaleN R X G (at2 (by decide) (by decide) (y 0).val 0) := by
  unfold deqN k0_pay906
  show _ = k0_pay905 (k0_pay896 R X G) (k0_pay903 (k0_pay897 R X G) (k0_pay898 R X G) (k0_pay899 R X G) (k0_pay900 R X G) 23#32) k0_pay904 y * _
  generalize k0_pay905 (k0_pay896 R X G) (k0_pay903 (k0_pay897 R X G) (k0_pay898 R X G) (k0_pay899 R X G) (k0_pay900 R X G) 23#32) k0_pay904 = q
  generalize scaleN R X G = s
  pointwise
  rw [← at2_eq (a := 128) (b := 1) (by decide) (by decide) (y 0).val 0 (ValueIdx.ix2 (y 0) 0) rfl rfl]
  rfl

/-- A normalised tile, from the block. -/
theorem normN_tile (x0 : Vec Ideal S256x5120 .bf16) (x1 : Vec Ideal S1x5120 .bf16) (b g : ℕ) (y : S128x128.Idx) :
    normN (factor x0 b) (xTile x0 b g) (gTile x1 g) y = xn (rowOf x0 (128 * b + (y 0).val)) (wOf x1) (128 * g + (y 1).val) := by
  rw [normN_eq, factor_eq]
  rfl

theorem amaxN_tile (x0 : Vec Ideal S256x5120 .bf16) (x1 : Vec Ideal S1x5120 .bf16) (b g : ℕ) (y : S128x1.Idx) :
    amaxN (factor x0 b) (xTile x0 b g) (gTile x1 g) y = amaxRow (rowOf x0 (128 * b + (y 0).val)) (wOf x1) g := by
  have h0 : (y 0).val < 128 := (y 0).isLt
  rw [amaxN_eq]
  refine congrArg (fun f => Finset.fold max ⊥ f Finset.univ) (funext fun k => ?_)
  have hk : k.val < 128 := k.isLt
  have e := normN_tile x0 x1 b g (at2 (by decide) (by decide) (y 0).val k.val)
  have e0 : ((at2 (a := 128) (b := 128) (by decide) (by decide) (y 0).val k.val) 0).val = (y 0).val := by show (y 0).val % 128 = _; omega
  have e1 : ((at2 (a := 128) (b := 128) (by decide) (by decide) (y 0).val k.val) 1).val = k.val := by show k.val % 128 = _; omega
  rw [e0, e1] at e
  exact congrArg₂ max e (congrArg _ e)

theorem scale_tile (x0 : Vec Ideal S256x5120 .bf16) (x1 : Vec Ideal S1x5120 .bf16) (b g : ℕ) (y : S128x1.Idx) :
    scaleN (factor x0 b) (xTile x0 b g) (gTile x1 g) y = scaleOf (amaxRow (rowOf x0 (128 * b + (y 0).val)) (wOf x1) g) := by
  rw [scaleN_eq, exposN_eq, amaxN_tile, scale_eq _ (amaxRow_pos _ _ _)]

theorem codes_tile (x0 : Vec Ideal S256x5120 .bf16) (x1 : Vec Ideal S1x5120 .bf16) (b g : ℕ) (y : S128x128.Idx) :
    codesN (factor x0 b) (xTile x0 b g) (gTile x1 g) y
      = clipped (xn (rowOf x0 (128 * b + (y 0).val)) (wOf x1) (128 * g + (y 1).val)) (amaxRow (rowOf x0 (128 * b + (y 0).val)) (wOf x1) g) := by
  have h0 : (y 0).val < 128 := (y 0).isLt
  rw [codesN_eq, exposN_eq, normN_tile, amaxN_tile,
    show ((at2 (a := 128) (b := 1) (by decide) (by decide) (y 0).val 0) 0).val = (y 0).val by show (y 0).val % 128 = _; omega,
    inv_eq _ (amaxRow_pos _ _ _)]
  rfl

theorem codesW_eq (x0 : Vec Ideal S256x5120 .bf16) (x1 : Vec Ideal S1x5120 .bf16) (y : S256x5120.Idx) :
    codesW x0 x1 y = clipped (xn (rowOf x0 (y 0).val) (wOf x1) (y 1).val) (amaxRow (rowOf x0 (y 0).val) (wOf x1) ((y 1).val / 128)) := by
  unfold codesW
  rw [codes_tile,
    show ((at2 (a := 128) (b := 128) (by decide) (by decide) ((y 0).val % 128) ((y 1).val % 128)) 0).val = (y 0).val % 128 by show (y 0).val % 128 % 128 = _; omega,
    show ((at2 (a := 128) (b := 128) (by decide) (by decide) ((y 0).val % 128) ((y 1).val % 128)) 1).val = (y 1).val % 128 by show (y 1).val % 128 % 128 = _; omega,
    show 128 * ((y 0).val / 128) + (y 0).val % 128 = (y 0).val by omega, show 128 * ((y 1).val / 128) + (y 1).val % 128 = (y 1).val by omega]

theorem scaleW_eq (x0 : Vec Ideal S256x5120 .bf16) (x1 : Vec Ideal S1x5120 .bf16) (y : S256x40.Idx) :
    scaleW x0 x1 y = scaleOf (amaxRow (rowOf x0 (y 0).val) (wOf x1) (y 1).val) := by
  unfold scaleW
  rw [scale_tile,
    show ((at2 (a := 128) (b := 1) (by decide) (by decide) ((y 0).val % 128) 0) 0).val = (y 0).val % 128 by show (y 0).val % 128 % 128 = _; omega,
    show 128 * ((y 0).val / 128) + (y 0).val % 128 = (y 0).val by omega]

theorem deqW_eq (x0 : Vec Ideal S256x5120 .bf16) (x1 : Vec Ideal S1x5120 .bf16) (y : S256x5120.Idx) :
    deqW x0 x1 y = clipped (xn (rowOf x0 (y 0).val) (wOf x1) (y 1).val) (amaxRow (rowOf x0 (y 0).val) (wOf x1) ((y 1).val / 128))
      * scaleOf (amaxRow (rowOf x0 (y 0).val) (wOf x1) ((y 1).val / 128)) := by
  have hc := codesW_eq x0 x1 y
  unfold codesW at hc
  unfold deqW
  rw [deqN_eq, hc, scale_tile,
    show ((at2 (a := 128) (b := 1) (by decide) (by decide) ((at2 (a := 128) (b := 128) (by decide) (by decide) ((y 0).val % 128) ((y 1).val % 128)) 0).val 0) 0).val = (y 0).val % 128 by
      show (y 0).val % 128 % 128 % 128 = _; omega,
    show 128 * ((y 0).val / 128) + (y 0).val % 128 = (y 0).val by omega]

end Cert.NormIdeal.Own
-- ==== Proof.NormPieces.lean ====
module

public import proofs.«01_k».proof.Proof.NormBlock

/-! # The norm call: the three result blocks of a grid point, from their 80 stores each -/

@[expose] public section
set_option maxRecDepth 16384

noncomputable section
open Idealize.ShloMosaic Idealize.ShloMosaic.TcCoe Idealize.SL.Sem Cert.Own

namespace Cert.NormIdeal.Own
open Cert.NormIdeal Cert.NormIdeal.Gen
variable {F : FTy → Type} [FloatOps F]

set_option maxHeartbeats 8000000 in
theorem out0_2_eq (x0 : Vec F S256x5120 .bf16) (x1 : Vec F S1x5120 .bf16) : out0_2 x0 x1 = codesW x0 x1 := by
  funext y
  unfold out0_2
  refine View.canon_apply_of_pieces (codesW x0 x1) _ ?_ y (cover0_2 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y)
  simp only [List.forall_mem_cons]
  refine And.intro (piece_codes x0 x1 1 39 _ _ _ _ inb_S256x5120_S128x128_128_4992 inb_S1x5120_S1x128_0_4992 _ (factor_1 x0 x1) rfl rfl rfl) ?_
  refine And.intro (piece_codes x0 x1 1 38 _ _ _ _ inb_S256x5120_S128x128_128_4864 inb_S1x5120_S1x128_0_4864 _ (factor_1 x0 x1) rfl rfl rfl) ?_
  refine And.intro (piece_codes x0 x1 1 37 _ _ _ _ inb_S256x5120_S128x128_128_4736 inb_S1x5120_S1x128_0_4736 _ (factor_1 x0 x1) rfl rfl rfl) ?_
  refine And.intro (piece_codes x0 x1 1 36 _ _ _ _ inb_S256x5120_S128x128_128_4608 inb_S1x5120_S1x128_0_4608 _ (factor_1 x0 x1) rfl rfl rfl) ?_
  refine And.intro (piece_codes x0 x1 1 35 _ _ _ _ inb_S256x5120_S128x128_128_4480 inb_S1x5120_S1x128_0_4480 _ (factor_1 x0 x1) rfl rfl rfl) ?_
  refine And.intro (piece_codes x0 x1 1 34 _ _ _ _ inb_S256x5120_S128x128_128_4352 inb_S1x5120_S1x128_0_4352 _ (factor_1 x0 x1) rfl rfl rfl) ?_
  refine And.intro (piece_codes x0 x1 1 33 _ _ _ _ inb_S256x5120_S128x128_128_4224 inb_S1x5120_S1x128_0_4224 _ (factor_1 x0 x1) rfl rfl rfl) ?_
  refine And.intro (piece_codes x0 x1 1 32 _ _ _ _ inb_S256x5120_S128x128_128_4096 inb_S1x5120_S1x128_0_4096 _ (factor_1 x0 x1) rfl rfl rfl) ?_
  refine And.intro (piece_codes x0 x1 1 31 _ _ _ _ inb_S256x5120_S128x128_128_3968 inb_S1x5120_S1x128_0_3968 _ (factor_1 x0 x1) rfl rfl rfl) ?_
  refine And.intro (piece_codes x0 x1 1 30 _ _ _ _ inb_S256x5120_S128x128_128_3840 inb_S1x5120_S1x128_0_3840 _ (factor_1 x0 x1) rfl rfl rfl) ?_
  refine And.intro (piece_codes x0 x1 1 29 _ _ _ _ inb_S256x5120_S128x128_128_3712 inb_S1x5120_S1x128_0_3712 _ (factor_1 x0 x1) rfl rfl rfl) ?_
  refine And.intro (piece_codes x0 x1 1 28 _ _ _ _ inb_S256x5120_S128x128_128_3584 inb_S1x5120_S1x128_0_3584 _ (factor_1 x0 x1) rfl rfl rfl) ?_
  refine And.intro (piece_codes x0 x1 1 27 _ _ _ _ inb_S256x5120_S128x128_128_3456 inb_S1x5120_S1x128_0_3456 _ (factor_1 x0 x1) rfl rfl rfl) ?_
  refine And.intro (piece_codes x0 x1 1 26 _ _ _ _ inb_S256x5120_S128x128_128_3328 inb_S1x5120_S1x128_0_3328 _ (factor_1 x0 x1) rfl rfl rfl) ?_
  refine And.intro (piece_codes x0 x1 1 25 _ _ _ _ inb_S256x5120_S128x128_128_3200 inb_S1x5120_S1x128_0_3200 _ (factor_1 x0 x1) rfl rfl rfl) ?_
  refine And.intro (piece_codes x0 x1 1 24 _ _ _ _ inb_S256x5120_S128x128_128_3072 inb_S1x5120_S1x128_0_3072 _ (factor_1 x0 x1) rfl rfl rfl) ?_
  refine And.intro (piece_codes x0 x1 1 23 _ _ _ _ inb_S256x5120_S128x128_128_2944 inb_S1x5120_S1x128_0_2944 _ (factor_1 x0 x1) rfl rfl rfl) ?_
  refine And.intro (piece_codes x0 x1 1 22 _ _ _ _ inb_S256x5120_S128x128_128_2816 inb_S1x5120_S1x128_0_2816 _ (factor_1 x0 x1) rfl rfl rfl) ?_
  refine And.intro (piece_codes x0 x1 1 21 _ _ _ _ inb_S256x5120_S128x128_128_2688 inb_S1x5120_S1x128_0_2688 _ (factor_1 x0 x1) rfl rfl rfl) ?_
  refine And.intro (piece_codes x0 x1 1 20 _ _ _ _ inb_S256x5120_S128x128_128_2560 inb_S1x5120_S1x128_0_2560 _ (factor_1 x0 x1) rfl rfl rfl) ?_
  refine And.intro (piece_codes x0 x1 1 19 _ _ _ _ inb_S256x5120_S128x128_128_2432 inb_S1x5120_S1x128_0_2432 _ (factor_1 x0 x1) rfl rfl rfl) ?_
  refine And.intro (piece_codes x0 x1 1 18 _ _ _ _ inb_S256x5120_S128x128_128_2304 inb_S1x5120_S1x128_0_2304 _ (factor_1 x0 x1) rfl rfl rfl) ?_
  refine And.intro (piece_codes x0 x1 1 17 _ _ _ _ inb_S256x5120_S128x128_128_2176 inb_S1x5120_S1x128_0_2176 _ (factor_1 x0 x1) rfl rfl rfl) ?_
  refine And.intro (piece_codes x0 x1 1 16 _ _ _ _ inb_S256x5120_S128x128_128_2048 inb_S1x5120_S1x128_0_2048 _ (factor_1 x0 x1) rfl rfl rfl) ?_
  refine And.intro (piece_codes x0 x1 1 15 _ _ _ _ inb_S256x5120_S128x128_128_1920 inb_S1x5120_S1x128_0_1920 _ (factor_1 x0 x1) rfl rfl rfl) ?_
  refine And.intro (piece_codes x0 x1 1 14 _ _ _ _ inb_S256x5120_S128x128_128_1792 inb_S1x5120_S1x128_0_1792 _ (factor_1 x0 x1) rfl rfl rfl) ?_
  refine And.intro (piece_codes x0 x1 1 13 _ _ _ _ inb_S256x5120_S128x128_128_1664 inb_S1x5120_S1x128_0_1664 _ (factor_1 x0 x1) rfl rfl rfl) ?_
  refine And.intro (piece_codes x0 x1 1 12 _ _ _ _ inb_S256x5120_S128x128_128_1536 inb_S1x5120_S1x128_0_1536 _ (factor_1 x0 x1) rfl rfl rfl) ?_
  refine And.intro (piece_codes x0 x1 1 11 _ _ _ _ inb_S256x5120_S128x128_128_1408 inb_S1x5120_S1x128_0_1408 _ (factor_1 x0 x1) rfl rfl rfl) ?_
  refine And.intro (piece_codes x0 x1 1 10 _ _ _ _ inb_S256x5120_S128x128_128_1280 inb_S1x5120_S1x128_0_1280 _ (factor_1 x0 x1) rfl rfl rfl) ?_
  refine And.intro (piece_codes x0 x1 1 9 _ _ _ _ inb_S256x5120_S128x128_128_1152 inb_S1x5120_S1x128_0_1152 _ (factor_1 x0 x1) rfl rfl rfl) ?_
  refine And.intro (piece_codes x0 x1 1 8 _ _ _ _ inb_S256x5120_S128x128_128_1024 inb_S1x5120_S1x128_0_1024 _ (factor_1 x0 x1) rfl rfl rfl) ?_
  refine And.intro (piece_codes x0 x1 1 7 _ _ _ _ inb_S256x5120_S128x128_128_896 inb_S1x5120_S1x128_0_896 _ (factor_1 x0 x1) rfl rfl rfl) ?_
  refine And.intro (piece_codes x0 x1 1 6 _ _ _ _ inb_S256x5120_S128x128_128_768 inb_S1x5120_S1x128_0_768 _ (factor_1 x0 x1) rfl rfl rfl) ?_
  refine And.intro (piece_codes x0 x1 1 5 _ _ _ _ inb_S256x5120_S128x128_128_640 inb_S1x5120_S1x128_0_640 _ (factor_1 x0 x1) rfl rfl rfl) ?_
  refine And.intro (piece_codes x0 x1 1 4 _ _ _ _ inb_S256x5120_S128x128_128_512 inb_S1x5120_S1x128_0_512 _ (factor_1 x0 x1) rfl rfl rfl) ?_
  refine And.intro (piece_codes x0 x1 1 3 _ _ _ _ inb_S256x5120_S128x128_128_384 inb_S1x5120_S1x128_0_384 _ (factor_1 x0 x1) rfl rfl rfl) ?_
  refine And.intro (piece_codes x0 x1 1 2 _ _ _ _ inb_S256x5120_S128x128_128_256 inb_S1x5120_S1x128_0_256 _ (factor_1 x0 x1) rfl rfl rfl) ?_
  refine And.intro (piece_codes x0 x1 1 1 _ _ _ _ inb_S256x5120_S128x128_128_128 inb_S1x5120_S1x128_0_128 _ (factor_1 x0 x1) rfl rfl rfl) ?_
  refine And.intro (piece_codes x0 x1 1 0 _ _ _ _ inb_S256x5120_S128x128_128_0 inb_S1x5120_S1x128_0_0 _ (factor_1 x0 x1) rfl rfl rfl) ?_
  refine And.intro (piece_codes x0 x1 0 39 _ _ _ _ inb_S256x5120_S128x128_0_4992 inb_S1x5120_S1x128_0_4992 _ (factor_0 x0 x1) rfl rfl rfl) ?_
  refine And.intro (piece_codes x0 x1 0 38 _ _ _ _ inb_S256x5120_S128x128_0_4864 inb_S1x5120_S1x128_0_4864 _ (factor_0 x0 x1) rfl rfl rfl) ?_
  refine And.intro (piece_codes x0 x1 0 37 _ _ _ _ inb_S256x5120_S128x128_0_4736 inb_S1x5120_S1x128_0_4736 _ (factor_0 x0 x1) rfl rfl rfl) ?_
  refine And.intro (piece_codes x0 x1 0 36 _ _ _ _ inb_S256x5120_S128x128_0_4608 inb_S1x5120_S1x128_0_4608 _ (factor_0 x0 x1) rfl rfl rfl) ?_
  refine And.intro (piece_codes x0 x1 0 35 _ _ _ _ inb_S256x5120_S128x128_0_4480 inb_S1x5120_S1x128_0_4480 _ (factor_0 x0 x1) rfl rfl rfl) ?_
  refine And.intro (piece_codes x0 x1 0 34 _ _ _ _ inb_S256x5120_S128x128_0_4352 inb_S1x5120_S1x128_0_4352 _ (factor_0 x0 x1) rfl rfl rfl) ?_
  refine And.intro (piece_codes x0 x1 0 33 _ _ _ _ inb_S256x5120_S128x128_0_4224 inb_S1x5120_S1x128_0_4224 _ (factor_0 x0 x1) rfl rfl rfl) ?_
  refine And.intro (piece_codes x0 x1 0 32 _ _ _ _ inb_S256x5120_S128x128_0_4096 inb_S1x5120_S1x128_0_4096 _ (factor_0 x0 x1) rfl rfl rfl) ?_
  refine And.intro (piece_codes x0 x1 0 31 _ _ _ _ inb_S256x5120_S128x128_0_3968 inb_S1x5120_S1x128_0_3968 _ (factor_0 x0 x1) rfl rfl rfl) ?_
  refine And.intro (piece_codes x0 x1 0 30 _ _ _ _ inb_S256x5120_S128x128_0_3840 inb_S1x5120_S1x128_0_3840 _ (factor_0 x0 x1) rfl rfl rfl) ?_
  refine And.intro (piece_codes x0 x1 0 29 _ _ _ _ inb_S256x5120_S128x128_0_3712 inb_S1x5120_S1x128_0_3712 _ (factor_0 x0 x1) rfl rfl rfl) ?_
  refine And.intro (piece_codes x0 x1 0 28 _ _ _ _ inb_S256x5120_S128x128_0_3584 inb_S1x5120_S1x128_0_3584 _ (factor_0 x0 x1) rfl rfl rfl) ?_
  refine And.intro (piece_codes x0 x1 0 27 _ _ _ _ inb_S256x5120_S128x128_0_3456 inb_S1x5120_S1x128_0_3456 _ (factor_0 x0 x1) rfl rfl rfl) ?_
  refine And.intro (piece_codes x0 x1 0 26 _ _ _ _ inb_S256x5120_S128x128_0_3328 inb_S1x5120_S1x128_0_3328 _ (factor_0 x0 x1) rfl rfl rfl) ?_
  refine And.intro (piece_codes x0 x1 0 25 _ _ _ _ inb_S256x5120_S128x128_0_3200 inb_S1x5120_S1x128_0_3200 _ (factor_0 x0 x1) rfl rfl rfl) ?_
  refine And.intro (piece_codes x0 x1 0 24 _ _ _ _ inb_S256x5120_S128x128_0_3072 inb_S1x5120_S1x128_0_3072 _ (factor_0 x0 x1) rfl rfl rfl) ?_
  refine And.intro (piece_codes x0 x1 0 23 _ _ _ _ inb_S256x5120_S128x128_0_2944 inb_S1x5120_S1x128_0_2944 _ (factor_0 x0 x1) rfl rfl rfl) ?_
  refine And.intro (piece_codes x0 x1 0 22 _ _ _ _ inb_S256x5120_S128x128_0_2816 inb_S1x5120_S1x128_0_2816 _ (factor_0 x0 x1) rfl rfl rfl) ?_
  refine And.intro (piece_codes x0 x1 0 21 _ _ _ _ inb_S256x5120_S128x128_0_2688 inb_S1x5120_S1x128_0_2688 _ (factor_0 x0 x1) rfl rfl rfl) ?_
  refine And.intro (piece_codes x0 x1 0 20 _ _ _ _ inb_S256x5120_S128x128_0_2560 inb_S1x5120_S1x128_0_2560 _ (factor_0 x0 x1) rfl rfl rfl) ?_
  refine And.intro (piece_codes x0 x1 0 19 _ _ _ _ inb_S256x5120_S128x128_0_2432 inb_S1x5120_S1x128_0_2432 _ (factor_0 x0 x1) rfl rfl rfl) ?_
  refine And.intro (piece_codes x0 x1 0 18 _ _ _ _ inb_S256x5120_S128x128_0_2304 inb_S1x5120_S1x128_0_2304 _ (factor_0 x0 x1) rfl rfl rfl) ?_
  refine And.intro (piece_codes x0 x1 0 17 _ _ _ _ inb_S256x5120_S128x128_0_2176 inb_S1x5120_S1x128_0_2176 _ (factor_0 x0 x1) rfl rfl rfl) ?_
  refine And.intro (piece_codes x0 x1 0 16 _ _ _ _ inb_S256x5120_S128x128_0_2048 inb_S1x5120_S1x128_0_2048 _ (factor_0 x0 x1) rfl rfl rfl) ?_
  refine And.intro (piece_codes x0 x1 0 15 _ _ _ _ inb_S256x5120_S128x128_0_1920 inb_S1x5120_S1x128_0_1920 _ (factor_0 x0 x1) rfl rfl rfl) ?_
  refine And.intro (piece_codes x0 x1 0 14 _ _ _ _ inb_S256x5120_S128x128_0_1792 inb_S1x5120_S1x128_0_1792 _ (factor_0 x0 x1) rfl rfl rfl) ?_
  refine And.intro (piece_codes x0 x1 0 13 _ _ _ _ inb_S256x5120_S128x128_0_1664 inb_S1x5120_S1x128_0_1664 _ (factor_0 x0 x1) rfl rfl rfl) ?_
  refine And.intro (piece_codes x0 x1 0 12 _ _ _ _ inb_S256x5120_S128x128_0_1536 inb_S1x5120_S1x128_0_1536 _ (factor_0 x0 x1) rfl rfl rfl) ?_
  refine And.intro (piece_codes x0 x1 0 11 _ _ _ _ inb_S256x5120_S128x128_0_1408 inb_S1x5120_S1x128_0_1408 _ (factor_0 x0 x1) rfl rfl rfl) ?_
  refine And.intro (piece_codes x0 x1 0 10 _ _ _ _ inb_S256x5120_S128x128_0_1280 inb_S1x5120_S1x128_0_1280 _ (factor_0 x0 x1) rfl rfl rfl) ?_
  refine And.intro (piece_codes x0 x1 0 9 _ _ _ _ inb_S256x5120_S128x128_0_1152 inb_S1x5120_S1x128_0_1152 _ (factor_0 x0 x1) rfl rfl rfl) ?_
  refine And.intro (piece_codes x0 x1 0 8 _ _ _ _ inb_S256x5120_S128x128_0_1024 inb_S1x5120_S1x128_0_1024 _ (factor_0 x0 x1) rfl rfl rfl) ?_
  refine And.intro (piece_codes x0 x1 0 7 _ _ _ _ inb_S256x5120_S128x128_0_896 inb_S1x5120_S1x128_0_896 _ (factor_0 x0 x1) rfl rfl rfl) ?_
  refine And.intro (piece_codes x0 x1 0 6 _ _ _ _ inb_S256x5120_S128x128_0_768 inb_S1x5120_S1x128_0_768 _ (factor_0 x0 x1) rfl rfl rfl) ?_
  refine And.intro (piece_codes x0 x1 0 5 _ _ _ _ inb_S256x5120_S128x128_0_640 inb_S1x5120_S1x128_0_640 _ (factor_0 x0 x1) rfl rfl rfl) ?_
  refine And.intro (piece_codes x0 x1 0 4 _ _ _ _ inb_S256x5120_S128x128_0_512 inb_S1x5120_S1x128_0_512 _ (factor_0 x0 x1) rfl rfl rfl) ?_
  refine And.intro (piece_codes x0 x1 0 3 _ _ _ _ inb_S256x5120_S128x128_0_384 inb_S1x5120_S1x128_0_384 _ (factor_0 x0 x1) rfl rfl rfl) ?_
  refine And.intro (piece_codes x0 x1 0 2 _ _ _ _ inb_S256x5120_S128x128_0_256 inb_S1x5120_S1x128_0_256 _ (factor_0 x0 x1) rfl rfl rfl) ?_
  refine And.intro (piece_codes x0 x1 0 1 _ _ _ _ inb_S256x5120_S128x128_0_128 inb_S1x5120_S1x128_0_128 _ (factor_0 x0 x1) rfl rfl rfl) ?_
  refine And.intro (piece_codes x0 x1 0 0 _ _ _ _ inb_S256x5120_S128x128_0_0 inb_S1x5120_S1x128_0_0 _ (factor_0 x0 x1) rfl rfl rfl) ?_
  exact fun p hp => absurd hp List.not_mem_nil

set_option maxHeartbeats 8000000 in
theorem out0_3_eq (x0 : Vec F S256x5120 .bf16) (x1 : Vec F S1x5120 .bf16) : out0_3 x0 x1 = scaleW x0 x1 := by
  funext y
  unfold out0_3
  refine View.canon_apply_of_pieces (scaleW x0 x1) _ ?_ y (cover0_3 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y)
  simp only [List.forall_mem_cons]
  refine And.intro (piece_scale x0 x1 1 39 _ _ _ _ inb_S256x5120_S128x128_128_4992 inb_S1x5120_S1x128_0_4992 _ (factor_1 x0 x1) rfl rfl rfl) ?_
  refine And.intro (piece_scale x0 x1 1 38 _ _ _ _ inb_S256x5120_S128x128_128_4864 inb_S1x5120_S1x128_0_4864 _ (factor_1 x0 x1) rfl rfl rfl) ?_
  refine And.intro (piece_scale x0 x1 1 37 _ _ _ _ inb_S256x5120_S128x128_128_4736 inb_S1x5120_S1x128_0_4736 _ (factor_1 x0 x1) rfl rfl rfl) ?_
  refine And.intro (piece_scale x0 x1 1 36 _ _ _ _ inb_S256x5120_S128x128_128_4608 inb_S1x5120_S1x128_0_4608 _ (factor_1 x0 x1) rfl rfl rfl) ?_
  refine And.intro (piece_scale x0 x1 1 35 _ _ _ _ inb_S256x5120_S128x128_128_4480 inb_S1x5120_S1x128_0_4480 _ (factor_1 x0 x1) rfl rfl rfl) ?_
  refine And.intro (piece_scale x0 x1 1 34 _ _ _ _ inb_S256x5120_S128x128_128_4352 inb_S1x5120_S1x128_0_4352 _ (factor_1 x0 x1) rfl rfl rfl) ?_
  refine And.intro (piece_scale x0 x1 1 33 _ _ _ _ inb_S256x5120_S128x128_128_4224 inb_S1x5120_S1x128_0_4224 _ (factor_1 x0 x1) rfl rfl rfl) ?_
  refine And.intro (piece_scale x0 x1 1 32 _ _ _ _ inb_S256x5120_S128x128_128_4096 inb_S1x5120_S1x128_0_4096 _ (factor_1 x0 x1) rfl rfl rfl) ?_
  refine And.intro (piece_scale x0 x1 1 31 _ _ _ _ inb_S256x5120_S128x128_128_3968 inb_S1x5120_S1x128_0_3968 _ (factor_1 x0 x1) rfl rfl rfl) ?_
  refine And.intro (piece_scale x0 x1 1 30 _ _ _ _ inb_S256x5120_S128x128_128_3840 inb_S1x5120_S1x128_0_3840 _ (factor_1 x0 x1) rfl rfl rfl) ?_
  refine And.intro (piece_scale x0 x1 1 29 _ _ _ _ inb_S256x5120_S128x128_128_3712 inb_S1x5120_S1x128_0_3712 _ (factor_1 x0 x1) rfl rfl rfl) ?_
  refine And.intro (piece_scale x0 x1 1 28 _ _ _ _ inb_S256x5120_S128x128_128_3584 inb_S1x5120_S1x128_0_3584 _ (factor_1 x0 x1) rfl rfl rfl) ?_
  refine And.intro (piece_scale x0 x1 1 27 _ _ _ _ inb_S256x5120_S128x128_128_3456 inb_S1x5120_S1x128_0_3456 _ (factor_1 x0 x1) rfl rfl rfl) ?_
  refine And.intro (piece_scale x0 x1 1 26 _ _ _ _ inb_S256x5120_S128x128_128_3328 inb_S1x5120_S1x128_0_3328 _ (factor_1 x0 x1) rfl rfl rfl) ?_
  refine And.intro (piece_scale x0 x1 1 25 _ _ _ _ inb_S256x5120_S128x128_128_3200 inb_S1x5120_S1x128_0_3200 _ (factor_1 x0 x1) rfl rfl rfl) ?_
  refine And.intro (piece_scale x0 x1 1 24 _ _ _ _ inb_S256x5120_S128x128_128_3072 inb_S1x5120_S1x128_0_3072 _ (factor_1 x0 x1) rfl rfl rfl) ?_
  refine And.intro (piece_scale x0 x1 1 23 _ _ _ _ inb_S256x5120_S128x128_128_2944 inb_S1x5120_S1x128_0_2944 _ (factor_1 x0 x1) rfl rfl rfl) ?_
  refine And.intro (piece_scale x0 x1 1 22 _ _ _ _ inb_S256x5120_S128x128_128_2816 inb_S1x5120_S1x128_0_2816 _ (factor_1 x0 x1) rfl rfl rfl) ?_
  refine And.intro (piece_scale x0 x1 1 21 _ _ _ _ inb_S256x5120_S128x128_128_2688 inb_S1x5120_S1x128_0_2688 _ (factor_1 x0 x1) rfl rfl rfl) ?_
  refine And.intro (piece_scale x0 x1 1 20 _ _ _ _ inb_S256x5120_S128x128_128_2560 inb_S1x5120_S1x128_0_2560 _ (factor_1 x0 x1) rfl rfl rfl) ?_
  refine And.intro (piece_scale x0 x1 1 19 _ _ _ _ inb_S256x5120_S128x128_128_2432 inb_S1x5120_S1x128_0_2432 _ (factor_1 x0 x1) rfl rfl rfl) ?_
  refine And.intro (piece_scale x0 x1 1 18 _ _ _ _ inb_S256x5120_S128x128_128_2304 inb_S1x5120_S1x128_0_2304 _ (factor_1 x0 x1) rfl rfl rfl) ?_
  refine And.intro (piece_scale x0 x1 1 17 _ _ _ _ inb_S256x5120_S128x128_128_2176 inb_S1x5120_S1x128_0_2176 _ (factor_1 x0 x1) rfl rfl rfl) ?_
  refine And.intro (piece_scale x0 x1 1 16 _ _ _ _ inb_S256x5120_S128x128_128_2048 inb_S1x5120_S1x128_0_2048 _ (factor_1 x0 x1) rfl rfl rfl) ?_
  refine And.intro (piece_scale x0 x1 1 15 _ _ _ _ inb_S256x5120_S128x128_128_1920 inb_S1x5120_S1x128_0_1920 _ (factor_1 x0 x1) rfl rfl rfl) ?_
  refine And.intro (piece_scale x0 x1 1 14 _ _ _ _ inb_S256x5120_S128x128_128_1792 inb_S1x5120_S1x128_0_1792 _ (factor_1 x0 x1) rfl rfl rfl) ?_
  refine And.intro (piece_scale x0 x1 1 13 _ _ _ _ inb_S256x5120_S128x128_128_1664 inb_S1x5120_S1x128_0_1664 _ (factor_1 x0 x1) rfl rfl rfl) ?_
  refine And.intro (piece_scale x0 x1 1 12 _ _ _ _ inb_S256x5120_S128x128_128_1536 inb_S1x5120_S1x128_0_1536 _ (factor_1 x0 x1) rfl rfl rfl) ?_
  refine And.intro (piece_scale x0 x1 1 11 _ _ _ _ inb_S256x5120_S128x128_128_1408 inb_S1x5120_S1x128_0_1408 _ (factor_1 x0 x1) rfl rfl rfl) ?_
  refine And.intro (piece_scale x0 x1 1 10 _ _ _ _ inb_S256x5120_S128x128_128_1280 inb_S1x5120_S1x128_0_1280 _ (factor_1 x0 x1) rfl rfl rfl) ?_
  refine And.intro (piece_scale x0 x1 1 9 _ _ _ _ inb_S256x5120_S128x128_128_1152 inb_S1x5120_S1x128_0_1152 _ (factor_1 x0 x1) rfl rfl rfl) ?_
  refine And.intro (piece_scale x0 x1 1 8 _ _ _ _ inb_S256x5120_S128x128_128_1024 inb_S1x5120_S1x128_0_1024 _ (factor_1 x0 x1) rfl rfl rfl) ?_
  refine And.intro (piece_scale x0 x1 1 7 _ _ _ _ inb_S256x5120_S128x128_128_896 inb_S1x5120_S1x128_0_896 _ (factor_1 x0 x1) rfl rfl rfl) ?_
  refine And.intro (piece_scale x0 x1 1 6 _ _ _ _ inb_S256x5120_S128x128_128_768 inb_S1x5120_S1x128_0_768 _ (factor_1 x0 x1) rfl rfl rfl) ?_
  refine And.intro (piece_scale x0 x1 1 5 _ _ _ _ inb_S256x5120_S128x128_128_640 inb_S1x5120_S1x128_0_640 _ (factor_1 x0 x1) rfl rfl rfl) ?_
  refine And.intro (piece_scale x0 x1 1 4 _ _ _ _ inb_S256x5120_S128x128_128_512 inb_S1x5120_S1x128_0_512 _ (factor_1 x0 x1) rfl rfl rfl) ?_
  refine And.intro (piece_scale x0 x1 1 3 _ _ _ _ inb_S256x5120_S128x128_128_384 inb_S1x5120_S1x128_0_384 _ (factor_1 x0 x1) rfl rfl rfl) ?_
  refine And.intro (piece_scale x0 x1 1 2 _ _ _ _ inb_S256x5120_S128x128_128_256 inb_S1x5120_S1x128_0_256 _ (factor_1 x0 x1) rfl rfl rfl) ?_
  refine And.intro (piece_scale x0 x1 1 1 _ _ _ _ inb_S256x5120_S128x128_128_128 inb_S1x5120_S1x128_0_128 _ (factor_1 x0 x1) rfl rfl rfl) ?_
  refine And.intro (piece_scale x0 x1 1 0 _ _ _ _ inb_S256x5120_S128x128_128_0 inb_S1x5120_S1x128_0_0 _ (factor_1 x0 x1) rfl rfl rfl) ?_
  refine And.intro (piece_scale x0 x1 0 39 _ _ _ _ inb_S256x5120_S128x128_0_4992 inb_S1x5120_S1x128_0_4992 _ (factor_0 x0 x1) rfl rfl rfl) ?_
  refine And.intro (piece_scale x0 x1 0 38 _ _ _ _ inb_S256x5120_S128x128_0_4864 inb_S1x5120_S1x128_0_4864 _ (factor_0 x0 x1) rfl rfl rfl) ?_
  refine And.intro (piece_scale x0 x1 0 37 _ _ _ _ inb_S256x5120_S128x128_0_4736 inb_S1x5120_S1x128_0_4736 _ (factor_0 x0 x1) rfl rfl rfl) ?_
  refine And.intro (piece_scale x0 x1 0 36 _ _ _ _ inb_S256x5120_S128x128_0_4608 inb_S1x5120_S1x128_0_4608 _ (factor_0 x0 x1) rfl rfl rfl) ?_
  refine And.intro (piece_scale x0 x1 0 35 _ _ _ _ inb_S256x5120_S128x128_0_4480 inb_S1x5120_S1x128_0_4480 _ (factor_0 x0 x1) rfl rfl rfl) ?_
  refine And.intro (piece_scale x0 x1 0 34 _ _ _ _ inb_S256x5120_S128x128_0_4352 inb_S1x5120_S1x128_0_4352 _ (factor_0 x0 x1) rfl rfl rfl) ?_
  refine And.intro (piece_scale x0 x1 0 33 _ _ _ _ inb_S256x5120_S128x128_0_4224 inb_S1x5120_S1x128_0_4224 _ (factor_0 x0 x1) rfl rfl rfl) ?_
  refine And.intro (piece_scale x0 x1 0 32 _ _ _ _ inb_S256x5120_S128x128_0_4096 inb_S1x5120_S1x128_0_4096 _ (factor_0 x0 x1) rfl rfl rfl) ?_
  refine And.intro (piece_scale x0 x1 0 31 _ _ _ _ inb_S256x5120_S128x128_0_3968 inb_S1x5120_S1x128_0_3968 _ (factor_0 x0 x1) rfl rfl rfl) ?_
  refine And.intro (piece_scale x0 x1 0 30 _ _ _ _ inb_S256x5120_S128x128_0_3840 inb_S1x5120_S1x128_0_3840 _ (factor_0 x0 x1) rfl rfl rfl) ?_
  refine And.intro (piece_scale x0 x1 0 29 _ _ _ _ inb_S256x5120_S128x128_0_3712 inb_S1x5120_S1x128_0_3712 _ (factor_0 x0 x1) rfl rfl rfl) ?_
  refine And.intro (piece_scale x0 x1 0 28 _ _ _ _ inb_S256x5120_S128x128_0_3584 inb_S1x5120_S1x128_0_3584 _ (factor_0 x0 x1) rfl rfl rfl) ?_
  refine And.intro (piece_scale x0 x1 0 27 _ _ _ _ inb_S256x5120_S128x128_0_3456 inb_S1x5120_S1x128_0_3456 _ (factor_0 x0 x1) rfl rfl rfl) ?_
  refine And.intro (piece_scale x0 x1 0 26 _ _ _ _ inb_S256x5120_S128x128_0_3328 inb_S1x5120_S1x128_0_3328 _ (factor_0 x0 x1) rfl rfl rfl) ?_
  refine And.intro (piece_scale x0 x1 0 25 _ _ _ _ inb_S256x5120_S128x128_0_3200 inb_S1x5120_S1x128_0_3200 _ (factor_0 x0 x1) rfl rfl rfl) ?_
  refine And.intro (piece_scale x0 x1 0 24 _ _ _ _ inb_S256x5120_S128x128_0_3072 inb_S1x5120_S1x128_0_3072 _ (factor_0 x0 x1) rfl rfl rfl) ?_
  refine And.intro (piece_scale x0 x1 0 23 _ _ _ _ inb_S256x5120_S128x128_0_2944 inb_S1x5120_S1x128_0_2944 _ (factor_0 x0 x1) rfl rfl rfl) ?_
  refine And.intro (piece_scale x0 x1 0 22 _ _ _ _ inb_S256x5120_S128x128_0_2816 inb_S1x5120_S1x128_0_2816 _ (factor_0 x0 x1) rfl rfl rfl) ?_
  refine And.intro (piece_scale x0 x1 0 21 _ _ _ _ inb_S256x5120_S128x128_0_2688 inb_S1x5120_S1x128_0_2688 _ (factor_0 x0 x1) rfl rfl rfl) ?_
  refine And.intro (piece_scale x0 x1 0 20 _ _ _ _ inb_S256x5120_S128x128_0_2560 inb_S1x5120_S1x128_0_2560 _ (factor_0 x0 x1) rfl rfl rfl) ?_
  refine And.intro (piece_scale x0 x1 0 19 _ _ _ _ inb_S256x5120_S128x128_0_2432 inb_S1x5120_S1x128_0_2432 _ (factor_0 x0 x1) rfl rfl rfl) ?_
  refine And.intro (piece_scale x0 x1 0 18 _ _ _ _ inb_S256x5120_S128x128_0_2304 inb_S1x5120_S1x128_0_2304 _ (factor_0 x0 x1) rfl rfl rfl) ?_
  refine And.intro (piece_scale x0 x1 0 17 _ _ _ _ inb_S256x5120_S128x128_0_2176 inb_S1x5120_S1x128_0_2176 _ (factor_0 x0 x1) rfl rfl rfl) ?_
  refine And.intro (piece_scale x0 x1 0 16 _ _ _ _ inb_S256x5120_S128x128_0_2048 inb_S1x5120_S1x128_0_2048 _ (factor_0 x0 x1) rfl rfl rfl) ?_
  refine And.intro (piece_scale x0 x1 0 15 _ _ _ _ inb_S256x5120_S128x128_0_1920 inb_S1x5120_S1x128_0_1920 _ (factor_0 x0 x1) rfl rfl rfl) ?_
  refine And.intro (piece_scale x0 x1 0 14 _ _ _ _ inb_S256x5120_S128x128_0_1792 inb_S1x5120_S1x128_0_1792 _ (factor_0 x0 x1) rfl rfl rfl) ?_
  refine And.intro (piece_scale x0 x1 0 13 _ _ _ _ inb_S256x5120_S128x128_0_1664 inb_S1x5120_S1x128_0_1664 _ (factor_0 x0 x1) rfl rfl rfl) ?_
  refine And.intro (piece_scale x0 x1 0 12 _ _ _ _ inb_S256x5120_S128x128_0_1536 inb_S1x5120_S1x128_0_1536 _ (factor_0 x0 x1) rfl rfl rfl) ?_
  refine And.intro (piece_scale x0 x1 0 11 _ _ _ _ inb_S256x5120_S128x128_0_1408 inb_S1x5120_S1x128_0_1408 _ (factor_0 x0 x1) rfl rfl rfl) ?_
  refine And.intro (piece_scale x0 x1 0 10 _ _ _ _ inb_S256x5120_S128x128_0_1280 inb_S1x5120_S1x128_0_1280 _ (factor_0 x0 x1) rfl rfl rfl) ?_
  refine And.intro (piece_scale x0 x1 0 9 _ _ _ _ inb_S256x5120_S128x128_0_1152 inb_S1x5120_S1x128_0_1152 _ (factor_0 x0 x1) rfl rfl rfl) ?_
  refine And.intro (piece_scale x0 x1 0 8 _ _ _ _ inb_S256x5120_S128x128_0_1024 inb_S1x5120_S1x128_0_1024 _ (factor_0 x0 x1) rfl rfl rfl) ?_
  refine And.intro (piece_scale x0 x1 0 7 _ _ _ _ inb_S256x5120_S128x128_0_896 inb_S1x5120_S1x128_0_896 _ (factor_0 x0 x1) rfl rfl rfl) ?_
  refine And.intro (piece_scale x0 x1 0 6 _ _ _ _ inb_S256x5120_S128x128_0_768 inb_S1x5120_S1x128_0_768 _ (factor_0 x0 x1) rfl rfl rfl) ?_
  refine And.intro (piece_scale x0 x1 0 5 _ _ _ _ inb_S256x5120_S128x128_0_640 inb_S1x5120_S1x128_0_640 _ (factor_0 x0 x1) rfl rfl rfl) ?_
  refine And.intro (piece_scale x0 x1 0 4 _ _ _ _ inb_S256x5120_S128x128_0_512 inb_S1x5120_S1x128_0_512 _ (factor_0 x0 x1) rfl rfl rfl) ?_
  refine And.intro (piece_scale x0 x1 0 3 _ _ _ _ inb_S256x5120_S128x128_0_384 inb_S1x5120_S1x128_0_384 _ (factor_0 x0 x1) rfl rfl rfl) ?_
  refine And.intro (piece_scale x0 x1 0 2 _ _ _ _ inb_S256x5120_S128x128_0_256 inb_S1x5120_S1x128_0_256 _ (factor_0 x0 x1) rfl rfl rfl) ?_
  refine And.intro (piece_scale x0 x1 0 1 _ _ _ _ inb_S256x5120_S128x128_0_128 inb_S1x5120_S1x128_0_128 _ (factor_0 x0 x1) rfl rfl rfl) ?_
  refine And.intro (piece_scale x0 x1 0 0 _ _ _ _ inb_S256x5120_S128x128_0_0 inb_S1x5120_S1x128_0_0 _ (factor_0 x0 x1) rfl rfl rfl) ?_
  exact fun p hp => absurd hp List.not_mem_nil

set_option maxHeartbeats 8000000 in
theorem out0_4_eq (x0 : Vec F S256x5120 .bf16) (x1 : Vec F S1x5120 .bf16) : out0_4 x0 x1 = deqW x0 x1 := by
  funext y
  unfold out0_4
  refine View.canon_apply_of_pieces (deqW x0 x1) _ ?_ y (cover0_4 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y)
  simp only [List.forall_mem_cons]
  refine And.intro (piece_deq x0 x1 1 39 _ _ _ _ inb_S256x5120_S128x128_128_4992 inb_S1x5120_S1x128_0_4992 _ (factor_1 x0 x1) rfl rfl rfl) ?_
  refine And.intro (piece_deq x0 x1 1 38 _ _ _ _ inb_S256x5120_S128x128_128_4864 inb_S1x5120_S1x128_0_4864 _ (factor_1 x0 x1) rfl rfl rfl) ?_
  refine And.intro (piece_deq x0 x1 1 37 _ _ _ _ inb_S256x5120_S128x128_128_4736 inb_S1x5120_S1x128_0_4736 _ (factor_1 x0 x1) rfl rfl rfl) ?_
  refine And.intro (piece_deq x0 x1 1 36 _ _ _ _ inb_S256x5120_S128x128_128_4608 inb_S1x5120_S1x128_0_4608 _ (factor_1 x0 x1) rfl rfl rfl) ?_
  refine And.intro (piece_deq x0 x1 1 35 _ _ _ _ inb_S256x5120_S128x128_128_4480 inb_S1x5120_S1x128_0_4480 _ (factor_1 x0 x1) rfl rfl rfl) ?_
  refine And.intro (piece_deq x0 x1 1 34 _ _ _ _ inb_S256x5120_S128x128_128_4352 inb_S1x5120_S1x128_0_4352 _ (factor_1 x0 x1) rfl rfl rfl) ?_
  refine And.intro (piece_deq x0 x1 1 33 _ _ _ _ inb_S256x5120_S128x128_128_4224 inb_S1x5120_S1x128_0_4224 _ (factor_1 x0 x1) rfl rfl rfl) ?_
  refine And.intro (piece_deq x0 x1 1 32 _ _ _ _ inb_S256x5120_S128x128_128_4096 inb_S1x5120_S1x128_0_4096 _ (factor_1 x0 x1) rfl rfl rfl) ?_
  refine And.intro (piece_deq x0 x1 1 31 _ _ _ _ inb_S256x5120_S128x128_128_3968 inb_S1x5120_S1x128_0_3968 _ (factor_1 x0 x1) rfl rfl rfl) ?_
  refine And.intro (piece_deq x0 x1 1 30 _ _ _ _ inb_S256x5120_S128x128_128_3840 inb_S1x5120_S1x128_0_3840 _ (factor_1 x0 x1) rfl rfl rfl) ?_
  refine And.intro (piece_deq x0 x1 1 29 _ _ _ _ inb_S256x5120_S128x128_128_3712 inb_S1x5120_S1x128_0_3712 _ (factor_1 x0 x1) rfl rfl rfl) ?_
  refine And.intro (piece_deq x0 x1 1 28 _ _ _ _ inb_S256x5120_S128x128_128_3584 inb_S1x5120_S1x128_0_3584 _ (factor_1 x0 x1) rfl rfl rfl) ?_
  refine And.intro (piece_deq x0 x1 1 27 _ _ _ _ inb_S256x5120_S128x128_128_3456 inb_S1x5120_S1x128_0_3456 _ (factor_1 x0 x1) rfl rfl rfl) ?_
  refine And.intro (piece_deq x0 x1 1 26 _ _ _ _ inb_S256x5120_S128x128_128_3328 inb_S1x5120_S1x128_0_3328 _ (factor_1 x0 x1) rfl rfl rfl) ?_
  refine And.intro (piece_deq x0 x1 1 25 _ _ _ _ inb_S256x5120_S128x128_128_3200 inb_S1x5120_S1x128_0_3200 _ (factor_1 x0 x1) rfl rfl rfl) ?_
  refine And.intro (piece_deq x0 x1 1 24 _ _ _ _ inb_S256x5120_S128x128_128_3072 inb_S1x5120_S1x128_0_3072 _ (factor_1 x0 x1) rfl rfl rfl) ?_
  refine And.intro (piece_deq x0 x1 1 23 _ _ _ _ inb_S256x5120_S128x128_128_2944 inb_S1x5120_S1x128_0_2944 _ (factor_1 x0 x1) rfl rfl rfl) ?_
  refine And.intro (piece_deq x0 x1 1 22 _ _ _ _ inb_S256x5120_S128x128_128_2816 inb_S1x5120_S1x128_0_2816 _ (factor_1 x0 x1) rfl rfl rfl) ?_
  refine And.intro (piece_deq x0 x1 1 21 _ _ _ _ inb_S256x5120_S128x128_128_2688 inb_S1x5120_S1x128_0_2688 _ (factor_1 x0 x1) rfl rfl rfl) ?_
  refine And.intro (piece_deq x0 x1 1 20 _ _ _ _ inb_S256x5120_S128x128_128_2560 inb_S1x5120_S1x128_0_2560 _ (factor_1 x0 x1) rfl rfl rfl) ?_
  refine And.intro (piece_deq x0 x1 1 19 _ _ _ _ inb_S256x5120_S128x128_128_2432 inb_S1x5120_S1x128_0_2432 _ (factor_1 x0 x1) rfl rfl rfl) ?_
  refine And.intro (piece_deq x0 x1 1 18 _ _ _ _ inb_S256x5120_S128x128_128_2304 inb_S1x5120_S1x128_0_2304 _ (factor_1 x0 x1) rfl rfl rfl) ?_
  refine And.intro (piece_deq x0 x1 1 17 _ _ _ _ inb_S256x5120_S128x128_128_2176 inb_S1x5120_S1x128_0_2176 _ (factor_1 x0 x1) rfl rfl rfl) ?_
  refine And.intro (piece_deq x0 x1 1 16 _ _ _ _ inb_S256x5120_S128x128_128_2048 inb_S1x5120_S1x128_0_2048 _ (factor_1 x0 x1) rfl rfl rfl) ?_
  refine And.intro (piece_deq x0 x1 1 15 _ _ _ _ inb_S256x5120_S128x128_128_1920 inb_S1x5120_S1x128_0_1920 _ (factor_1 x0 x1) rfl rfl rfl) ?_
  refine And.intro (piece_deq x0 x1 1 14 _ _ _ _ inb_S256x5120_S128x128_128_1792 inb_S1x5120_S1x128_0_1792 _ (factor_1 x0 x1) rfl rfl rfl) ?_
  refine And.intro (piece_deq x0 x1 1 13 _ _ _ _ inb_S256x5120_S128x128_128_1664 inb_S1x5120_S1x128_0_1664 _ (factor_1 x0 x1) rfl rfl rfl) ?_
  refine And.intro (piece_deq x0 x1 1 12 _ _ _ _ inb_S256x5120_S128x128_128_1536 inb_S1x5120_S1x128_0_1536 _ (factor_1 x0 x1) rfl rfl rfl) ?_
  refine And.intro (piece_deq x0 x1 1 11 _ _ _ _ inb_S256x5120_S128x128_128_1408 inb_S1x5120_S1x128_0_1408 _ (factor_1 x0 x1) rfl rfl rfl) ?_
  refine And.intro (piece_deq x0 x1 1 10 _ _ _ _ inb_S256x5120_S128x128_128_1280 inb_S1x5120_S1x128_0_1280 _ (factor_1 x0 x1) rfl rfl rfl) ?_
  refine And.intro (piece_deq x0 x1 1 9 _ _ _ _ inb_S256x5120_S128x128_128_1152 inb_S1x5120_S1x128_0_1152 _ (factor_1 x0 x1) rfl rfl rfl) ?_
  refine And.intro (piece_deq x0 x1 1 8 _ _ _ _ inb_S256x5120_S128x128_128_1024 inb_S1x5120_S1x128_0_1024 _ (factor_1 x0 x1) rfl rfl rfl) ?_
  refine And.intro (piece_deq x0 x1 1 7 _ _ _ _ inb_S256x5120_S128x128_128_896 inb_S1x5120_S1x128_0_896 _ (factor_1 x0 x1) rfl rfl rfl) ?_
  refine And.intro (piece_deq x0 x1 1 6 _ _ _ _ inb_S256x5120_S128x128_128_768 inb_S1x5120_S1x128_0_768 _ (factor_1 x0 x1) rfl rfl rfl) ?_
  refine And.intro (piece_deq x0 x1 1 5 _ _ _ _ inb_S256x5120_S128x128_128_640 inb_S1x5120_S1x128_0_640 _ (factor_1 x0 x1) rfl rfl rfl) ?_
  refine And.intro (piece_deq x0 x1 1 4 _ _ _ _ inb_S256x5120_S128x128_128_512 inb_S1x5120_S1x128_0_512 _ (factor_1 x0 x1) rfl rfl rfl) ?_
  refine And.intro (piece_deq x0 x1 1 3 _ _ _ _ inb_S256x5120_S128x128_128_384 inb_S1x5120_S1x128_0_384 _ (factor_1 x0 x1) rfl rfl rfl) ?_
  refine And.intro (piece_deq x0 x1 1 2 _ _ _ _ inb_S256x5120_S128x128_128_256 inb_S1x5120_S1x128_0_256 _ (factor_1 x0 x1) rfl rfl rfl) ?_
  refine And.intro (piece_deq x0 x1 1 1 _ _ _ _ inb_S256x5120_S128x128_128_128 inb_S1x5120_S1x128_0_128 _ (factor_1 x0 x1) rfl rfl rfl) ?_
  refine And.intro (piece_deq x0 x1 1 0 _ _ _ _ inb_S256x5120_S128x128_128_0 inb_S1x5120_S1x128_0_0 _ (factor_1 x0 x1) rfl rfl rfl) ?_
  refine And.intro (piece_deq x0 x1 0 39 _ _ _ _ inb_S256x5120_S128x128_0_4992 inb_S1x5120_S1x128_0_4992 _ (factor_0 x0 x1) rfl rfl rfl) ?_
  refine And.intro (piece_deq x0 x1 0 38 _ _ _ _ inb_S256x5120_S128x128_0_4864 inb_S1x5120_S1x128_0_4864 _ (factor_0 x0 x1) rfl rfl rfl) ?_
  refine And.intro (piece_deq x0 x1 0 37 _ _ _ _ inb_S256x5120_S128x128_0_4736 inb_S1x5120_S1x128_0_4736 _ (factor_0 x0 x1) rfl rfl rfl) ?_
  refine And.intro (piece_deq x0 x1 0 36 _ _ _ _ inb_S256x5120_S128x128_0_4608 inb_S1x5120_S1x128_0_4608 _ (factor_0 x0 x1) rfl rfl rfl) ?_
  refine And.intro (piece_deq x0 x1 0 35 _ _ _ _ inb_S256x5120_S128x128_0_4480 inb_S1x5120_S1x128_0_4480 _ (factor_0 x0 x1) rfl rfl rfl) ?_
  refine And.intro (piece_deq x0 x1 0 34 _ _ _ _ inb_S256x5120_S128x128_0_4352 inb_S1x5120_S1x128_0_4352 _ (factor_0 x0 x1) rfl rfl rfl) ?_
  refine And.intro (piece_deq x0 x1 0 33 _ _ _ _ inb_S256x5120_S128x128_0_4224 inb_S1x5120_S1x128_0_4224 _ (factor_0 x0 x1) rfl rfl rfl) ?_
  refine And.intro (piece_deq x0 x1 0 32 _ _ _ _ inb_S256x5120_S128x128_0_4096 inb_S1x5120_S1x128_0_4096 _ (factor_0 x0 x1) rfl rfl rfl) ?_
  refine And.intro (piece_deq x0 x1 0 31 _ _ _ _ inb_S256x5120_S128x128_0_3968 inb_S1x5120_S1x128_0_3968 _ (factor_0 x0 x1) rfl rfl rfl) ?_
  refine And.intro (piece_deq x0 x1 0 30 _ _ _ _ inb_S256x5120_S128x128_0_3840 inb_S1x5120_S1x128_0_3840 _ (factor_0 x0 x1) rfl rfl rfl) ?_
  refine And.intro (piece_deq x0 x1 0 29 _ _ _ _ inb_S256x5120_S128x128_0_3712 inb_S1x5120_S1x128_0_3712 _ (factor_0 x0 x1) rfl rfl rfl) ?_
  refine And.intro (piece_deq x0 x1 0 28 _ _ _ _ inb_S256x5120_S128x128_0_3584 inb_S1x5120_S1x128_0_3584 _ (factor_0 x0 x1) rfl rfl rfl) ?_
  refine And.intro (piece_deq x0 x1 0 27 _ _ _ _ inb_S256x5120_S128x128_0_3456 inb_S1x5120_S1x128_0_3456 _ (factor_0 x0 x1) rfl rfl rfl) ?_
  refine And.intro (piece_deq x0 x1 0 26 _ _ _ _ inb_S256x5120_S128x128_0_3328 inb_S1x5120_S1x128_0_3328 _ (factor_0 x0 x1) rfl rfl rfl) ?_
  refine And.intro (piece_deq x0 x1 0 25 _ _ _ _ inb_S256x5120_S128x128_0_3200 inb_S1x5120_S1x128_0_3200 _ (factor_0 x0 x1) rfl rfl rfl) ?_
  refine And.intro (piece_deq x0 x1 0 24 _ _ _ _ inb_S256x5120_S128x128_0_3072 inb_S1x5120_S1x128_0_3072 _ (factor_0 x0 x1) rfl rfl rfl) ?_
  refine And.intro (piece_deq x0 x1 0 23 _ _ _ _ inb_S256x5120_S128x128_0_2944 inb_S1x5120_S1x128_0_2944 _ (factor_0 x0 x1) rfl rfl rfl) ?_
  refine And.intro (piece_deq x0 x1 0 22 _ _ _ _ inb_S256x5120_S128x128_0_2816 inb_S1x5120_S1x128_0_2816 _ (factor_0 x0 x1) rfl rfl rfl) ?_
  refine And.intro (piece_deq x0 x1 0 21 _ _ _ _ inb_S256x5120_S128x128_0_2688 inb_S1x5120_S1x128_0_2688 _ (factor_0 x0 x1) rfl rfl rfl) ?_
  refine And.intro (piece_deq x0 x1 0 20 _ _ _ _ inb_S256x5120_S128x128_0_2560 inb_S1x5120_S1x128_0_2560 _ (factor_0 x0 x1) rfl rfl rfl) ?_
  refine And.intro (piece_deq x0 x1 0 19 _ _ _ _ inb_S256x5120_S128x128_0_2432 inb_S1x5120_S1x128_0_2432 _ (factor_0 x0 x1) rfl rfl rfl) ?_
  refine And.intro (piece_deq x0 x1 0 18 _ _ _ _ inb_S256x5120_S128x128_0_2304 inb_S1x5120_S1x128_0_2304 _ (factor_0 x0 x1) rfl rfl rfl) ?_
  refine And.intro (piece_deq x0 x1 0 17 _ _ _ _ inb_S256x5120_S128x128_0_2176 inb_S1x5120_S1x128_0_2176 _ (factor_0 x0 x1) rfl rfl rfl) ?_
  refine And.intro (piece_deq x0 x1 0 16 _ _ _ _ inb_S256x5120_S128x128_0_2048 inb_S1x5120_S1x128_0_2048 _ (factor_0 x0 x1) rfl rfl rfl) ?_
  refine And.intro (piece_deq x0 x1 0 15 _ _ _ _ inb_S256x5120_S128x128_0_1920 inb_S1x5120_S1x128_0_1920 _ (factor_0 x0 x1) rfl rfl rfl) ?_
  refine And.intro (piece_deq x0 x1 0 14 _ _ _ _ inb_S256x5120_S128x128_0_1792 inb_S1x5120_S1x128_0_1792 _ (factor_0 x0 x1) rfl rfl rfl) ?_
  refine And.intro (piece_deq x0 x1 0 13 _ _ _ _ inb_S256x5120_S128x128_0_1664 inb_S1x5120_S1x128_0_1664 _ (factor_0 x0 x1) rfl rfl rfl) ?_
  refine And.intro (piece_deq x0 x1 0 12 _ _ _ _ inb_S256x5120_S128x128_0_1536 inb_S1x5120_S1x128_0_1536 _ (factor_0 x0 x1) rfl rfl rfl) ?_
  refine And.intro (piece_deq x0 x1 0 11 _ _ _ _ inb_S256x5120_S128x128_0_1408 inb_S1x5120_S1x128_0_1408 _ (factor_0 x0 x1) rfl rfl rfl) ?_
  refine And.intro (piece_deq x0 x1 0 10 _ _ _ _ inb_S256x5120_S128x128_0_1280 inb_S1x5120_S1x128_0_1280 _ (factor_0 x0 x1) rfl rfl rfl) ?_
  refine And.intro (piece_deq x0 x1 0 9 _ _ _ _ inb_S256x5120_S128x128_0_1152 inb_S1x5120_S1x128_0_1152 _ (factor_0 x0 x1) rfl rfl rfl) ?_
  refine And.intro (piece_deq x0 x1 0 8 _ _ _ _ inb_S256x5120_S128x128_0_1024 inb_S1x5120_S1x128_0_1024 _ (factor_0 x0 x1) rfl rfl rfl) ?_
  refine And.intro (piece_deq x0 x1 0 7 _ _ _ _ inb_S256x5120_S128x128_0_896 inb_S1x5120_S1x128_0_896 _ (factor_0 x0 x1) rfl rfl rfl) ?_
  refine And.intro (piece_deq x0 x1 0 6 _ _ _ _ inb_S256x5120_S128x128_0_768 inb_S1x5120_S1x128_0_768 _ (factor_0 x0 x1) rfl rfl rfl) ?_
  refine And.intro (piece_deq x0 x1 0 5 _ _ _ _ inb_S256x5120_S128x128_0_640 inb_S1x5120_S1x128_0_640 _ (factor_0 x0 x1) rfl rfl rfl) ?_
  refine And.intro (piece_deq x0 x1 0 4 _ _ _ _ inb_S256x5120_S128x128_0_512 inb_S1x5120_S1x128_0_512 _ (factor_0 x0 x1) rfl rfl rfl) ?_
  refine And.intro (piece_deq x0 x1 0 3 _ _ _ _ inb_S256x5120_S128x128_0_384 inb_S1x5120_S1x128_0_384 _ (factor_0 x0 x1) rfl rfl rfl) ?_
  refine And.intro (piece_deq x0 x1 0 2 _ _ _ _ inb_S256x5120_S128x128_0_256 inb_S1x5120_S1x128_0_256 _ (factor_0 x0 x1) rfl rfl rfl) ?_
  refine And.intro (piece_deq x0 x1 0 1 _ _ _ _ inb_S256x5120_S128x128_0_128 inb_S1x5120_S1x128_0_128 _ (factor_0 x0 x1) rfl rfl rfl) ?_
  refine And.intro (piece_deq x0 x1 0 0 _ _ _ _ inb_S256x5120_S128x128_0_0 inb_S1x5120_S1x128_0_0 _ (factor_0 x0 x1) rfl rfl rfl) ?_
  exact fun p hp => absurd hp List.not_mem_nil

end Cert.NormIdeal.Own
-- ==== Proof.NormBlocks.lean ====
module

public import proofs.«01_k».proof.Proof.Gen.NormIdeal.Frame
public import Idealize.ShloMosaic.Lib.Pipeline.Value

@[expose] public section

noncomputable section

namespace Cert.NormIdeal.Blocks

open Cert.NormIdeal Cert.NormIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! # The norm call: the run of the kernel, with the three result arrays named -/

/-- After the frame run, output window 2's array is `(dats m 0 c).arrAt 2 N`. -/
theorem post2 (r : PUnit × MemSt nD τ sig (Elt F)) (h : Pipeline.FramePost cfgs (dats m) 0 (V m) r) (c : Dev nD) :
    r.2.mem ((c : Thread nD τ).loc main_v1_0) = (dats m 0 c).arrAt 2 cfg0.N :=
  (h c).1 2

/-- After the frame run, output window 3's array is `(dats m 0 c).arrAt 3 N`. -/
theorem post3 (r : PUnit × MemSt nD τ sig (Elt F)) (h : Pipeline.FramePost cfgs (dats m) 0 (V m) r) (c : Dev nD) :
    r.2.mem ((c : Thread nD τ).loc main_v1_1) = (dats m 0 c).arrAt 3 cfg0.N :=
  (h c).1 3

/-- After the frame run, output window 4's array is `(dats m 0 c).arrAt 4 N`. -/
theorem post4 (r : PUnit × MemSt nD τ sig (Elt F)) (h : Pipeline.FramePost cfgs (dats m) 0 (V m) r) (c : Dev nD) :
    r.2.mem ((c : Thread nD τ).loc main_v1_2) = (dats m 0 c).arrAt 4 cfg0.N :=
  (h c).1 4

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- The frame run with each output array after the run NAMED (`(dats m 0 c).arrAt w N`),
    the arguments unchanged. -/
theorem run_blocks : θ_run defs (onTc (τ := τ) (main (F := F))) ⟨m, fun _ => 0, ρ⟩ fun r => ∀ c : Dev nD,
      r.2.mem ((c : Thread nD τ).loc main_v1_0) = (dats m 0 c).arrAt 2 cfg0.N
      ∧ r.2.mem ((c : Thread nD τ).loc main_v1_1) = (dats m 0 c).arrAt 3 cfg0.N
      ∧ r.2.mem ((c : Thread nD τ).loc main_v1_2) = (dats m 0 c).arrAt 4 cfg0.N
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨post2 m r h c,
      post3 m r h c,
      post4 m r h c,
      kept_main_arg0 m r h c,
      kept_main_arg1 m r h c⟩)
    (run_main m ρ)

end Cert.NormIdeal.Blocks

end
-- ==== Proof.NormArray.lean ====
module

public import proofs.«01_k».proof.Proof.NormPieces
public import proofs.«01_k».proof.Proof.NormBlocks

/-! The norm call: the three arrays after the run, from the argument arrays. -/

@[expose] public section
set_option maxRecDepth 16384

noncomputable section
open Idealize.ShloMosaic Idealize.ShloMosaic.TcCoe Idealize.SL.Sem Cert.Own

namespace Cert.NormIdeal.Own
open Cert.NormIdeal Cert.NormIdeal.Gen
variable {F : FTy → Type} [FloatOps F]
variable (m : (ℓ : Loc nD τ sig) → Buf (Elt F) ℓ) (ρ : Dev nD → PrngReg)

/-- The kernel's index maps at point `t`: the block of rows `t`. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

theorem flush_facts : ∀ t : Fin cfg0.N, (cfg0.win 2).flush t = true ∧ (cfg0.win 3).flush t = true ∧ (cfg0.win 4).flush t = true :=
  (by decide +kernel : ∀ t : Fin grid0.N, _)

abbrev arg0 (c : Dev nD) : Vec F S8192x5120 .bf16 := m ((c : Thread nD τ).loc main_arg0)
abbrev arg1 (c : Dev nD) : Vec F S5120 .bf16 := m ((c : Thread nD τ).loc main_arg1)

/-- The weights as one row. -/
def gam (a1 : Vec F S5120 .bf16) : Vec F S1x5120 .bf16 := shapeCast S1x5120 a1 shapeCasts_S5120_S1x5120

/-- The rows of block `n`. -/
def xrow (a0 : Vec F S8192x5120 .bf16) (n : Nat) : Vec F S256x5120 .bf16 := fun y =>
  a0 (at2 (by decide) (by decide) (256 * n + (y 0).val) (y 1).val)

theorem V_gam (c : Dev nD) : V m c main_v0 = gam (arg1 m c) := by
  entry_read
  rfl

theorem iblk0_eq (c : Dev nD) (t : Fin cfg0.N) : (iblk m c 0 t : Vec F S256x5120 .bf16) = xrow (arg0 m c) t.val := by
  obtain ⟨e0, e1, -⟩ := idx_facts t
  funext y
  unfold iblk xrow
  rw [View.read_apply]
  show V m c main_arg0 _ = _
  rw [V_main_arg0]
  refine congrArg (m ((c : Thread nD τ).loc main_arg0)) (at2_eq _ _ _ _ _ ?_ ?_)
  · show win0_0.index t (0 : Fin 2) * 256 + 1 * (y 0).val = _; omega
  · show win0_0.index t (1 : Fin 2) * 5120 + 1 * (y 1).val = _; omega

theorem iblk1_eq (c : Dev nD) (t : Fin cfg0.N) : (iblk m c 1 t : Vec F S1x5120 .bf16) = gam (arg1 m c) := by
  obtain ⟨-, -, e0, e1, -⟩ := idx_facts t
  funext y
  unfold iblk
  rw [View.read_apply]
  show V m c main_v0 _ = _
  rw [V_gam]
  refine congrArg (gam (arg1 m c)) (funext fun a => Fin.ext ?_)
  match a with
  | ⟨0, _⟩ => show win0_1.index t (0 : Fin 2) * 1 + 1 * (y 0).val = (y 0).val; omega
  | ⟨1, _⟩ => show win0_1.index t (1 : Fin 2) * 5120 + 1 * (y 1).val = (y 1).val; omega

/-- The whole array of the codes. -/
def wholeCodes (a0 : Vec F S8192x5120 .bf16) (a1 : Vec F S5120 .bf16) : Vec F S8192x5120 .fp8e4m3 := fun i =>
  codesW (xrow a0 ((i 0).val / 256)) (gam a1) (at2 (a := 256) (b := 5120) (by decide) (by decide) ((i 0).val % 256) (i 1).val)

theorem flushed2 (c : Dev nD) (t : Fin cfg0.N) (hf : (cfg0.win 2).flush t = true) :
    (dats m 0 c).flushed 2 t = ((cfg0.win 2).blk t).view.read (Elt F) (wholeCodes (arg0 m c) (arg1 m c)) := by
  show (cfg0.win 2).cut (grid0.coords t) ((dats m 0 c).after 2 t) = _
  obtain ⟨-, -, -, -, e0, e1, -⟩ := idx_facts t
  rw [after0_2, iblk0_eq, iblk1_eq, out0_2_eq]
  funext y
  have hy0 : (y 0).val < 256 := (y 0).isLt
  have hy1 : (y 1).val < 5120 := (y 1).isLt
  have hb0 : (((cfg0.win 2).blk t).view.emb y 0).val = win0_2.index t (0 : Fin 2) * 256 + 1 * (y 0).val := rfl
  have hb1 : (((cfg0.win 2).blk t).view.emb y 1).val = win0_2.index t (1 : Fin 2) * 5120 + 1 * (y 1).val := rfl
  show codesW (xrow (arg0 m c) t.val) (gam (arg1 m c)) ((cfg0.win 2).xinj (grid0.coords t) y) = wholeCodes (arg0 m c) (arg1 m c) (((cfg0.win 2).blk t).view.emb y)
  unfold wholeCodes
  rw [show (((cfg0.win 2).blk t).view.emb y 0).val / 256 = t.val from by omega, show (((cfg0.win 2).blk t).view.emb y 1).val = (y 1).val from by omega,
    show (((cfg0.win 2).blk t).view.emb y 0).val % 256 = (y 0).val from by omega]
  exact congrArg _ (at2_eq (a := 256) (b := 5120) _ _ _ _ _ rfl rfl)

theorem mem_blk2 (t : Fin cfg0.N) (i : S8192x5120.Idx) :
    i ∈ ((cfg0.win 2).blk t).view.set ↔ ∀ a : Fin 2, win0_2.index t a * S256x5120.size a ≤ (i a).val ∧ (i a).val < win0_2.index t a * S256x5120.size a + S256x5120.size a := by
  show i ∈ ((View.whole main_v1_0).slice (win0_2.rect t)).set ↔ _
  rw [View.set_slice_whole, Rect.mem_set_unit]
  exact Iff.rfl

theorem covered2 (i : S8192x5120.Idx) : ∃ t : Fin cfg0.N, (cfg0.win 2).flush t = true ∧ i ∈ ((cfg0.win 2).blk t).view.set := by
  have h0 : (i 0).val < 8192 := (i 0).isLt
  have h1 : (i 1).val < 5120 := (i 1).isLt
  have hN : cfg0.N = 32 := (by decide +kernel : grid0.N = 32)
  obtain ⟨t, ht⟩ : ∃ t : Fin cfg0.N, t.val = (i 0).val / 256 := ⟨⟨(i 0).val / 256, by omega⟩, rfl⟩
  obtain ⟨-, -, -, -, e0, e1, -⟩ := idx_facts t
  obtain ⟨f2, f3, f4⟩ := flush_facts t
  refine ⟨t, f2, ?_⟩
  rw [mem_blk2]
  intro a
  match a with
  | ⟨0, _⟩ => show win0_2.index t (0 : Fin 2) * 256 ≤ (i 0).val ∧ (i 0).val < win0_2.index t (0 : Fin 2) * 256 + 256; omega
  | ⟨1, _⟩ => show win0_2.index t (1 : Fin 2) * 5120 ≤ (i 1).val ∧ (i 1).val < win0_2.index t (1 : Fin 2) * 5120 + 5120; omega

theorem final2 (c : Dev nD) : (dats m 0 c).arrAt 2 cfg0.N = wholeCodes (arg0 m c) (arg1 m c) :=
  (dats m 0 c).arrAt_eq_of_cover 2 _ (fun t hf => flushed2 m c t hf) (fun i => covered2 i)

/-- The whole array of the scales. -/
def wholeScales (a0 : Vec F S8192x5120 .bf16) (a1 : Vec F S5120 .bf16) : Vec F S8192x40 .f32 := fun i =>
  scaleW (xrow a0 ((i 0).val / 256)) (gam a1) (at2 (a := 256) (b := 40) (by decide) (by decide) ((i 0).val % 256) (i 1).val)

theorem flushed3 (c : Dev nD) (t : Fin cfg0.N) (hf : (cfg0.win 3).flush t = true) :
    (dats m 0 c).flushed 3 t = ((cfg0.win 3).blk t).view.read (Elt F) (wholeScales (arg0 m c) (arg1 m c)) := by
  show (cfg0.win 3).cut (grid0.coords t) ((dats m 0 c).after 3 t) = _
  obtain ⟨-, -, -, -, -, -, e0, e1, -⟩ := idx_facts t
  rw [after0_3, iblk0_eq, iblk1_eq, out0_3_eq]
  funext y
  have hy0 : (y 0).val < 256 := (y 0).isLt
  have hy1 : (y 1).val < 40 := (y 1).isLt
  have hb0 : (((cfg0.win 3).blk t).view.emb y 0).val = win0_3.index t (0 : Fin 2) * 256 + 1 * (y 0).val := rfl
  have hb1 : (((cfg0.win 3).blk t).view.emb y 1).val = win0_3.index t (1 : Fin 2) * 40 + 1 * (y 1).val := rfl
  show scaleW (xrow (arg0 m c) t.val) (gam (arg1 m c)) ((cfg0.win 3).xinj (grid0.coords t) y) = wholeScales (arg0 m c) (arg1 m c) (((cfg0.win 3).blk t).view.emb y)
  unfold wholeScales
  rw [show (((cfg0.win 3).blk t).view.emb y 0).val / 256 = t.val from by omega, show (((cfg0.win 3).blk t).view.emb y 1).val = (y 1).val from by omega,
    show (((cfg0.win 3).blk t).view.emb y 0).val % 256 = (y 0).val from by omega]
  exact congrArg _ (at2_eq (a := 256) (b := 40) _ _ _ _ _ rfl rfl)

theorem mem_blk3 (t : Fin cfg0.N) (i : S8192x40.Idx) :
    i ∈ ((cfg0.win 3).blk t).view.set ↔ ∀ a : Fin 2, win0_3.index t a * S256x40.size a ≤ (i a).val ∧ (i a).val < win0_3.index t a * S256x40.size a + S256x40.size a := by
  show i ∈ ((View.whole main_v1_1).slice (win0_3.rect t)).set ↔ _
  rw [View.set_slice_whole, Rect.mem_set_unit]
  exact Iff.rfl

theorem covered3 (i : S8192x40.Idx) : ∃ t : Fin cfg0.N, (cfg0.win 3).flush t = true ∧ i ∈ ((cfg0.win 3).blk t).view.set := by
  have h0 : (i 0).val < 8192 := (i 0).isLt
  have h1 : (i 1).val < 40 := (i 1).isLt
  have hN : cfg0.N = 32 := (by decide +kernel : grid0.N = 32)
  obtain ⟨t, ht⟩ : ∃ t : Fin cfg0.N, t.val = (i 0).val / 256 := ⟨⟨(i 0).val / 256, by omega⟩, rfl⟩
  obtain ⟨-, -, -, -, -, -, e0, e1, -⟩ := idx_facts t
  obtain ⟨f2, f3, f4⟩ := flush_facts t
  refine ⟨t, f3, ?_⟩
  rw [mem_blk3]
  intro a
  match a with
  | ⟨0, _⟩ => show win0_3.index t (0 : Fin 2) * 256 ≤ (i 0).val ∧ (i 0).val < win0_3.index t (0 : Fin 2) * 256 + 256; omega
  | ⟨1, _⟩ => show win0_3.index t (1 : Fin 2) * 40 ≤ (i 1).val ∧ (i 1).val < win0_3.index t (1 : Fin 2) * 40 + 40; omega

theorem final3 (c : Dev nD) : (dats m 0 c).arrAt 3 cfg0.N = wholeScales (arg0 m c) (arg1 m c) :=
  (dats m 0 c).arrAt_eq_of_cover 3 _ (fun t hf => flushed3 m c t hf) (fun i => covered3 i)

/-- The whole array of the dequantised values. -/
def wholeDeq (a0 : Vec F S8192x5120 .bf16) (a1 : Vec F S5120 .bf16) : Vec F S8192x5120 .bf16 := fun i =>
  deqW (xrow a0 ((i 0).val / 256)) (gam a1) (at2 (a := 256) (b := 5120) (by decide) (by decide) ((i 0).val % 256) (i 1).val)

theorem flushed4 (c : Dev nD) (t : Fin cfg0.N) (hf : (cfg0.win 4).flush t = true) :
    (dats m 0 c).flushed 4 t = ((cfg0.win 4).blk t).view.read (Elt F) (wholeDeq (arg0 m c) (arg1 m c)) := by
  show (cfg0.win 4).cut (grid0.coords t) ((dats m 0 c).after 4 t) = _
  obtain ⟨-, -, -, -, -, -, -, -, e0, e1⟩ := idx_facts t
  rw [after0_4, iblk0_eq, iblk1_eq, out0_4_eq]
  funext y
  have hy0 : (y 0).val < 256 := (y 0).isLt
  have hy1 : (y 1).val < 5120 := (y 1).isLt
  have hb0 : (((cfg0.win 4).blk t).view.emb y 0).val = win0_4.index t (0 : Fin 2) * 256 + 1 * (y 0).val := rfl
  have hb1 : (((cfg0.win 4).blk t).view.emb y 1).val = win0_4.index t (1 : Fin 2) * 5120 + 1 * (y 1).val := rfl
  show deqW (xrow (arg0 m c) t.val) (gam (arg1 m c)) ((cfg0.win 4).xinj (grid0.coords t) y) = wholeDeq (arg0 m c) (arg1 m c) (((cfg0.win 4).blk t).view.emb y)
  unfold wholeDeq
  rw [show (((cfg0.win 4).blk t).view.emb y 0).val / 256 = t.val from by omega, show (((cfg0.win 4).blk t).view.emb y 1).val = (y 1).val from by omega,
    show (((cfg0.win 4).blk t).view.emb y 0).val % 256 = (y 0).val from by omega]
  exact congrArg _ (at2_eq (a := 256) (b := 5120) _ _ _ _ _ rfl rfl)

theorem mem_blk4 (t : Fin cfg0.N) (i : S8192x5120.Idx) :
    i ∈ ((cfg0.win 4).blk t).view.set ↔ ∀ a : Fin 2, win0_4.index t a * S256x5120.size a ≤ (i a).val ∧ (i a).val < win0_4.index t a * S256x5120.size a + S256x5120.size a := by
  show i ∈ ((View.whole main_v1_2).slice (win0_4.rect t)).set ↔ _
  rw [View.set_slice_whole, Rect.mem_set_unit]
  exact Iff.rfl

theorem covered4 (i : S8192x5120.Idx) : ∃ t : Fin cfg0.N, (cfg0.win 4).flush t = true ∧ i ∈ ((cfg0.win 4).blk t).view.set := by
  have h0 : (i 0).val < 8192 := (i 0).isLt
  have h1 : (i 1).val < 5120 := (i 1).isLt
  have hN : cfg0.N = 32 := (by decide +kernel : grid0.N = 32)
  obtain ⟨t, ht⟩ : ∃ t : Fin cfg0.N, t.val = (i 0).val / 256 := ⟨⟨(i 0).val / 256, by omega⟩, rfl⟩
  obtain ⟨-, -, -, -, -, -, -, -, e0, e1⟩ := idx_facts t
  obtain ⟨f2, f3, f4⟩ := flush_facts t
  refine ⟨t, f4, ?_⟩
  rw [mem_blk4]
  intro a
  match a with
  | ⟨0, _⟩ => show win0_4.index t (0 : Fin 2) * 256 ≤ (i 0).val ∧ (i 0).val < win0_4.index t (0 : Fin 2) * 256 + 256; omega
  | ⟨1, _⟩ => show win0_4.index t (1 : Fin 2) * 5120 ≤ (i 1).val ∧ (i 1).val < win0_4.index t (1 : Fin 2) * 5120 + 5120; omega

theorem final4 (c : Dev nD) : (dats m 0 c).arrAt 4 cfg0.N = wholeDeq (arg0 m c) (arg1 m c) :=
  (dats m 0 c).arrAt_eq_of_cover 4 _ (fun t hf => flushed4 m c t hf) (fun i => covered4 i)

theorem run : θ_run defs (onTc (τ := τ) (main (F := F))) ⟨m, fun _ => 0, ρ⟩ fun r => ∀ c : Dev nD,
      r.2.mem ((c : Thread nD τ).loc main_v1_0) = wholeCodes (arg0 m c) (arg1 m c)
      ∧ r.2.mem ((c : Thread nD τ).loc main_v1_1) = wholeScales (arg0 m c) (arg1 m c)
      ∧ r.2.mem ((c : Thread nD τ).loc main_v1_2) = wholeDeq (arg0 m c) (arg1 m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final2 m c), (h c).2.1.trans (final3 m c), (h c).2.2.1.trans (final4 m c), (h c).2.2.2⟩)
    (Blocks.run_blocks m ρ)

end Cert.NormIdeal.Own
-- ==== Proof.NormIdealWhole.lean ====
module

public import proofs.«01_k».proof.Proof.NormIdealValue
public import proofs.«01_k».proof.Proof.NormArray

/-! The norm call over the extended reals: the three arrays, entry by entry. -/

@[expose] public section
set_option maxRecDepth 16384

noncomputable section
open Idealize.ShloMosaic Idealize.ShloMosaic.TcCoe Idealize.SL.Sem Cert.Own

namespace Cert.NormIdeal.Own
open Cert.NormIdeal Cert.NormIdeal.Gen
open Cert.GateUpIdeal.Own (clipped)

/-- Row `r` of the activations. -/
def rowA (a0 : Vec Ideal S8192x5120 .bf16) (r : ℕ) : ℕ → EReal := fun k => a0 (at2 (by decide) (by decide) r k)

theorem row_eq (a0 : Vec Ideal S8192x5120 .bf16) (i : ℕ) (hi : i < 8192) : rowOf (xrow a0 (i / 256)) (i % 256) = rowA a0 i := by
  funext k
  refine congrArg a0 (funext fun d => Fin.ext ?_)
  match d with
  | ⟨0, _⟩ => show (256 * (i / 256) + i % 256 % 256) % 8192 = i % 8192; omega
  | ⟨1, _⟩ => show k % 5120 % 5120 = k % 5120; omega

theorem wholeCodes_ideal (a0 : Vec Ideal S8192x5120 .bf16) (a1 : Vec Ideal S5120 .bf16) (i : S8192x5120.Idx) :
    wholeCodes a0 a1 i = clipped (xn (rowA a0 (i 0).val) (wOf (gam a1)) (i 1).val) (amaxRow (rowA a0 (i 0).val) (wOf (gam a1)) ((i 1).val / 128)) := by
  have h0 : (i 0).val < 8192 := (i 0).isLt
  have h1 : (i 1).val < 5120 := (i 1).isLt
  unfold wholeCodes
  rw [codesW_eq,
    show ((at2 (a := 256) (b := 5120) (by decide) (by decide) ((i 0).val % 256) (i 1).val) 0).val = (i 0).val % 256 by show (i 0).val % 256 % 256 = _; omega,
    show ((at2 (a := 256) (b := 5120) (by decide) (by decide) ((i 0).val % 256) (i 1).val) 1).val = (i 1).val by show (i 1).val % 5120 = _; omega,
    row_eq a0 _ h0]

theorem wholeScales_ideal (a0 : Vec Ideal S8192x5120 .bf16) (a1 : Vec Ideal S5120 .bf16) (i : S8192x40.Idx) :
    wholeScales a0 a1 i = scaleOf (amaxRow (rowA a0 (i 0).val) (wOf (gam a1)) (i 1).val) := by
  have h0 : (i 0).val < 8192 := (i 0).isLt
  have h1 : (i 1).val < 40 := (i 1).isLt
  unfold wholeScales
  rw [scaleW_eq,
    show ((at2 (a := 256) (b := 40) (by decide) (by decide) ((i 0).val % 256) (i 1).val) 0).val = (i 0).val % 256 by show (i 0).val % 256 % 256 = _; omega,
    show ((at2 (a := 256) (b := 40) (by decide) (by decide) ((i 0).val % 256) (i 1).val) 1).val = (i 1).val by show (i 1).val % 40 = _; omega,
    row_eq a0 _ h0]

theorem wholeDeq_ideal (a0 : Vec Ideal S8192x5120 .bf16) (a1 : Vec Ideal S5120 .bf16) (i : S8192x5120.Idx) :
    wholeDeq a0 a1 i = clipped (xn (rowA a0 (i 0).val) (wOf (gam a1)) (i 1).val) (amaxRow (rowA a0 (i 0).val) (wOf (gam a1)) ((i 1).val / 128))
      * scaleOf (amaxRow (rowA a0 (i 0).val) (wOf (gam a1)) ((i 1).val / 128)) := by
  have h0 : (i 0).val < 8192 := (i 0).isLt
  have h1 : (i 1).val < 5120 := (i 1).isLt
  unfold wholeDeq
  rw [deqW_eq,
    show ((at2 (a := 256) (b := 5120) (by decide) (by decide) ((i 0).val % 256) (i 1).val) 0).val = (i 0).val % 256 by show (i 0).val % 256 % 256 = _; omega,
    show ((at2 (a := 256) (b := 5120) (by decide) (by decide) ((i 0).val % 256) (i 1).val) 1).val = (i 1).val by show (i 1).val % 5120 = _; omega,
    row_eq a0 _ h0]

end Cert.NormIdeal.Own
-- ==== Proof.NormRef.lean ====
module

public import proofs.«01_k».proof.Proof.Gen.NormReferenceIdeal.Value
public import proofs.«01_k».proof.Proof.NormIdealWhole
public import proofs.«01_k».proof.Proof.QuantRef

/-! The norm reference over the extended reals: its three results, entry by entry. -/

@[expose] public section
set_option maxRecDepth 16384

noncomputable section
open Idealize.ShloMosaic Idealize.ShloMosaic.TcCoe Idealize.SL.Sem Cert.Own

namespace Cert.NormReferenceIdeal.Own
open Cert.NormReferenceIdeal Cert.NormReferenceIdeal.Gen
open Cert.GateUpIdeal.Own (clipped)
open Cert.NormIdeal.Own (xn amaxRow rowA wOf)

/-- The greatest absolute value of each group. -/
def amaxBy {F : FTy → Type} [FloatOps F] (h : FVec F S8192x40x128 .f32) : FVec F S8192x40x1 .f32 :=
  shapeCast S8192x40x1 (multiReduction .maximumf [2] S8192x40 (absf h) 0xFF800000#32 reduces_S8192x40x128_S8192x40 (.inl rfl) rfl) shapeCasts_S8192x40_S8192x40x1

/-- The powers of two `2^(-126)` to `2^126`. -/
def powers {F : FTy → Type} [FloatOps F] : FVec F S1x1x253 .f32 :=
  exp2 (sitofp .f32 (subi (iota .tc S1x1x253 32 [2] iota_S1x1x253_d2_w32) (broadcast S1x1x253 126#32)))

/-- Each power where it exceeds the threshold, else the greatest power. -/
def above {F : FTy → Type} [FloatOps F] (p : FVec F S1x1x253 .f32) (t : FVec F S8192x40x1 .f32) : FVec F S8192x40x253 .f32 :=
  select (cmpf .ogt (broadcastTo S8192x40x253 p broadcasts_S1x1x253_S8192x40x253) (broadcastTo S8192x40x253 t broadcasts_S8192x40x1_S8192x40x253))
    (broadcastTo S8192x40x253 (shapeCast S1x1x253 p shapeCasts_S1x1x253_S1x1x253) broadcasts_S1x1x253_S8192x40x253)
    (broadcast S8192x40x253 (Scalar.ofBits .f32 0x7E800000#32))

/-- The least of the powers kept. -/
def least {F : FTy → Type} [FloatOps F] (u : FVec F S8192x40x253 .f32) : FVec F S8192x40x1 .f32 :=
  shapeCast S8192x40x1 (multiReduction .minimumf [2] S8192x40 u 0x7F800000#32 reduces_S8192x40x253_S8192x40 (.inl rfl) rfl) shapeCasts_S8192x40_S8192x40x1

/-- The scale: one where the group is zero. -/
def orOne {F : FTy → Type} [FloatOps F] (a s : FVec F S8192x40x1 .f32) : FVec F S8192x40x1 .f32 :=
  select (cmpf .oeq a (broadcast S8192x40x1 (Scalar.ofBits .f32 0x00000000#32))) (broadcast S8192x40x1 (Scalar.ofBits .f32 0x3F800000#32)) s

/-- The threshold: the greatest absolute value over 448. -/
def thr {F : FTy → Type} [FloatOps F] (a : FVec F S8192x40x1 .f32) : FVec F S8192x40x1 .f32 :=
  mulf a (broadcast S8192x40x1 (Scalar.ofBits .f32 0x3B124925#32))

/-- The normalised values over the scales. -/
def ratioBy {F : FTy → Type} [FloatOps F] (h : FVec F S8192x40x128 .f32) (s : FVec F S8192x40x1 .f32) : FVec F S8192x40x128 .f32 :=
  mulf h (broadcastTo S8192x40x128 (divf (broadcast S8192x40x1 (Scalar.ofBits .f32 0x3F800000#32)) s) broadcasts_S8192x40x1_S8192x40x128)

theorem amaxBy_eq (h : FVec Ideal S8192x40x128 .f32) (i : S8192x40x1.Idx) :
    amaxBy h i = Finset.fold max (Ideal.ofBits .f32 0xFF800000#32) (fun x : Fin 128 => FloatOps.absf (F := Ideal) (φ := .f32) (h (ValueIdx.ix3 (i 0) (i 1) x))) Finset.univ := by
  unfold amaxBy
  pointwise
  rfl

theorem powers_eq (i : S1x1x253.Idx) :
    (powers i : Ideal .f32) = (((2 : ℝ) ^ (((i 2).val : ℤ) - 126) : ℝ) : EReal) := by
  refine Eq.trans ?_ (power_eq (i 2))
  unfold powers
  pointwise

theorem above_eq (p : FVec Ideal S1x1x253 .f32) (t : FVec Ideal S8192x40x1 .f32) (i : S8192x40x253.Idx) :
    above p t i = if t (ValueIdx.ix3 (i 0) (i 1) 0) < p (ValueIdx.ix3 0 0 (i 2)) then p (ValueIdx.ix3 0 0 (i 2)) else Ideal.ofBits .f32 0x7E800000#32 := by
  unfold above
  pointwise
  rfl

theorem least_eq (u : FVec Ideal S8192x40x253 .f32) (i : S8192x40x1.Idx) :
    least u i = Finset.fold min (Ideal.ofBits .f32 0x7F800000#32) (fun x : Fin 253 => u (ValueIdx.ix3 (i 0) (i 1) x)) Finset.univ := by
  unfold least
  pointwise
  rfl

theorem orOne_eq (a s : FVec Ideal S8192x40x1 .f32) (i : S8192x40x1.Idx) :
    orOne a s i = if a i = 0 then 1 else s i := by
  unfold orOne
  pointwise

theorem thr_eq (a : FVec Ideal S8192x40x1 .f32) (i : S8192x40x1.Idx) : thr a i = tOf (a i) := rfl

theorem ratioBy_eq (h : FVec Ideal S8192x40x128 .f32) (s : FVec Ideal S8192x40x1 .f32) (i : S8192x40x128.Idx) :
    ratioBy h s i = h i * Ideal.div 1 (s (ValueIdx.ix3 (i 0) (i 1) 0)) := by
  unfold ratioBy
  pointwise
  rfl

/-- The reference's scale is the least power of two above the threshold. -/
theorem scaleBy_eq (a : FVec Ideal S8192x40x1 .f32) (i : S8192x40x1.Idx) :
    orOne a (least (above powers (thr a))) i = scaleOf (a i) := by
  have hi : (ValueIdx.ix3 (i 0) (i 1) 0 : S8192x40x1.Idx) = i := by
    funext k
    fin_cases k
    · rfl
    · rfl
    · exact Fin.ext (by have h2 : (i 2).val < 1 := (i 2).isLt; show 0 = (i 2).val; omega)
  rw [orOne_eq, least_eq, inf_word]
  unfold scaleOf
  refine congrArg (fun z => if a i = 0 then (1 : EReal) else z) (congrArg (fun f => Finset.fold min ⊤ f Finset.univ) (funext fun k => ?_))
  rw [above_eq, powers_eq, thr_eq, top_power]
  rw [show (ValueIdx.ix3 ((ValueIdx.ix3 (i 0) (i 1) k : S8192x40x253.Idx) 0) ((ValueIdx.ix3 (i 0) (i 1) k : S8192x40x253.Idx) 1) 0 : S8192x40x1.Idx) = i from hi]

theorem pay6_def (a0 : Vec Ideal S8192x5120 .bf16) (g : Vec Ideal S1x5120 .bf16) :
    k0_pay6 a0 g = orOne (amaxBy (k0_pay5 a0 g)) (least (above powers (thr (amaxBy (k0_pay5 a0 g))))) := by
  unfold k0_pay6 orOne least above powers thr amaxBy
  rfl

theorem pay7_def (a0 : Vec Ideal S8192x5120 .bf16) (g : Vec Ideal S1x5120 .bf16) :
    k0_pay7 a0 g = ratioBy (k0_pay5 a0 g) (k0_pay6 a0 g) := by
  unfold k0_pay7 ratioBy
  rfl

theorem pay5_eq (a0 : Vec Ideal S8192x5120 .bf16) (g : Vec Ideal S1x5120 .bf16) (i : S8192x40x128.Idx) :
    k0_pay5 a0 g i = xn (rowA a0 (i 0).val) (wOf g) (128 * (i 1).val + (i 2).val) := by
  have h0 : (i 0).val < 8192 := (i 0).isLt
  have h1 : (i 1).val < 40 := (i 1).isLt
  have h2 : (i 2).val < 128 := (i 2).isLt
  unfold k0_pay5
  pointwise
  unfold xn rowA wOf
  refine congrArg₂ (· * ·) (congrArg₂ (· * ·) (congrArg a0 (at2_eq _ _ _ _ _ rfl ?_)) (congrArg Ideal.rsqrt (congrArg₂ (· + ·) (congrArg₂ (· * ·) ?_ rfl) rfl)))
    (congrArg g (at2_eq _ _ _ _ _ rfl ?_))
  · show (i 1).val * 128 + (i 2).val = _; omega
  · refine Finset.sum_congr rfl fun x _ => ?_
    exact congrArg₂ (· * ·) (congrArg a0 (at2_eq _ _ _ _ _ rfl rfl)) (congrArg a0 (at2_eq _ _ _ _ _ rfl rfl))
  · show (i 1).val * 128 + (i 2).val = _; omega

theorem pay6_eq (a0 : Vec Ideal S8192x5120 .bf16) (g : Vec Ideal S1x5120 .bf16) (i : S8192x40x1.Idx) :
    k0_pay6 a0 g i = scaleOf (amaxRow (rowA a0 (i 0).val) (wOf g) (i 1).val) := by
  rw [pay6_def, scaleBy_eq, amaxBy_eq, neg_inf_word]
  refine congrArg scaleOf (congrArg (fun f => Finset.fold max ⊥ f Finset.univ) (funext fun k => ?_))
  rw [pay5_eq]
  rfl

theorem pay7_eq (a0 : Vec Ideal S8192x5120 .bf16) (g : Vec Ideal S1x5120 .bf16) (i : S8192x40x128.Idx) :
    k0_pay7 a0 g i = xn (rowA a0 (i 0).val) (wOf g) (128 * (i 1).val + (i 2).val) * Ideal.div 1 (scaleOf (amaxRow (rowA a0 (i 0).val) (wOf g) (i 1).val)) := by
  rw [pay7_def, ratioBy_eq, pay5_eq, pay6_eq]

theorem pay2_eq (v : FVec Ideal S8192x40x128 .f32) (i : S8192x5120.Idx) :
    k0_pay2 v i = min (Ideal.ofBits .f32 0x43E00000#32) (max (Ideal.ofBits .f32 0xC3E00000#32)
      (v (ValueIdx.ix3 (i 0) ⟨(i 1).val / 128, by have h1 : (i 1).val < 5120 := (i 1).isLt; omega⟩ ⟨(i 1).val % 128, by omega⟩))) := by
  have h1 : (i 1).val < 5120 := (i 1).isLt
  unfold k0_pay2 k0_pay1
  pointwise
  rfl

theorem pay3_eq (v : FVec Ideal S8192x40x1 .f32) (i : S8192x40.Idx) : k0_pay3 v i = v (ValueIdx.ix3 (i 0) (i 1) 0) := by
  unfold k0_pay3
  pointwise
  rfl

theorem pay4_eq (s : FVec Ideal S8192x40x1 .f32) (v : FVec Ideal S8192x40x128 .f32) (i : S8192x5120.Idx) :
    k0_pay4 s v i = min (Ideal.ofBits .f32 0x43E00000#32) (max (Ideal.ofBits .f32 0xC3E00000#32)
      (v (ValueIdx.ix3 (i 0) ⟨(i 1).val / 128, by have h1 : (i 1).val < 5120 := (i 1).isLt; omega⟩ ⟨(i 1).val % 128, by omega⟩)))
      * s (ValueIdx.ix3 (i 0) ⟨(i 1).val / 128, by have h1 : (i 1).val < 5120 := (i 1).isLt; omega⟩ 0) := by
  have h1 : (i 1).val < 5120 := (i 1).isLt
  unfold k0_pay4 k0_pay1
  pointwise
  rfl

theorem hz2 : (![0, 0] : Fin 2 → Nat) = fun _ => 0 := by
  funext k; fin_cases k <;> rfl

theorem pay8_def {F : FTy → Type} [FloatOps F] (a0 : Vec F S8192x5120 .bf16) (g : Vec F S1x5120 .bf16) : k0_pay8 a0 g = k0_pay6 a0 g := by
  unfold k0_pay8
  rw [View.ld_unit_zero hz2, View.ld_unit_zero hz2]

theorem pay9_def {F : FTy → Type} [FloatOps F] (a0 : Vec F S8192x5120 .bf16) (g : Vec F S1x5120 .bf16) : k0_pay9 a0 g = k0_pay7 a0 g := by
  unfold k0_pay9
  rw [View.ld_unit_zero hz2, View.ld_unit_zero hz2]

/-- A store over the whole block leaves its value. -/
theorem out2_def {F : FTy → Type} [FloatOps F] (a0 : Vec F S8192x5120 .bf16) (g : Vec F S1x5120 .bf16) : out0_2 a0 g = k0_pay2 (k0_pay7 a0 g) := by
  funext y
  unfold out0_2
  refine View.canon_apply_of_pieces (k0_pay2 (k0_pay7 a0 g) : Vec F S8192x5120 .fp8e4m3) _ ?_ y (cover0_2 _ y)
  intro pc hpc
  obtain rfl := List.mem_singleton.mp hpc
  intro x
  rw [pay9_def]
  exact congrArg (k0_pay2 (k0_pay7 a0 g)) (funext fun a => Fin.ext (by
    match a with
    | ⟨0, _⟩ => show (x 0).val = 0 + 1 * (x 0).val; omega
    | ⟨1, _⟩ => show (x 1).val = 0 + 1 * (x 1).val; omega))

theorem out3_def {F : FTy → Type} [FloatOps F] (a0 : Vec F S8192x5120 .bf16) (g : Vec F S1x5120 .bf16) : out0_3 a0 g = k0_pay3 (k0_pay6 a0 g) := by
  funext y
  unfold out0_3
  refine View.canon_apply_of_pieces (k0_pay3 (k0_pay6 a0 g) : Vec F S8192x40 .f32) _ ?_ y (cover0_3 _ y)
  intro pc hpc
  obtain rfl := List.mem_singleton.mp hpc
  intro x
  rw [pay8_def]
  exact congrArg (k0_pay3 (k0_pay6 a0 g)) (funext fun a => Fin.ext (by
    match a with
    | ⟨0, _⟩ => show (x 0).val = 0 + 1 * (x 0).val; omega
    | ⟨1, _⟩ => show (x 1).val = 0 + 1 * (x 1).val; omega))

theorem out4_def {F : FTy → Type} [FloatOps F] (a0 : Vec F S8192x5120 .bf16) (g : Vec F S1x5120 .bf16) : out0_4 a0 g = k0_pay4 (k0_pay6 a0 g) (k0_pay7 a0 g) := by
  funext y
  unfold out0_4
  refine View.canon_apply_of_pieces (k0_pay4 (k0_pay6 a0 g) (k0_pay7 a0 g) : Vec F S8192x5120 .bf16) _ ?_ y (cover0_4 _ y)
  intro pc hpc
  obtain rfl := List.mem_singleton.mp hpc
  intro x
  rw [pay8_def, pay9_def]
  exact congrArg (k0_pay4 (k0_pay6 a0 g) (k0_pay7 a0 g)) (funext fun a => Fin.ext (by
    match a with
    | ⟨0, _⟩ => show (x 0).val = 0 + 1 * (x 0).val; omega
    | ⟨1, _⟩ => show (x 1).val = 0 + 1 * (x 1).val; omega))

theorem ref_codes (a0 : Vec Ideal S8192x5120 .bf16) (g : Vec Ideal S1x5120 .bf16) (i : S8192x5120.Idx) :
    out0_2 a0 g i = clipped (xn (rowA a0 (i 0).val) (wOf g) (i 1).val) (amaxRow (rowA a0 (i 0).val) (wOf g) ((i 1).val / 128)) := by
  have h1 : (i 1).val < 5120 := (i 1).isLt
  rw [out2_def, pay2_eq, pay7_eq]
  show min _ (max _ (xn (rowA a0 (i 0).val) (wOf g) (128 * ((i 1).val / 128) + (i 1).val % 128) * _)) = _
  rw [show 128 * ((i 1).val / 128) + (i 1).val % 128 = (i 1).val by omega]
  rfl

theorem ref_scales (a0 : Vec Ideal S8192x5120 .bf16) (g : Vec Ideal S1x5120 .bf16) (i : S8192x40.Idx) :
    out0_3 a0 g i = scaleOf (amaxRow (rowA a0 (i 0).val) (wOf g) (i 1).val) := by
  rw [out3_def, pay3_eq, pay6_eq]

theorem ref_deq (a0 : Vec Ideal S8192x5120 .bf16) (g : Vec Ideal S1x5120 .bf16) (i : S8192x5120.Idx) :
    out0_4 a0 g i = clipped (xn (rowA a0 (i 0).val) (wOf g) (i 1).val) (amaxRow (rowA a0 (i 0).val) (wOf g) ((i 1).val / 128))
      * scaleOf (amaxRow (rowA a0 (i 0).val) (wOf g) ((i 1).val / 128)) := by
  have h1 : (i 1).val < 5120 := (i 1).isLt
  rw [out4_def, pay4_eq, pay7_eq, pay6_eq]
  show min _ (max _ (xn (rowA a0 (i 0).val) (wOf g) (128 * ((i 1).val / 128) + (i 1).val % 128) * _)) * _ = _
  rw [show 128 * ((i 1).val / 128) + (i 1).val % 128 = (i 1).val by omega]
  rfl

end Cert.NormReferenceIdeal.Own
-- ==== Proof.NormRefArray.lean ====
module

public import proofs.«01_k».proof.Proof.Gen.NormReferenceIdeal.Value
public import proofs.«01_k».proof.Proof.Common

/-! The norm reference: the three arrays after the run; its one grid point takes the whole arrays. -/

@[expose] public section
set_option maxRecDepth 16384

noncomputable section
open Idealize.ShloMosaic Idealize.ShloMosaic.TcCoe Idealize.SL.Sem Cert.Own

namespace Cert.NormReferenceIdeal.Own
open Cert.NormReferenceIdeal Cert.NormReferenceIdeal.Gen
variable {F : FTy → Type} [FloatOps F]
variable (m : (ℓ : Loc nD τ sig) → Buf (Elt F) ℓ) (ρ : Dev nD → PrngReg)

/-- Every block starts at zero. -/
theorem idx_facts : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

theorem flush_facts : ∀ t : Fin cfg0.N, (cfg0.win 2).flush t = true ∧ (cfg0.win 3).flush t = true ∧ (cfg0.win 4).flush t = true :=
  (by decide +kernel : ∀ t : Fin grid0.N, _)

abbrev arg0 (c : Dev nD) : Vec F S8192x5120 .bf16 := m ((c : Thread nD τ).loc main_arg0)
abbrev arg1 (c : Dev nD) : Vec F S5120 .bf16 := m ((c : Thread nD τ).loc main_arg1)

/-- The weights as one row. -/
def gam (a1 : Vec F S5120 .bf16) : Vec F S1x5120 .bf16 := shapeCast S1x5120 a1 shapeCasts_S5120_S1x5120

theorem V_gam (c : Dev nD) : V m c main_v0 = gam (arg1 m c) := by
  entry_read
  rfl

theorem iblk0_eq (c : Dev nD) (t : Fin cfg0.N) : (iblk m c 0 t : Vec F S8192x5120 .bf16) = arg0 m c := by
  obtain ⟨e0, e1, -⟩ := idx_facts t
  funext y
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t (0 : Fin 2) * 8192 + 1 * (y 0).val = (y 0).val; omega
  | ⟨1, _⟩ => show win0_0.index t (1 : Fin 2) * 5120 + 1 * (y 1).val = (y 1).val; omega

theorem iblk1_eq (c : Dev nD) (t : Fin cfg0.N) : (iblk m c 1 t : Vec F S1x5120 .bf16) = gam (arg1 m c) := by
  obtain ⟨-, -, e0, e1, -⟩ := idx_facts t
  funext y
  unfold iblk
  rw [View.read_apply]
  show V m c main_v0 _ = _
  rw [V_gam]
  refine congrArg (gam (arg1 m c)) (funext fun a => Fin.ext ?_)
  match a with
  | ⟨0, _⟩ => show win0_1.index t (0 : Fin 2) * 1 + 1 * (y 0).val = (y 0).val; omega
  | ⟨1, _⟩ => show win0_1.index t (1 : Fin 2) * 5120 + 1 * (y 1).val = (y 1).val; omega

theorem flushed2 (c : Dev nD) (t : Fin cfg0.N) (hf : (cfg0.win 2).flush t = true) :
    (dats m 0 c).flushed 2 t = ((cfg0.win 2).blk t).view.read (Elt F) (out0_2 (arg0 m c) (gam (arg1 m c))) := by
  show (cfg0.win 2).cut (grid0.coords t) ((dats m 0 c).after 2 t) = _
  obtain ⟨-, -, -, -, e0, e1, -⟩ := idx_facts t
  rw [after0_2, iblk0_eq, iblk1_eq]
  generalize out0_2 (arg0 m c) (gam (arg1 m c)) = O
  funext y
  show O ((cfg0.win 2).xinj (grid0.coords t) y) = O (((cfg0.win 2).blk t).view.emb y)
  refine congrArg O (funext fun a => Fin.ext ?_)
  match a with
  | ⟨0, _⟩ => show (y 0).val = win0_2.index t (0 : Fin 2) * 8192 + 1 * (y 0).val; omega
  | ⟨1, _⟩ => show (y 1).val = win0_2.index t (1 : Fin 2) * 5120 + 1 * (y 1).val; omega

theorem mem_blk2 (t : Fin cfg0.N) (i : S8192x5120.Idx) :
    i ∈ ((cfg0.win 2).blk t).view.set ↔ ∀ a : Fin 2, win0_2.index t a * S8192x5120.size a ≤ (i a).val ∧ (i a).val < win0_2.index t a * S8192x5120.size a + S8192x5120.size a := by
  show i ∈ ((View.whole main_v1_0).slice (win0_2.rect t)).set ↔ _
  rw [View.set_slice_whole, Rect.mem_set_unit]
  exact Iff.rfl

theorem covered2 (i : S8192x5120.Idx) : ∃ t : Fin cfg0.N, (cfg0.win 2).flush t = true ∧ i ∈ ((cfg0.win 2).blk t).view.set := by
  have h0 : (i 0).val < 8192 := (i 0).isLt
  have h1 : (i 1).val < 5120 := (i 1).isLt
  have hN : cfg0.N = 1 := (by decide +kernel : grid0.N = 1)
  obtain ⟨t, ht⟩ : ∃ t : Fin cfg0.N, t.val = 0 := ⟨⟨0, by omega⟩, rfl⟩
  obtain ⟨-, -, -, -, e0, e1, -⟩ := idx_facts t
  obtain ⟨f2, f3, f4⟩ := flush_facts t
  refine ⟨t, f2, ?_⟩
  rw [mem_blk2]
  intro a
  match a with
  | ⟨0, _⟩ => show win0_2.index t (0 : Fin 2) * 8192 ≤ (i 0).val ∧ (i 0).val < win0_2.index t (0 : Fin 2) * 8192 + 8192; omega
  | ⟨1, _⟩ => show win0_2.index t (1 : Fin 2) * 5120 ≤ (i 1).val ∧ (i 1).val < win0_2.index t (1 : Fin 2) * 5120 + 5120; omega

theorem final2 (c : Dev nD) : (dats m 0 c).arrAt 2 cfg0.N = out0_2 (arg0 m c) (gam (arg1 m c)) :=
  (dats m 0 c).arrAt_eq_of_cover 2 _ (fun t hf => flushed2 m c t hf) (fun i => covered2 i)

theorem flushed3 (c : Dev nD) (t : Fin cfg0.N) (hf : (cfg0.win 3).flush t = true) :
    (dats m 0 c).flushed 3 t = ((cfg0.win 3).blk t).view.read (Elt F) (out0_3 (arg0 m c) (gam (arg1 m c))) := by
  show (cfg0.win 3).cut (grid0.coords t) ((dats m 0 c).after 3 t) = _
  obtain ⟨-, -, -, -, -, -, e0, e1, -⟩ := idx_facts t
  rw [after0_3, iblk0_eq, iblk1_eq]
  generalize out0_3 (arg0 m c) (gam (arg1 m c)) = O
  funext y
  show O ((cfg0.win 3).xinj (grid0.coords t) y) = O (((cfg0.win 3).blk t).view.emb y)
  refine congrArg O (funext fun a => Fin.ext ?_)
  match a with
  | ⟨0, _⟩ => show (y 0).val = win0_3.index t (0 : Fin 2) * 8192 + 1 * (y 0).val; omega
  | ⟨1, _⟩ => show (y 1).val = win0_3.index t (1 : Fin 2) * 40 + 1 * (y 1).val; omega

theorem mem_blk3 (t : Fin cfg0.N) (i : S8192x40.Idx) :
    i ∈ ((cfg0.win 3).blk t).view.set ↔ ∀ a : Fin 2, win0_3.index t a * S8192x40.size a ≤ (i a).val ∧ (i a).val < win0_3.index t a * S8192x40.size a + S8192x40.size a := by
  show i ∈ ((View.whole main_v1_1).slice (win0_3.rect t)).set ↔ _
  rw [View.set_slice_whole, Rect.mem_set_unit]
  exact Iff.rfl

theorem covered3 (i : S8192x40.Idx) : ∃ t : Fin cfg0.N, (cfg0.win 3).flush t = true ∧ i ∈ ((cfg0.win 3).blk t).view.set := by
  have h0 : (i 0).val < 8192 := (i 0).isLt
  have h1 : (i 1).val < 40 := (i 1).isLt
  have hN : cfg0.N = 1 := (by decide +kernel : grid0.N = 1)
  obtain ⟨t, ht⟩ : ∃ t : Fin cfg0.N, t.val = 0 := ⟨⟨0, by omega⟩, rfl⟩
  obtain ⟨-, -, -, -, -, -, e0, e1, -⟩ := idx_facts t
  obtain ⟨f2, f3, f4⟩ := flush_facts t
  refine ⟨t, f3, ?_⟩
  rw [mem_blk3]
  intro a
  match a with
  | ⟨0, _⟩ => show win0_3.index t (0 : Fin 2) * 8192 ≤ (i 0).val ∧ (i 0).val < win0_3.index t (0 : Fin 2) * 8192 + 8192; omega
  | ⟨1, _⟩ => show win0_3.index t (1 : Fin 2) * 40 ≤ (i 1).val ∧ (i 1).val < win0_3.index t (1 : Fin 2) * 40 + 40; omega

theorem final3 (c : Dev nD) : (dats m 0 c).arrAt 3 cfg0.N = out0_3 (arg0 m c) (gam (arg1 m c)) :=
  (dats m 0 c).arrAt_eq_of_cover 3 _ (fun t hf => flushed3 m c t hf) (fun i => covered3 i)

theorem flushed4 (c : Dev nD) (t : Fin cfg0.N) (hf : (cfg0.win 4).flush t = true) :
    (dats m 0 c).flushed 4 t = ((cfg0.win 4).blk t).view.read (Elt F) (out0_4 (arg0 m c) (gam (arg1 m c))) := by
  show (cfg0.win 4).cut (grid0.coords t) ((dats m 0 c).after 4 t) = _
  obtain ⟨-, -, -, -, -, -, -, -, e0, e1⟩ := idx_facts t
  rw [after0_4, iblk0_eq, iblk1_eq]
  generalize out0_4 (arg0 m c) (gam (arg1 m c)) = O
  funext y
  show O ((cfg0.win 4).xinj (grid0.coords t) y) = O (((cfg0.win 4).blk t).view.emb y)
  refine congrArg O (funext fun a => Fin.ext ?_)
  match a with
  | ⟨0, _⟩ => show (y 0).val = win0_4.index t (0 : Fin 2) * 8192 + 1 * (y 0).val; omega
  | ⟨1, _⟩ => show (y 1).val = win0_4.index t (1 : Fin 2) * 5120 + 1 * (y 1).val; omega

theorem mem_blk4 (t : Fin cfg0.N) (i : S8192x5120.Idx) :
    i ∈ ((cfg0.win 4).blk t).view.set ↔ ∀ a : Fin 2, win0_4.index t a * S8192x5120.size a ≤ (i a).val ∧ (i a).val < win0_4.index t a * S8192x5120.size a + S8192x5120.size a := by
  show i ∈ ((View.whole main_v1_2).slice (win0_4.rect t)).set ↔ _
  rw [View.set_slice_whole, Rect.mem_set_unit]
  exact Iff.rfl

theorem covered4 (i : S8192x5120.Idx) : ∃ t : Fin cfg0.N, (cfg0.win 4).flush t = true ∧ i ∈ ((cfg0.win 4).blk t).view.set := by
  have h0 : (i 0).val < 8192 := (i 0).isLt
  have h1 : (i 1).val < 5120 := (i 1).isLt
  have hN : cfg0.N = 1 := (by decide +kernel : grid0.N = 1)
  obtain ⟨t, ht⟩ : ∃ t : Fin cfg0.N, t.val = 0 := ⟨⟨0, by omega⟩, rfl⟩
  obtain ⟨-, -, -, -, -, -, -, -, e0, e1⟩ := idx_facts t
  obtain ⟨f2, f3, f4⟩ := flush_facts t
  refine ⟨t, f4, ?_⟩
  rw [mem_blk4]
  intro a
  match a with
  | ⟨0, _⟩ => show win0_4.index t (0 : Fin 2) * 8192 ≤ (i 0).val ∧ (i 0).val < win0_4.index t (0 : Fin 2) * 8192 + 8192; omega
  | ⟨1, _⟩ => show win0_4.index t (1 : Fin 2) * 5120 ≤ (i 1).val ∧ (i 1).val < win0_4.index t (1 : Fin 2) * 5120 + 5120; omega

theorem final4 (c : Dev nD) : (dats m 0 c).arrAt 4 cfg0.N = out0_4 (arg0 m c) (gam (arg1 m c)) :=
  (dats m 0 c).arrAt_eq_of_cover 4 _ (fun t hf => flushed4 m c t hf) (fun i => covered4 i)

theorem run : θ_run defs (onTc (τ := τ) (main (F := F))) ⟨m, fun _ => 0, ρ⟩ fun r => ∀ c : Dev nD,
      r.2.mem ((c : Thread nD τ).loc main_v1_0) = out0_2 (arg0 m c) (gam (arg1 m c))
      ∧ r.2.mem ((c : Thread nD τ).loc main_v1_1) = out0_3 (arg0 m c) (gam (arg1 m c))
      ∧ r.2.mem ((c : Thread nD τ).loc main_v1_2) = out0_4 (arg0 m c) (gam (arg1 m c))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final2 m c), (h c).2.1.trans (final3 m c), (h c).2.2.1.trans (final4 m c), (h c).2.2.2⟩)
    (Value.run_blocks m ρ)

end Cert.NormReferenceIdeal.Own
-- ==== Proof.Norm.lean ====
module

public import proofs.«01_k».proof.Defs
public import proofs.«01_k».proof.Proof.NormRef
public import proofs.«01_k».proof.Proof.NormRefArray

/-! The norm kernel and its reference agree over the extended reals. -/

@[expose] public section

noncomputable section
open Idealize.ShloMosaic Idealize.ShloMosaic.TcCoe Idealize.SL.Sem Cert.Own

namespace Cert.NormIdeal.Own
open Cert.NormIdeal Cert.NormIdeal.Gen

theorem algebraic : Cert.algebraic_NormIdeal_NormReferenceIdeal := by
  intro m ρ m' ρ' _ hag
  refine ⟨fun c => wholeCodes (arg0 m c) (arg1 m c), fun c => wholeScales (arg0 m c) (arg1 m c),
    fun c => wholeDeq (arg0 m c) (arg1 m c), run m ρ, ?_⟩
  refine (θ_run (Cert.NormReferenceIdeal.defs (F := Ideal)) _ _).mono (fun r h c => ?_) (Cert.NormReferenceIdeal.Own.run (F := Ideal) m' ρ')
  obtain ⟨hc, hs, hd, h'⟩ := h c
  have e0 : Cert.NormReferenceIdeal.Own.arg0 m' c = arg0 m c := (hag c).1
  have e1 : Cert.NormReferenceIdeal.Own.gam (Cert.NormReferenceIdeal.Own.arg1 m' c) = gam (arg1 m c) := congrArg gam (hag c).2
  rw [e0, e1] at hc hs hd
  exact ⟨hc.trans (funext fun i => (Cert.NormReferenceIdeal.Own.ref_codes _ _ i).trans (wholeCodes_ideal _ _ i).symm),
    hs.trans (funext fun i => (Cert.NormReferenceIdeal.Own.ref_scales _ _ i).trans (wholeScales_ideal _ _ i).symm),
    hd.trans (funext fun i => (Cert.NormReferenceIdeal.Own.ref_deq _ _ i).trans (wholeDeq_ideal _ _ i).symm), h'⟩

end Cert.NormIdeal.Own
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.KernelIdeal.Value
public import proofs.«01_k».proof.Proof.Gen.ReferenceIdeal.Value
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownReferenceIdeal
public import proofs.«01_k».proof.Proof.Gen.DownReferenceIdeal.Skeleton
public import proofs.«01_k».proof.Proof.Gen.DownReferenceIdeal.Launch
public import proofs.«01_k».proof.Proof.Gen.DownReferenceIdeal.Points
public import proofs.«01_k».proof.Proof.Gen.DownReferenceIdeal.Frame
public import proofs.«01_k».proof.Proof.Gen.DownIdeal.Value
public import proofs.«01_k».proof.Proof.Gen.DownReferenceIdeal.Value
public import proofs.«01_k».proof.Proof.Gen.GateUp
public import proofs.«01_k».proof.Proof.Gen.GateUp.Skeleton
public import proofs.«01_k».proof.Proof.Gen.GateUp.Launch
public import proofs.«01_k».proof.Proof.Gen.GateUp.Points
public import proofs.«01_k».proof.Proof.Gen.GateUp.Frame
public import proofs.«01_k».proof.Proof.Gen.GateUpIdeal
public import proofs.«01_k».proof.Proof.Gen.GateUpIdeal.Skeleton
public import proofs.«01_k».proof.Proof.Gen.GateUpIdeal.Launch
public import proofs.«01_k».proof.Proof.Gen.GateUpIdeal.Points
public import proofs.«01_k».proof.Proof.Gen.GateUpIdeal.Frame
public import proofs.«01_k».proof.Proof.Gen.GateUpReferenceIdeal
public import proofs.«01_k».proof.Proof.Gen.GateUpReferenceIdeal.Skeleton
public import proofs.«01_k».proof.Proof.Gen.GateUpReferenceIdeal.Launch
public import proofs.«01_k».proof.Proof.Gen.GateUpReferenceIdeal.Points
public import proofs.«01_k».proof.Proof.Gen.GateUpReferenceIdeal.Frame
public import proofs.«01_k».proof.Proof.Gen.GateUpIdeal.Value
public import proofs.«01_k».proof.Proof.Gen.GateUpReferenceIdeal.Value
public import proofs.«01_k».proof.Proof.Gen.Norm
public import proofs.«01_k».proof.Proof.Gen.Norm.Skeleton
public import proofs.«01_k».proof.Proof.Gen.Norm.Launch
public import proofs.«01_k».proof.Proof.Gen.Norm.Points
public import proofs.«01_k».proof.Proof.Gen.Norm.Frame
public import proofs.«01_k».proof.Proof.Gen.NormIdeal
public import proofs.«01_k».proof.Proof.Gen.NormIdeal.Skeleton
public import proofs.«01_k».proof.Proof.Gen.NormIdeal.Launch
public import proofs.«01_k».proof.Proof.Gen.NormIdeal.Points
public import proofs.«01_k».proof.Proof.Gen.NormIdeal.Frame
public import proofs.«01_k».proof.Proof.Gen.NormReferenceIdeal
public import proofs.«01_k».proof.Proof.Gen.NormReferenceIdeal.Skeleton
public import proofs.«01_k».proof.Proof.Gen.NormReferenceIdeal.Launch
public import proofs.«01_k».proof.Proof.Gen.NormReferenceIdeal.Points
public import proofs.«01_k».proof.Proof.Gen.NormReferenceIdeal.Frame
public import proofs.«01_k».proof.Proof.Gen.NormReferenceIdeal.Value
public import proofs.«01_k».proof.Proof.Qkv
public import proofs.«01_k».proof.Proof.Down
public import proofs.«01_k».proof.Proof.GateUp
public import proofs.«01_k».proof.Proof.Norm
public import Idealize.ShloMosaic.Adequacy
public import Idealize.ShloMosaic.Init

@[expose] public section

open Idealize.ShloMosaic Idealize.SL.Sem

namespace Cert.Proof

theorem claim : Cert.Claim :=
  ⟨Cert.Kernel.Gen.facts,
   Cert.KernelIdeal.Gen.facts,
   Cert.ReferenceIdeal.Gen.facts,
   Cert.Down.Gen.facts,
   Cert.DownIdeal.Gen.facts,
   Cert.DownReferenceIdeal.Gen.facts,
   Cert.GateUp.Gen.facts,
   Cert.GateUpIdeal.Gen.facts,
   Cert.GateUpReferenceIdeal.Gen.facts,
   Cert.Norm.Gen.facts,
   Cert.NormIdeal.Gen.facts,
   Cert.NormReferenceIdeal.Gen.facts,
   fun m ρ _ => Cert.Kernel.Gen.frame m ρ,
   fun m ρ _ => Cert.KernelIdeal.Gen.frame m ρ,
   fun m ρ _ => Cert.ReferenceIdeal.Gen.frame m ρ,
   fun m ρ _ => Cert.Down.Gen.frame m ρ,
   fun m ρ _ => Cert.DownIdeal.Gen.frame m ρ,
   fun m ρ _ => Cert.DownReferenceIdeal.Gen.frame m ρ,
   fun m ρ _ => Cert.GateUp.Gen.frame m ρ,
   fun m ρ _ => Cert.GateUpIdeal.Gen.frame m ρ,
   fun m ρ _ => Cert.GateUpReferenceIdeal.Gen.frame m ρ,
   fun m ρ _ => Cert.Norm.Gen.frame m ρ,
   fun m ρ _ => Cert.NormIdeal.Gen.frame m ρ,
   fun m ρ _ => Cert.NormReferenceIdeal.Gen.frame m ρ,
   trivial, Cert.KernelIdeal.Own.algebraic,
   trivial, Cert.DownIdeal.Own.algebraic,
   trivial, Cert.GateUpIdeal.Own.algebraic,
   trivial, Cert.NormIdeal.Own.algebraic⟩

end Cert.Proof
